-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DyAmax (m : (ℓ : Loc Cert.DyAmax.nD Cert.DyAmax.τ Cert.DyAmax.sig) → Buf (Elt Bits) ℓ) : Prop :=
  True

def Pre_DyAmaxIdeal (m : (ℓ : Loc Cert.DyAmaxIdeal.nD Cert.DyAmaxIdeal.τ Cert.DyAmaxIdeal.sig) → Buf (Elt Ideal) ℓ) : Prop :=
  True

def Pre_DyAmaxRefIdeal (m : (ℓ : Loc Cert.DyAmaxRefIdeal.nD Cert.DyAmaxRefIdeal.τ Cert.DyAmaxRefIdeal.sig) → Buf (Elt Ideal) ℓ) : Prop :=
  True

def Pre_XAmax (m : (ℓ : Loc Cert.XAmax.nD Cert.XAmax.τ Cert.XAmax.sig) → Buf (Elt Bits) ℓ) : Prop :=
  True

def Pre_XAmaxIdeal (m : (ℓ : Loc Cert.XAmaxIdeal.nD Cert.XAmaxIdeal.τ Cert.XAmaxIdeal.sig) → Buf (Elt Ideal) ℓ) : Prop :=
  True

def Pre_XAmaxRefIdeal (m : (ℓ : Loc Cert.XAmaxRefIdeal.nD Cert.XAmaxRefIdeal.τ Cert.XAmaxRefIdeal.sig) → Buf (Elt Ideal) ℓ) : Prop :=
  True

def Pre_DyQuant (m : (ℓ : Loc Cert.DyQuant.nD Cert.DyQuant.τ Cert.DyQuant.sig) → Buf (Elt Bits) ℓ) : Prop :=
  True

def Pre_DyQuantIdeal (m : (ℓ : Loc Cert.DyQuantIdeal.nD Cert.DyQuantIdeal.τ Cert.DyQuantIdeal.sig) → Buf (Elt Ideal) ℓ) : Prop :=
  True

def Pre_DyQuantRefIdeal (m : (ℓ : Loc Cert.DyQuantRefIdeal.nD Cert.DyQuantRefIdeal.τ Cert.DyQuantRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DyAmax [hDyAmax : Cert.DyAmax.Facts] : Prop :=
  ∀ (m : (ℓ : Loc Cert.DyAmax.nD Cert.DyAmax.τ Cert.DyAmax.sig) → Buf (Elt Bits) ℓ) (g : Dev Cert.DyAmax.nD → PrngReg), Pre_DyAmax m →
    θ_run (Cert.DyAmax.defs (F := Bits)) (onTc (τ := Cert.DyAmax.τ) (Cert.DyAmax.main (F := Bits))) ⟨m, fun _ => 0, g⟩ (fun r => (∀ c : Dev Cert.DyAmax.nD,
      r.2.mem ((c.tc : Thread Cert.DyAmax.nD Cert.DyAmax.τ).loc Cert.DyAmax.main_arg0) = m ((c.tc : Thread Cert.DyAmax.nD Cert.DyAmax.τ).loc Cert.DyAmax.main_arg0)
      ∧ r.2.mem ((c.tc : Thread Cert.DyAmax.nD Cert.DyAmax.τ).loc Cert.DyAmax.main_arg1) = m ((c.tc : Thread Cert.DyAmax.nD Cert.DyAmax.τ).loc Cert.DyAmax.main_arg1))
      ∧ r.2.sem = fun _ => 0)

def quiescent_DyAmaxIdeal [hDyAmaxIdeal : Cert.DyAmaxIdeal.Facts] : Prop :=
  ∀ (m : (ℓ : Loc Cert.DyAmaxIdeal.nD Cert.DyAmaxIdeal.τ Cert.DyAmaxIdeal.sig) → Buf (Elt Ideal) ℓ) (g : Dev Cert.DyAmaxIdeal.nD → PrngReg), Pre_DyAmaxIdeal m →
    θ_run (Cert.DyAmaxIdeal.defs (F := Ideal)) (onTc (τ := Cert.DyAmaxIdeal.τ) (Cert.DyAmaxIdeal.main (F := Ideal))) ⟨m, fun _ => 0, g⟩ (fun r => (∀ c : Dev Cert.DyAmaxIdeal.nD,
      r.2.mem ((c.tc : Thread Cert.DyAmaxIdeal.nD Cert.DyAmaxIdeal.τ).loc Cert.DyAmaxIdeal.main_arg0) = m ((c.tc : Thread Cert.DyAmaxIdeal.nD Cert.DyAmaxIdeal.τ).loc Cert.DyAmaxIdeal.main_arg0)
      ∧ r.2.mem ((c.tc : Thread Cert.DyAmaxIdeal.nD Cert.DyAmaxIdeal.τ).loc Cert.DyAmaxIdeal.main_arg1) = m ((c.tc : Thread Cert.DyAmaxIdeal.nD Cert.DyAmaxIdeal.τ).loc Cert.DyAmaxIdeal.main_arg1))
      ∧ r.2.sem = fun _ => 0)

def quiescent_DyAmaxRefIdeal [hDyAmaxRefIdeal : Cert.DyAmaxRefIdeal.Facts] : Prop :=
  ∀ (m : (ℓ : Loc Cert.DyAmaxRefIdeal.nD Cert.DyAmaxRefIdeal.τ Cert.DyAmaxRefIdeal.sig) → Buf (Elt Ideal) ℓ) (g : Dev Cert.DyAmaxRefIdeal.nD → PrngReg), Pre_DyAmaxRefIdeal m →
    θ_run (Cert.DyAmaxRefIdeal.defs (F := Ideal)) (onTc (τ := Cert.DyAmaxRefIdeal.τ) (Cert.DyAmaxRefIdeal.main (F := Ideal))) ⟨m, fun _ => 0, g⟩ (fun r => (∀ c : Dev Cert.DyAmaxRefIdeal.nD,
      r.2.mem ((c.tc : Thread Cert.DyAmaxRefIdeal.nD Cert.DyAmaxRefIdeal.τ).loc Cert.DyAmaxRefIdeal.main_arg0) = m ((c.tc : Thread Cert.DyAmaxRefIdeal.nD Cert.DyAmaxRefIdeal.τ).loc Cert.DyAmaxRefIdeal.main_arg0)
      ∧ r.2.mem ((c.tc : Thread Cert.DyAmaxRefIdeal.nD Cert.DyAmaxRefIdeal.τ).loc Cert.DyAmaxRefIdeal.main_arg1) = m ((c.tc : Thread Cert.DyAmaxRefIdeal.nD Cert.DyAmaxRefIdeal.τ).loc Cert.DyAmaxRefIdeal.main_arg1))
      ∧ r.2.sem = fun _ => 0)

def quiescent_XAmax [hXAmax : Cert.XAmax.Facts] : Prop :=
  ∀ (m : (ℓ : Loc Cert.XAmax.nD Cert.XAmax.τ Cert.XAmax.sig) → Buf (Elt Bits) ℓ) (g : Dev Cert.XAmax.nD → PrngReg), Pre_XAmax m →
    θ_run (Cert.XAmax.defs (F := Bits)) (onTc (τ := Cert.XAmax.τ) (Cert.XAmax.main (F := Bits))) ⟨m, fun _ => 0, g⟩ (fun r => (∀ c : Dev Cert.XAmax.nD,
      r.2.mem ((c.tc : Thread Cert.XAmax.nD Cert.XAmax.τ).loc Cert.XAmax.main_arg0) = m ((c.tc : Thread Cert.XAmax.nD Cert.XAmax.τ).loc Cert.XAmax.main_arg0)
      ∧ r.2.mem ((c.tc : Thread Cert.XAmax.nD Cert.XAmax.τ).loc Cert.XAmax.main_arg1) = m ((c.tc : Thread Cert.XAmax.nD Cert.XAmax.τ).loc Cert.XAmax.main_arg1)
      ∧ r.2.mem ((c.tc : Thread Cert.XAmax.nD Cert.XAmax.τ).loc Cert.XAmax.main_arg2) = m ((c.tc : Thread Cert.XAmax.nD Cert.XAmax.τ).loc Cert.XAmax.main_arg2)
      ∧ r.2.mem ((c.tc : Thread Cert.XAmax.nD Cert.XAmax.τ).loc Cert.XAmax.main_arg3) = m ((c.tc : Thread Cert.XAmax.nD Cert.XAmax.τ).loc Cert.XAmax.main_arg3))
      ∧ r.2.sem = fun _ => 0)

def quiescent_XAmaxIdeal [hXAmaxIdeal : Cert.XAmaxIdeal.Facts] : Prop :=
  ∀ (m : (ℓ : Loc Cert.XAmaxIdeal.nD Cert.XAmaxIdeal.τ Cert.XAmaxIdeal.sig) → Buf (Elt Ideal) ℓ) (g : Dev Cert.XAmaxIdeal.nD → PrngReg), Pre_XAmaxIdeal m →
    θ_run (Cert.XAmaxIdeal.defs (F := Ideal)) (onTc (τ := Cert.XAmaxIdeal.τ) (Cert.XAmaxIdeal.main (F := Ideal))) ⟨m, fun _ => 0, g⟩ (fun r => (∀ c : Dev Cert.XAmaxIdeal.nD,
      r.2.mem ((c.tc : Thread Cert.XAmaxIdeal.nD Cert.XAmaxIdeal.τ).loc Cert.XAmaxIdeal.main_arg0) = m ((c.tc : Thread Cert.XAmaxIdeal.nD Cert.XAmaxIdeal.τ).loc Cert.XAmaxIdeal.main_arg0)
      ∧ r.2.mem ((c.tc : Thread Cert.XAmaxIdeal.nD Cert.XAmaxIdeal.τ).loc Cert.XAmaxIdeal.main_arg1) = m ((c.tc : Thread Cert.XAmaxIdeal.nD Cert.XAmaxIdeal.τ).loc Cert.XAmaxIdeal.main_arg1)
      ∧ r.2.mem ((c.tc : Thread Cert.XAmaxIdeal.nD Cert.XAmaxIdeal.τ).loc Cert.XAmaxIdeal.main_arg2) = m ((c.tc : Thread Cert.XAmaxIdeal.nD Cert.XAmaxIdeal.τ).loc Cert.XAmaxIdeal.main_arg2)
      ∧ r.2.mem ((c.tc : Thread Cert.XAmaxIdeal.nD Cert.XAmaxIdeal.τ).loc Cert.XAmaxIdeal.main_arg3) = m ((c.tc : Thread Cert.XAmaxIdeal.nD Cert.XAmaxIdeal.τ).loc Cert.XAmaxIdeal.main_arg3))
      ∧ r.2.sem = fun _ => 0)

def quiescent_XAmaxRefIdeal [hXAmaxRefIdeal : Cert.XAmaxRefIdeal.Facts] : Prop :=
  ∀ (m : (ℓ : Loc Cert.XAmaxRefIdeal.nD Cert.XAmaxRefIdeal.τ Cert.XAmaxRefIdeal.sig) → Buf (Elt Ideal) ℓ) (g : Dev Cert.XAmaxRefIdeal.nD → PrngReg), Pre_XAmaxRefIdeal m →
    θ_run (Cert.XAmaxRefIdeal.defs (F := Ideal)) (onTc (τ := Cert.XAmaxRefIdeal.τ) (Cert.XAmaxRefIdeal.main (F := Ideal))) ⟨m, fun _ => 0, g⟩ (fun r => (∀ c : Dev Cert.XAmaxRefIdeal.nD,
      r.2.mem ((c.tc : Thread Cert.XAmaxRefIdeal.nD Cert.XAmaxRefIdeal.τ).loc Cert.XAmaxRefIdeal.main_arg0) = m ((c.tc : Thread Cert.XAmaxRefIdeal.nD Cert.XAmaxRefIdeal.τ).loc Cert.XAmaxRefIdeal.main_arg0)
      ∧ r.2.mem ((c.tc : Thread Cert.XAmaxRefIdeal.nD Cert.XAmaxRefIdeal.τ).loc Cert.XAmaxRefIdeal.main_arg1) = m ((c.tc : Thread Cert.XAmaxRefIdeal.nD Cert.XAmaxRefIdeal.τ).loc Cert.XAmaxRefIdeal.main_arg1)
      ∧ r.2.mem ((c.tc : Thread Cert.XAmaxRefIdeal.nD Cert.XAmaxRefIdeal.τ).loc Cert.XAmaxRefIdeal.main_arg2) = m ((c.tc : Thread Cert.XAmaxRefIdeal.nD Cert.XAmaxRefIdeal.τ).loc Cert.XAmaxRefIdeal.main_arg2)
      ∧ r.2.mem ((c.tc : Thread Cert.XAmaxRefIdeal.nD Cert.XAmaxRefIdeal.τ).loc Cert.XAmaxRefIdeal.main_arg3) = m ((c.tc : Thread Cert.XAmaxRefIdeal.nD Cert.XAmaxRefIdeal.τ).loc Cert.XAmaxRefIdeal.main_arg3))
      ∧ r.2.sem = fun _ => 0)

def quiescent_DyQuant [hDyQuant : Cert.DyQuant.Facts] : Prop :=
  ∀ (m : (ℓ : Loc Cert.DyQuant.nD Cert.DyQuant.τ Cert.DyQuant.sig) → Buf (Elt Bits) ℓ) (g : Dev Cert.DyQuant.nD → PrngReg), Pre_DyQuant m →
    θ_run (Cert.DyQuant.defs (F := Bits)) (onTc (τ := Cert.DyQuant.τ) (Cert.DyQuant.main (F := Bits))) ⟨m, fun _ => 0, g⟩ (fun r => (∀ c : Dev Cert.DyQuant.nD,
      r.2.mem ((c.tc : Thread Cert.DyQuant.nD Cert.DyQuant.τ).loc Cert.DyQuant.main_arg0) = m ((c.tc : Thread Cert.DyQuant.nD Cert.DyQuant.τ).loc Cert.DyQuant.main_arg0)
      ∧ r.2.mem ((c.tc : Thread Cert.DyQuant.nD Cert.DyQuant.τ).loc Cert.DyQuant.main_arg1) = m ((c.tc : Thread Cert.DyQuant.nD Cert.DyQuant.τ).loc Cert.DyQuant.main_arg1)
      ∧ r.2.mem ((c.tc : Thread Cert.DyQuant.nD Cert.DyQuant.τ).loc Cert.DyQuant.main_arg2) = m ((c.tc : Thread Cert.DyQuant.nD Cert.DyQuant.τ).loc Cert.DyQuant.main_arg2)
      ∧ r.2.mem ((c.tc : Thread Cert.DyQuant.nD Cert.DyQuant.τ).loc Cert.DyQuant.main_arg3) = m ((c.tc : Thread Cert.DyQuant.nD Cert.DyQuant.τ).loc Cert.DyQuant.main_arg3))
      ∧ r.2.sem = fun _ => 0)

def quiescent_DyQuantIdeal [hDyQuantIdeal : Cert.DyQuantIdeal.Facts] : Prop :=
  ∀ (m : (ℓ : Loc Cert.DyQuantIdeal.nD Cert.DyQuantIdeal.τ Cert.DyQuantIdeal.sig) → Buf (Elt Ideal) ℓ) (g : Dev Cert.DyQuantIdeal.nD → PrngReg), Pre_DyQuantIdeal m →
    θ_run (Cert.DyQuantIdeal.defs (F := Ideal)) (onTc (τ := Cert.DyQuantIdeal.τ) (Cert.DyQuantIdeal.main (F := Ideal))) ⟨m, fun _ => 0, g⟩ (fun r => (∀ c : Dev Cert.DyQuantIdeal.nD,
      r.2.mem ((c.tc : Thread Cert.DyQuantIdeal.nD Cert.DyQuantIdeal.τ).loc Cert.DyQuantIdeal.main_arg0) = m ((c.tc : Thread Cert.DyQuantIdeal.nD Cert.DyQuantIdeal.τ).loc Cert.DyQuantIdeal.main_arg0)
      ∧ r.2.mem ((c.tc : Thread Cert.DyQuantIdeal.nD Cert.DyQuantIdeal.τ).loc Cert.DyQuantIdeal.main_arg1) = m ((c.tc : Thread Cert.DyQuantIdeal.nD Cert.DyQuantIdeal.τ).loc Cert.DyQuantIdeal.main_arg1)
      ∧ r.2.mem ((c.tc : Thread Cert.DyQuantIdeal.nD Cert.DyQuantIdeal.τ).loc Cert.DyQuantIdeal.main_arg2) = m ((c.tc : Thread Cert.DyQuantIdeal.nD Cert.DyQuantIdeal.τ).loc Cert.DyQuantIdeal.main_arg2)
      ∧ r.2.mem ((c.tc : Thread Cert.DyQuantIdeal.nD Cert.DyQuantIdeal.τ).loc Cert.DyQuantIdeal.main_arg3) = m ((c.tc : Thread Cert.DyQuantIdeal.nD Cert.DyQuantIdeal.τ).loc Cert.DyQuantIdeal.main_arg3))
      ∧ r.2.sem = fun _ => 0)

def quiescent_DyQuantRefIdeal [hDyQuantRefIdeal : Cert.DyQuantRefIdeal.Facts] : Prop :=
  ∀ (m : (ℓ : Loc Cert.DyQuantRefIdeal.nD Cert.DyQuantRefIdeal.τ Cert.DyQuantRefIdeal.sig) → Buf (Elt Ideal) ℓ) (g : Dev Cert.DyQuantRefIdeal.nD → PrngReg), Pre_DyQuantRefIdeal m →
    θ_run (Cert.DyQuantRefIdeal.defs (F := Ideal)) (onTc (τ := Cert.DyQuantRefIdeal.τ) (Cert.DyQuantRefIdeal.main (F := Ideal))) ⟨m, fun _ => 0, g⟩ (fun r => (∀ c : Dev Cert.DyQuantRefIdeal.nD,
      r.2.mem ((c.tc : Thread Cert.DyQuantRefIdeal.nD Cert.DyQuantRefIdeal.τ).loc Cert.DyQuantRefIdeal.main_arg0) = m ((c.tc : Thread Cert.DyQuantRefIdeal.nD Cert.DyQuantRefIdeal.τ).loc Cert.DyQuantRefIdeal.main_arg0)
      ∧ r.2.mem ((c.tc : Thread Cert.DyQuantRefIdeal.nD Cert.DyQuantRefIdeal.τ).loc Cert.DyQuantRefIdeal.main_arg1) = m ((c.tc : Thread Cert.DyQuantRefIdeal.nD Cert.DyQuantRefIdeal.τ).loc Cert.DyQuantRefIdeal.main_arg1)
      ∧ r.2.mem ((c.tc : Thread Cert.DyQuantRefIdeal.nD Cert.DyQuantRefIdeal.τ).loc Cert.DyQuantRefIdeal.main_arg2) = m ((c.tc : Thread Cert.DyQuantRefIdeal.nD Cert.DyQuantRefIdeal.τ).loc Cert.DyQuantRefIdeal.main_arg2)
      ∧ r.2.mem ((c.tc : Thread Cert.DyQuantRefIdeal.nD Cert.DyQuantRefIdeal.τ).loc Cert.DyQuantRefIdeal.main_arg3) = m ((c.tc : Thread Cert.DyQuantRefIdeal.nD Cert.DyQuantRefIdeal.τ).loc Cert.DyQuantRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DyAmax_DyAmaxIdeal : Prop :=
  True

def algebraic_DyAmaxIdeal_DyAmaxRefIdeal [hDyAmaxIdeal : Cert.DyAmaxIdeal.Facts] [hDyAmaxRefIdeal : Cert.DyAmaxRefIdeal.Facts] : Prop :=
  ∀ (m : (ℓ : Loc Cert.DyAmaxIdeal.nD Cert.DyAmaxIdeal.τ Cert.DyAmaxIdeal.sig) → Buf (Elt Ideal) ℓ) (g : Dev Cert.DyAmaxIdeal.nD → PrngReg)
    (m' : (ℓ : Loc Cert.DyAmaxRefIdeal.nD Cert.DyAmaxRefIdeal.τ Cert.DyAmaxRefIdeal.sig) → Buf (Elt Ideal) ℓ) (g' : Dev Cert.DyAmaxRefIdeal.nD → PrngReg), Pre_DyAmaxIdeal m →
    (∀ c : Dev Cert.DyAmaxIdeal.nD,
      m' ((c.tc : Thread Cert.DyAmaxRefIdeal.nD Cert.DyAmaxRefIdeal.τ).loc Cert.DyAmaxRefIdeal.main_arg0) = m ((c.tc : Thread Cert.DyAmaxIdeal.nD Cert.DyAmaxIdeal.τ).loc Cert.DyAmaxIdeal.main_arg0)
      ∧ m' ((c.tc : Thread Cert.DyAmaxRefIdeal.nD Cert.DyAmaxRefIdeal.τ).loc Cert.DyAmaxRefIdeal.main_arg1) = m ((c.tc : Thread Cert.DyAmaxIdeal.nD Cert.DyAmaxIdeal.τ).loc Cert.DyAmaxIdeal.main_arg1)) →
    ∃ (v0 : (c : Dev Cert.DyAmaxIdeal.nD) → Buf (Elt Ideal) ((c.tc : Thread Cert.DyAmaxIdeal.nD Cert.DyAmaxIdeal.τ).loc Cert.DyAmaxIdeal.main_v6)),
      θ_run (Cert.DyAmaxIdeal.defs (F := Ideal)) (onTc (τ := Cert.DyAmaxIdeal.τ) (Cert.DyAmaxIdeal.main (F := Ideal))) ⟨m, fun _ => 0, g⟩ (fun r => ∀ c : Dev Cert.DyAmaxIdeal.nD,
          r.2.mem ((c.tc : Thread Cert.DyAmaxIdeal.nD Cert.DyAmaxIdeal.τ).loc Cert.DyAmaxIdeal.main_v6) = v0 c
          ∧ r.2.mem ((c.tc : Thread Cert.DyAmaxIdeal.nD Cert.DyAmaxIdeal.τ).loc Cert.DyAmaxIdeal.main_arg0) = m ((c.tc : Thread Cert.DyAmaxIdeal.nD Cert.DyAmaxIdeal.τ).loc Cert.DyAmaxIdeal.main_arg0)
          ∧ r.2.mem ((c.tc : Thread Cert.DyAmaxIdeal.nD Cert.DyAmaxIdeal.τ).loc Cert.DyAmaxIdeal.main_arg1) = m ((c.tc : Thread Cert.DyAmaxIdeal.nD Cert.DyAmaxIdeal.τ).loc Cert.DyAmaxIdeal.main_arg1))
      ∧ θ_run (Cert.DyAmaxRefIdeal.defs (F := Ideal)) (onTc (τ := Cert.DyAmaxRefIdeal.τ) (Cert.DyAmaxRefIdeal.main (F := Ideal))) ⟨m', fun _ => 0, g'⟩ (fun r => ∀ c : Dev Cert.DyAmaxRefIdeal.nD,
          r.2.mem ((c.tc : Thread Cert.DyAmaxRefIdeal.nD Cert.DyAmaxRefIdeal.τ).loc Cert.DyAmaxRefIdeal.main_v29) = v0 c
          ∧ r.2.mem ((c.tc : Thread Cert.DyAmaxRefIdeal.nD Cert.DyAmaxRefIdeal.τ).loc Cert.DyAmaxRefIdeal.main_arg0) = m' ((c.tc : Thread Cert.DyAmaxRefIdeal.nD Cert.DyAmaxRefIdeal.τ).loc Cert.DyAmaxRefIdeal.main_arg0)
          ∧ r.2.mem ((c.tc : Thread Cert.DyAmaxRefIdeal.nD Cert.DyAmaxRefIdeal.τ).loc Cert.DyAmaxRefIdeal.main_arg1) = m' ((c.tc : Thread Cert.DyAmaxRefIdeal.nD Cert.DyAmaxRefIdeal.τ).loc Cert.DyAmaxRefIdeal.main_arg1))

def preserves_XAmax_XAmaxIdeal : Prop :=
  True

def algebraic_XAmaxIdeal_XAmaxRefIdeal [hXAmaxIdeal : Cert.XAmaxIdeal.Facts] [hXAmaxRefIdeal : Cert.XAmaxRefIdeal.Facts] : Prop :=
  ∀ (m : (ℓ : Loc Cert.XAmaxIdeal.nD Cert.XAmaxIdeal.τ Cert.XAmaxIdeal.sig) → Buf (Elt Ideal) ℓ) (g : Dev Cert.XAmaxIdeal.nD → PrngReg)
    (m' : (ℓ : Loc Cert.XAmaxRefIdeal.nD Cert.XAmaxRefIdeal.τ Cert.XAmaxRefIdeal.sig) → Buf (Elt Ideal) ℓ) (g' : Dev Cert.XAmaxRefIdeal.nD → PrngReg), Pre_XAmaxIdeal m →
    (∀ c : Dev Cert.XAmaxIdeal.nD,
      m' ((c.tc : Thread Cert.XAmaxRefIdeal.nD Cert.XAmaxRefIdeal.τ).loc Cert.XAmaxRefIdeal.main_arg0) = m ((c.tc : Thread Cert.XAmaxIdeal.nD Cert.XAmaxIdeal.τ).loc Cert.XAmaxIdeal.main_arg0)
      ∧ m' ((c.tc : Thread Cert.XAmaxRefIdeal.nD Cert.XAmaxRefIdeal.τ).loc Cert.XAmaxRefIdeal.main_arg1) = m ((c.tc : Thread Cert.XAmaxIdeal.nD Cert.XAmaxIdeal.τ).loc Cert.XAmaxIdeal.main_arg1)
      ∧ m' ((c.tc : Thread Cert.XAmaxRefIdeal.nD Cert.XAmaxRefIdeal.τ).loc Cert.XAmaxRefIdeal.main_arg2) = m ((c.tc : Thread Cert.XAmaxIdeal.nD Cert.XAmaxIdeal.τ).loc Cert.XAmaxIdeal.main_arg2)
      ∧ m' ((c.tc : Thread Cert.XAmaxRefIdeal.nD Cert.XAmaxRefIdeal.τ).loc Cert.XAmaxRefIdeal.main_arg3) = m ((c.tc : Thread Cert.XAmaxIdeal.nD Cert.XAmaxIdeal.τ).loc Cert.XAmaxIdeal.main_arg3)) →
    ∃ (v0 : (c : Dev Cert.XAmaxIdeal.nD) → Buf (Elt Ideal) ((c.tc : Thread Cert.XAmaxIdeal.nD Cert.XAmaxIdeal.τ).loc Cert.XAmaxIdeal.main_v7)),
      θ_run (Cert.XAmaxIdeal.defs (F := Ideal)) (onTc (τ := Cert.XAmaxIdeal.τ) (Cert.XAmaxIdeal.main (F := Ideal))) ⟨m, fun _ => 0, g⟩ (fun r => ∀ c : Dev Cert.XAmaxIdeal.nD,
          r.2.mem ((c.tc : Thread Cert.XAmaxIdeal.nD Cert.XAmaxIdeal.τ).loc Cert.XAmaxIdeal.main_v7) = v0 c
          ∧ r.2.mem ((c.tc : Thread Cert.XAmaxIdeal.nD Cert.XAmaxIdeal.τ).loc Cert.XAmaxIdeal.main_arg0) = m ((c.tc : Thread Cert.XAmaxIdeal.nD Cert.XAmaxIdeal.τ).loc Cert.XAmaxIdeal.main_arg0)
          ∧ r.2.mem ((c.tc : Thread Cert.XAmaxIdeal.nD Cert.XAmaxIdeal.τ).loc Cert.XAmaxIdeal.main_arg1) = m ((c.tc : Thread Cert.XAmaxIdeal.nD Cert.XAmaxIdeal.τ).loc Cert.XAmaxIdeal.main_arg1)
          ∧ r.2.mem ((c.tc : Thread Cert.XAmaxIdeal.nD Cert.XAmaxIdeal.τ).loc Cert.XAmaxIdeal.main_arg2) = m ((c.tc : Thread Cert.XAmaxIdeal.nD Cert.XAmaxIdeal.τ).loc Cert.XAmaxIdeal.main_arg2)
          ∧ r.2.mem ((c.tc : Thread Cert.XAmaxIdeal.nD Cert.XAmaxIdeal.τ).loc Cert.XAmaxIdeal.main_arg3) = m ((c.tc : Thread Cert.XAmaxIdeal.nD Cert.XAmaxIdeal.τ).loc Cert.XAmaxIdeal.main_arg3))
      ∧ θ_run (Cert.XAmaxRefIdeal.defs (F := Ideal)) (onTc (τ := Cert.XAmaxRefIdeal.τ) (Cert.XAmaxRefIdeal.main (F := Ideal))) ⟨m', fun _ => 0, g'⟩ (fun r => ∀ c : Dev Cert.XAmaxRefIdeal.nD,
          r.2.mem ((c.tc : Thread Cert.XAmaxRefIdeal.nD Cert.XAmaxRefIdeal.τ).loc Cert.XAmaxRefIdeal.main_v96) = v0 c
          ∧ r.2.mem ((c.tc : Thread Cert.XAmaxRefIdeal.nD Cert.XAmaxRefIdeal.τ).loc Cert.XAmaxRefIdeal.main_arg0) = m' ((c.tc : Thread Cert.XAmaxRefIdeal.nD Cert.XAmaxRefIdeal.τ).loc Cert.XAmaxRefIdeal.main_arg0)
          ∧ r.2.mem ((c.tc : Thread Cert.XAmaxRefIdeal.nD Cert.XAmaxRefIdeal.τ).loc Cert.XAmaxRefIdeal.main_arg1) = m' ((c.tc : Thread Cert.XAmaxRefIdeal.nD Cert.XAmaxRefIdeal.τ).loc Cert.XAmaxRefIdeal.main_arg1)
          ∧ r.2.mem ((c.tc : Thread Cert.XAmaxRefIdeal.nD Cert.XAmaxRefIdeal.τ).loc Cert.XAmaxRefIdeal.main_arg2) = m' ((c.tc : Thread Cert.XAmaxRefIdeal.nD Cert.XAmaxRefIdeal.τ).loc Cert.XAmaxRefIdeal.main_arg2)
          ∧ r.2.mem ((c.tc : Thread Cert.XAmaxRefIdeal.nD Cert.XAmaxRefIdeal.τ).loc Cert.XAmaxRefIdeal.main_arg3) = m' ((c.tc : Thread Cert.XAmaxRefIdeal.nD Cert.XAmaxRefIdeal.τ).loc Cert.XAmaxRefIdeal.main_arg3))

def preserves_DyQuant_DyQuantIdeal : Prop :=
  True

def algebraic_DyQuantIdeal_DyQuantRefIdeal [hDyQuantIdeal : Cert.DyQuantIdeal.Facts] [hDyQuantRefIdeal : Cert.DyQuantRefIdeal.Facts] : Prop :=
  ∀ (m : (ℓ : Loc Cert.DyQuantIdeal.nD Cert.DyQuantIdeal.τ Cert.DyQuantIdeal.sig) → Buf (Elt Ideal) ℓ) (g : Dev Cert.DyQuantIdeal.nD → PrngReg)
    (m' : (ℓ : Loc Cert.DyQuantRefIdeal.nD Cert.DyQuantRefIdeal.τ Cert.DyQuantRefIdeal.sig) → Buf (Elt Ideal) ℓ) (g' : Dev Cert.DyQuantRefIdeal.nD → PrngReg), Pre_DyQuantIdeal m →
    (∀ c : Dev Cert.DyQuantIdeal.nD,
      m' ((c.tc : Thread Cert.DyQuantRefIdeal.nD Cert.DyQuantRefIdeal.τ).loc Cert.DyQuantRefIdeal.main_arg0) = m ((c.tc : Thread Cert.DyQuantIdeal.nD Cert.DyQuantIdeal.τ).loc Cert.DyQuantIdeal.main_arg0)
      ∧ m' ((c.tc : Thread Cert.DyQuantRefIdeal.nD Cert.DyQuantRefIdeal.τ).loc Cert.DyQuantRefIdeal.main_arg1) = m ((c.tc : Thread Cert.DyQuantIdeal.nD Cert.DyQuantIdeal.τ).loc Cert.DyQuantIdeal.main_arg1)
      ∧ m' ((c.tc : Thread Cert.DyQuantRefIdeal.nD Cert.DyQuantRefIdeal.τ).loc Cert.DyQuantRefIdeal.main_arg2) = m ((c.tc : Thread Cert.DyQuantIdeal.nD Cert.DyQuantIdeal.τ).loc Cert.DyQuantIdeal.main_arg2)
      ∧ m' ((c.tc : Thread Cert.DyQuantRefIdeal.nD Cert.DyQuantRefIdeal.τ).loc Cert.DyQuantRefIdeal.main_arg3) = m ((c.tc : Thread Cert.DyQuantIdeal.nD Cert.DyQuantIdeal.τ).loc Cert.DyQuantIdeal.main_arg3)) →
    ∃ (v0 : (c : Dev Cert.DyQuantIdeal.nD) → Buf (Elt Ideal) ((c.tc : Thread Cert.DyQuantIdeal.nD Cert.DyQuantIdeal.τ).loc Cert.DyQuantIdeal.main_v3_1)),
      θ_run (Cert.DyQuantIdeal.defs (F := Ideal)) (onTc (τ := Cert.DyQuantIdeal.τ) (Cert.DyQuantIdeal.main (F := Ideal))) ⟨m, fun _ => 0, g⟩ (fun r => ∀ c : Dev Cert.DyQuantIdeal.nD,
          r.2.mem ((c.tc : Thread Cert.DyQuantIdeal.nD Cert.DyQuantIdeal.τ).loc Cert.DyQuantIdeal.main_v3_1) = v0 c
          ∧ r.2.mem ((c.tc : Thread Cert.DyQuantIdeal.nD Cert.DyQuantIdeal.τ).loc Cert.DyQuantIdeal.main_arg0) = m ((c.tc : Thread Cert.DyQuantIdeal.nD Cert.DyQuantIdeal.τ).loc Cert.DyQuantIdeal.main_arg0)
          ∧ r.2.mem ((c.tc : Thread Cert.DyQuantIdeal.nD Cert.DyQuantIdeal.τ).loc Cert.DyQuantIdeal.main_arg1) = m ((c.tc : Thread Cert.DyQuantIdeal.nD Cert.DyQuantIdeal.τ).loc Cert.DyQuantIdeal.main_arg1)
          ∧ r.2.mem ((c.tc : Thread Cert.DyQuantIdeal.nD Cert.DyQuantIdeal.τ).loc Cert.DyQuantIdeal.main_arg2) = m ((c.tc : Thread Cert.DyQuantIdeal.nD Cert.DyQuantIdeal.τ).loc Cert.DyQuantIdeal.main_arg2)
          ∧ r.2.mem ((c.tc : Thread Cert.DyQuantIdeal.nD Cert.DyQuantIdeal.τ).loc Cert.DyQuantIdeal.main_arg3) = m ((c.tc : Thread Cert.DyQuantIdeal.nD Cert.DyQuantIdeal.τ).loc Cert.DyQuantIdeal.main_arg3))
      ∧ θ_run (Cert.DyQuantRefIdeal.defs (F := Ideal)) (onTc (τ := Cert.DyQuantRefIdeal.τ) (Cert.DyQuantRefIdeal.main (F := Ideal))) ⟨m', fun _ => 0, g'⟩ (fun r => ∀ c : Dev Cert.DyQuantRefIdeal.nD,
          r.2.mem ((c.tc : Thread Cert.DyQuantRefIdeal.nD Cert.DyQuantRefIdeal.τ).loc Cert.DyQuantRefIdeal.main_v31) = v0 c
          ∧ r.2.mem ((c.tc : Thread Cert.DyQuantRefIdeal.nD Cert.DyQuantRefIdeal.τ).loc Cert.DyQuantRefIdeal.main_arg0) = m' ((c.tc : Thread Cert.DyQuantRefIdeal.nD Cert.DyQuantRefIdeal.τ).loc Cert.DyQuantRefIdeal.main_arg0)
          ∧ r.2.mem ((c.tc : Thread Cert.DyQuantRefIdeal.nD Cert.DyQuantRefIdeal.τ).loc Cert.DyQuantRefIdeal.main_arg1) = m' ((c.tc : Thread Cert.DyQuantRefIdeal.nD Cert.DyQuantRefIdeal.τ).loc Cert.DyQuantRefIdeal.main_arg1)
          ∧ r.2.mem ((c.tc : Thread Cert.DyQuantRefIdeal.nD Cert.DyQuantRefIdeal.τ).loc Cert.DyQuantRefIdeal.main_arg2) = m' ((c.tc : Thread Cert.DyQuantRefIdeal.nD Cert.DyQuantRefIdeal.τ).loc Cert.DyQuantRefIdeal.main_arg2)
          ∧ r.2.mem ((c.tc : Thread Cert.DyQuantRefIdeal.nD Cert.DyQuantRefIdeal.τ).loc Cert.DyQuantRefIdeal.main_arg3) = m' ((c.tc : Thread Cert.DyQuantRefIdeal.nD Cert.DyQuantRefIdeal.τ).loc Cert.DyQuantRefIdeal.main_arg3))

def Claim : Prop :=
  ∃ (hKernel : Cert.Kernel.Facts) (hKernelIdeal : Cert.KernelIdeal.Facts) (hReferenceIdeal : Cert.ReferenceIdeal.Facts) (hDyAmax : Cert.DyAmax.Facts) (hDyAmaxIdeal : Cert.DyAmaxIdeal.Facts) (hDyAmaxRefIdeal : Cert.DyAmaxRefIdeal.Facts) (hXAmax : Cert.XAmax.Facts) (hXAmaxIdeal : Cert.XAmaxIdeal.Facts) (hXAmaxRefIdeal : Cert.XAmaxRefIdeal.Facts) (hDyQuant : Cert.DyQuant.Facts) (hDyQuantIdeal : Cert.DyQuantIdeal.Facts) (hDyQuantRefIdeal : Cert.DyQuantRefIdeal.Facts),
    quiescent_Kernel (hKernel := hKernel)
    ∧ quiescent_KernelIdeal (hKernelIdeal := hKernelIdeal)
    ∧ quiescent_ReferenceIdeal (hReferenceIdeal := hReferenceIdeal)
    ∧ quiescent_DyAmax (hDyAmax := hDyAmax)
    ∧ quiescent_DyAmaxIdeal (hDyAmaxIdeal := hDyAmaxIdeal)
    ∧ quiescent_DyAmaxRefIdeal (hDyAmaxRefIdeal := hDyAmaxRefIdeal)
    ∧ quiescent_XAmax (hXAmax := hXAmax)
    ∧ quiescent_XAmaxIdeal (hXAmaxIdeal := hXAmaxIdeal)
    ∧ quiescent_XAmaxRefIdeal (hXAmaxRefIdeal := hXAmaxRefIdeal)
    ∧ quiescent_DyQuant (hDyQuant := hDyQuant)
    ∧ quiescent_DyQuantIdeal (hDyQuantIdeal := hDyQuantIdeal)
    ∧ quiescent_DyQuantRefIdeal (hDyQuantRefIdeal := hDyQuantRefIdeal)
    ∧ preserves_Kernel_KernelIdeal
    ∧ algebraic_KernelIdeal_ReferenceIdeal (hKernelIdeal := hKernelIdeal) (hReferenceIdeal := hReferenceIdeal)
    ∧ preserves_DyAmax_DyAmaxIdeal
    ∧ algebraic_DyAmaxIdeal_DyAmaxRefIdeal (hDyAmaxIdeal := hDyAmaxIdeal) (hDyAmaxRefIdeal := hDyAmaxRefIdeal)
    ∧ preserves_XAmax_XAmaxIdeal
    ∧ algebraic_XAmaxIdeal_XAmaxRefIdeal (hXAmaxIdeal := hXAmaxIdeal) (hXAmaxRefIdeal := hXAmaxRefIdeal)
    ∧ preserves_DyQuant_DyQuantIdeal
    ∧ algebraic_DyQuantIdeal_DyQuantRefIdeal (hDyQuantIdeal := hDyQuantIdeal) (hDyQuantRefIdeal := hDyQuantRefIdeal)
-- ==== Kernel.lean ====
abbrev S8x128 : Shape := ⟨2, ![8, 128]⟩
abbrev S13824x14336 : Shape := ⟨2, ![13824, 14336]⟩
abbrev S13824x4096 : Shape := ⟨2, ![13824, 4096]⟩
abbrev S14336x4096 : Shape := ⟨2, ![14336, 4096]⟩
abbrev S512x1024 : Shape := ⟨2, ![512, 1024]⟩
abbrev S512x2048 : Shape := ⟨2, ![512, 2048]⟩
abbrev S1024x2048 : Shape := ⟨2, ![1024, 2048]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S13824x14336, .bf16⟩
  | .hbm, ⟨3, _⟩ => ⟨S13824x4096, .bf16⟩
  | .hbm, ⟨4, _⟩ => ⟨S14336x4096, .f32⟩
  | .local _ .vmem, ⟨0, _⟩ => ⟨S8x128, .f32⟩
  | .local _ .vmem, ⟨1, _⟩ => ⟨S8x128, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S1024x2048, .f32⟩
  | .local _ .vmem, ⟨7, _⟩ => ⟨S1024x2048, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![14, 2, 27], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S8x128 : Shape := ⟨2, ![8, 128]⟩
abbrev S13824x14336 : Shape := ⟨2, ![13824, 14336]⟩
abbrev S13824x4096 : Shape := ⟨2, ![13824, 4096]⟩
abbrev S14336x4096 : Shape := ⟨2, ![14336, 4096]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S13824x14336, .bf16⟩
  | .hbm, ⟨3, _⟩ => ⟨S13824x4096, .bf16⟩
  | .hbm, ⟨4, _⟩ => ⟨S14336x4096, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S14336x4096, .f32⟩
  | .hbm, ⟨11, _⟩ => ⟨S14336x4096, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DyAmax.lean ====
abbrev S6x2304x14336 : Shape := ⟨3, ![6, 2304, 14336]⟩
abbrev S16 : Shape := ⟨1, ![16]⟩
abbrev S1x16 : Shape := ⟨2, ![1, 16]⟩
abbrev S16x16 : Shape := ⟨2, ![16, 16]⟩
abbrev S256 : Shape := ⟨1, ![256]⟩
abbrev S1x256 : Shape := ⟨2, ![1, 256]⟩
abbrev S8x256 : Shape := ⟨2, ![8, 256]⟩
abbrev S13824x14336 : Shape := ⟨2, ![13824, 14336]⟩
abbrev S8x128 : Shape := ⟨2, ![8, 128]⟩
abbrev S768x2048 : Shape := ⟨2, ![768, 2048]⟩
abbrev S256x256 : Shape := ⟨2, ![256, 256]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 9
  | .vmem => 5
  | .smem => 0
  | _ => 0

abbrev bufTy : (tb : Table) → Fin (tcTables nBuf tb) → BufTy
  | .hbm, ⟨0, _⟩ => ⟨S6x2304x14336, .bf16⟩
  | .hbm, ⟨1, _⟩ => ⟨S16, .f32⟩
  | .hbm, ⟨2, _⟩ => ⟨S1x16, .f32⟩
  | .hbm, ⟨3, _⟩ => ⟨S16x16, .f32⟩
  | .hbm, ⟨4, _⟩ => ⟨S256, .f32⟩
  | .hbm, ⟨5, _⟩ => ⟨S1x256, .f32⟩
  | .hbm, ⟨6, _⟩ => ⟨S8x256, .f32⟩
  | .hbm, ⟨7, _⟩ => ⟨S13824x14336, .bf16⟩
  | .hbm, ⟨8, _⟩ => ⟨S8x128, .f32⟩
  | .local _ .vmem, ⟨0, _⟩ => ⟨S8x256, .f32⟩
  | .local _ .vmem, ⟨1, _⟩ => ⟨S768x2048, .bf16⟩
  | .local _ .vmem, ⟨2, _⟩ => ⟨S768x2048, .bf16⟩
  | .local _ .vmem, ⟨3, _⟩ => ⟨S8x128, .f32⟩
  | .local _ .vmem, ⟨4, _⟩ => ⟨S8x128, .f32⟩
  | _, _ => ⟨S6x2304x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![7, 18], ![false, false]⟩

def k0_cond2 (i : grid0.Coords) : BitVec 1 :=
  let arg0 : BitVec 32 := BitVec.ofNat 32 (i 0).val
  let c18_i32 : BitVec 32 := 18#32
  let v0 : BitVec 32 := Scalar.muli arg0 c18_i32
  let arg1 : BitVec 32 := BitVec.ofNat 32 (i 1).val
  let v1 : BitVec 32 := Scalar.addi v0 arg1
  let c125_i32 : BitVec 32 := 125#32
  let v3209 : BitVec 1 := Scalar.cmpi .eq v1 c125_i32
  let v3210 : BitVec 32 := Scalar.extui v3209
  let c0_i32_77 : BitVec 32 := 0#32
  let v3211 : BitVec 1 := Scalar.cmpi .ne v3210 c0_i32_77
  v3211

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DyAmaxRefIdeal.lean ====
abbrev S6x2304x14336 : Shape := ⟨3, ![6, 2304, 14336]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S6x144x16x14336 : Shape := ⟨4, ![6, 144, 16, 14336]⟩
abbrev S6x144x14336x16 : Shape := ⟨4, ![6, 144, 14336, 16]⟩
abbrev S8x128 : Shape := ⟨2, ![8, 128]⟩

abbrev nBuf : Space → Nat
  | .hbm => 41
  | .vmem => 0
  | .smem => 0
  | _ => 0

abbrev bufTy : (tb : Table) → Fin (tcTables nBuf tb) → BufTy
  | .hbm, ⟨0, _⟩ => ⟨S6x2304x14336, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .f32⟩
  | .hbm, ⟨19, _⟩ => ⟨S1x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S6x2304x14336, .f32⟩
  | .hbm, ⟨26, _⟩ => ⟨S6x144x16x14336, .f32⟩
  | .hbm, ⟨27, _⟩ => ⟨S6x144x14336x16, .f32⟩
  | .hbm, ⟨28, _⟩ => ⟨S6x144x16x14336, .f32⟩
  | .hbm, ⟨29, _⟩ => ⟨S6x2304x14336, .f32⟩
  | .hbm, ⟨30, _⟩ => ⟨S6x2304x14336, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x128, .f32⟩
  | _, _ => ⟨S6x2304x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_call0_v0 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== XAmax.lean ====
abbrev S6x2304x2048 : Shape := ⟨3, ![6, 2304, 2048]⟩
abbrev S6x2304x256 : Shape := ⟨3, ![6, 2304, 256]⟩
abbrev S1 : Shape := ⟨1, ![1]⟩
abbrev S16 : Shape := ⟨1, ![16]⟩
abbrev S1x16 : Shape := ⟨2, ![1, 16]⟩
abbrev S16x16 : Shape := ⟨2, ![16, 16]⟩
abbrev S256 : Shape := ⟨1, ![256]⟩
abbrev S1x256 : Shape := ⟨2, ![1, 256]⟩
abbrev S8x256 : Shape := ⟨2, ![8, 256]⟩
abbrev S13824x2048 : Shape := ⟨2, ![13824, 2048]⟩
abbrev S13824x256 : Shape := ⟨2, ![13824, 256]⟩
abbrev S8x128 : Shape := ⟨2, ![8, 128]⟩
abbrev S256x1024 : Shape := ⟨2, ![256, 1024]⟩
abbrev S256x128 : Shape := ⟨2, ![256, 128]⟩
abbrev S256x256 : Shape := ⟨2, ![256, 256]⟩
abbrev S64x128 : Shape := ⟨2, ![64, 128]⟩
abbrev S32x128 : Shape := ⟨2, ![32, 128]⟩
abbrev S8x128x1 : Shape := ⟨3, ![8, 128, 1]⟩
abbrev S32x128x1 : Shape := ⟨3, ![32, 128, 1]⟩
abbrev S1x8x128 : Shape := ⟨3, ![1, 8, 128]⟩
abbrev S1x1x1 : Shape := ⟨3, ![1, 1, 1]⟩
abbrev S1x1 : Shape := ⟨2, ![1, 1]⟩

abbrev nBuf : Space → Nat
  | .hbm => 12
  | .vmem => 7
  | .smem => 1
  | _ => 0

abbrev bufTy : (tb : Table) → Fin (tcTables nBuf tb) → BufTy
  | .hbm, ⟨0, _⟩ => ⟨S6x2304x2048, .i8⟩
  | .hbm, ⟨1, _⟩ => ⟨S6x2304x256, .fp8e4m3⟩
  | .hbm, ⟨2, _⟩ => ⟨S1, .f32⟩
  | .hbm, ⟨3, _⟩ => ⟨S16, .f32⟩
  | .hbm, ⟨4, _⟩ => ⟨S1x16, .f32⟩
  | .hbm, ⟨5, _⟩ => ⟨S16x16, .f32⟩
  | .hbm, ⟨6, _⟩ => ⟨S256, .f32⟩
  | .hbm, ⟨7, _⟩ => ⟨S1x256, .f32⟩
  | .hbm, ⟨8, _⟩ => ⟨S8x256, .f32⟩
  | .hbm, ⟨9, _⟩ => ⟨S13824x2048, .i8⟩
  | .hbm, ⟨10, _⟩ => ⟨S13824x256, .fp8e4m3⟩
  | .hbm, ⟨11, _⟩ => ⟨S8x128, .f32⟩
  | .local _ .vmem, ⟨0, _⟩ => ⟨S8x256, .f32⟩
  | .local _ .vmem, ⟨1, _⟩ => ⟨S256x1024, .i8⟩
  | .local _ .vmem, ⟨2, _⟩ => ⟨S256x1024, .i8⟩
  | .local _ .vmem, ⟨3, _⟩ => ⟨S256x128, .fp8e4m3⟩
  | .local _ .vmem, ⟨4, _⟩ => ⟨S256x128, .fp8e4m3⟩
  | .local _ .vmem, ⟨5, _⟩ => ⟨S8x128, .f32⟩
  | .local _ .vmem, ⟨6, _⟩ => ⟨S8x128, .f32⟩
  | .local _ .smem, ⟨0, _⟩ => ⟨S1, .f32⟩
  | _, _ => ⟨S6x2304x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![2, 54], ![false, false]⟩

def k0_cond2 (i : grid0.Coords) : BitVec 1 :=
  let arg0 : BitVec 32 := BitVec.ofNat 32 (i 0).val
  let c54_i32 : BitVec 32 := 54#32
  let v0 : BitVec 32 := Scalar.muli arg0 c54_i32
  let arg1 : BitVec 32 := BitVec.ofNat 32 (i 1).val
  let v1 : BitVec 32 := Scalar.addi v0 arg1
  let c107_i32 : BitVec 32 := 107#32
  let v6225 : BitVec 1 := Scalar.cmpi .eq v1 c107_i32
  let v6226 : BitVec 32 := Scalar.extui v6225
  let c0_i32_1531 : BitVec 32 := 0#32
  let v6227 : BitVec 1 := Scalar.cmpi .ne v6226 c0_i32_1531
  v6227

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== XAmaxRefIdeal.lean ====
abbrev S6x2304x2048 : Shape := ⟨3, ![6, 2304, 2048]⟩
abbrev S6x2304x256 : Shape := ⟨3, ![6, 2304, 256]⟩
abbrev S1 : Shape := ⟨1, ![1]⟩
abbrev S16 : Shape := ⟨1, ![16]⟩
abbrev S_ : Shape := ⟨0, ![]⟩
abbrev S6x2304x2048x1 : Shape := ⟨4, ![6, 2304, 2048, 1]⟩
abbrev S6x2304x2048x2 : Shape := ⟨4, ![6, 2304, 2048, 2]⟩
abbrev S6x2304x256x8x2 : Shape := ⟨5, ![6, 2304, 256, 8, 2]⟩
abbrev S6x2304x256x1x1 : Shape := ⟨5, ![6, 2304, 256, 1, 1]⟩
abbrev S1x1x1x1x1 : Shape := ⟨5, ![1, 1, 1, 1, 1]⟩
abbrev S6x2304x4096 : Shape := ⟨3, ![6, 2304, 4096]⟩
abbrev S16x1 : Shape := ⟨2, ![16, 1]⟩
abbrev S1x16 : Shape := ⟨2, ![1, 16]⟩
abbrev S16x16 : Shape := ⟨2, ![16, 16]⟩
abbrev S6x144x16x4096 : Shape := ⟨4, ![6, 144, 16, 4096]⟩
abbrev S6x144x4096x16 : Shape := ⟨4, ![6, 144, 4096, 16]⟩
abbrev S8x128 : Shape := ⟨2, ![8, 128]⟩

abbrev nBuf : Space → Nat
  | .hbm => 160
  | .vmem => 2
  | .smem => 0
  | _ => 0

abbrev hbmTy0_0 (i : Nat) : BufTy := match i % 128 with
  | 0 => ⟨S6x2304x2048, .i8⟩
  | 1 => ⟨S6x2304x256, .fp8e4m3⟩
  | 2 => ⟨S1, .f32⟩
  | 3 => ⟨S16, .f32⟩
  | 4 => ⟨S6x2304x256, .f32⟩
  | 5 => ⟨S6x2304x2048, .i32⟩
  | 6 => ⟨S_, .i32⟩
  | 7 => ⟨S6x2304x2048, .i32⟩
  | 8 => ⟨S6x2304x2048, .i32⟩
  | 9 => ⟨S_, .i32⟩
  | 10 => ⟨S6x2304x2048, .i32⟩
  | 11 => ⟨S6x2304x2048, .i32⟩
  | 12 => ⟨S_, .i32⟩
  | 13 => ⟨S6x2304x2048, .i32⟩
  | 14 => ⟨S6x2304x2048, .i1⟩
  | 15 => ⟨S_, .i32⟩
  | 16 => ⟨S6x2304x2048, .i32⟩
  | 17 => ⟨S6x2304x2048, .i32⟩
  | 18 => ⟨S_, .i32⟩
  | 19 => ⟨S6x2304x2048, .i32⟩
  | 20 => ⟨S6x2304x2048, .i1⟩
  | 21 => ⟨S_, .i32⟩
  | 22 => ⟨S6x2304x2048, .i32⟩
  | 23 => ⟨S6x2304x2048, .i32⟩
  | 24 => ⟨S_, .i32⟩
  | 25 => ⟨S6x2304x2048, .i32⟩
  | 26 => ⟨S6x2304x2048, .i1⟩
  | 27 => ⟨S_, .i32⟩
  | 28 => ⟨S6x2304x2048, .i32⟩
  | 29 => ⟨S6x2304x2048, .i32⟩
  | 30 => ⟨S_, .i32⟩
  | 31 => ⟨S6x2304x2048, .i32⟩
  | 32 => ⟨S6x2304x2048, .i1⟩
  | 33 => ⟨S_, .bf16⟩
  | 34 => ⟨S_, .bf16⟩
  | 35 => ⟨S6x2304x2048, .bf16⟩
  | 36 => ⟨S6x2304x2048, .bf16⟩
  | 37 => ⟨S6x2304x2048, .bf16⟩
  | 38 => ⟨S_, .bf16⟩
  | 39 => ⟨S_, .bf16⟩
  | 40 => ⟨S6x2304x2048, .bf16⟩
  | 41 => ⟨S6x2304x2048, .bf16⟩
  | 42 => ⟨S6x2304x2048, .bf16⟩
  | 43 => ⟨S6x2304x2048, .bf16⟩
  | 44 => ⟨S_, .bf16⟩
  | 45 => ⟨S_, .bf16⟩
  | 46 => ⟨S6x2304x2048, .bf16⟩
  | 47 => ⟨S6x2304x2048, .bf16⟩
  | 48 => ⟨S6x2304x2048, .bf16⟩
  | 49 => ⟨S_, .bf16⟩
  | 50 => ⟨S_, .bf16⟩
  | 51 => ⟨S6x2304x2048, .bf16⟩
  | 52 => ⟨S6x2304x2048, .bf16⟩
  | 53 => ⟨S6x2304x2048, .bf16⟩
  | 54 => ⟨S6x2304x2048, .bf16⟩
  | 55 => ⟨S6x2304x2048, .bf16⟩
  | 56 => ⟨S6x2304x2048, .bf16⟩
  | 57 => ⟨S6x2304x2048, .bf16⟩
  | 58 => ⟨S_, .i32⟩
  | 59 => ⟨S6x2304x2048, .i32⟩
  | 60 => ⟨S6x2304x2048, .i32⟩
  | 61 => ⟨S_, .i32⟩
  | 62 => ⟨S6x2304x2048, .i32⟩
  | 63 => ⟨S6x2304x2048, .i32⟩
  | 64 => ⟨S_, .i32⟩
  | 65 => ⟨S6x2304x2048, .i32⟩
  | 66 => ⟨S6x2304x2048, .i1⟩
  | 67 => ⟨S_, .i32⟩
  | 68 => ⟨S6x2304x2048, .i32⟩
  | 69 => ⟨S6x2304x2048, .i32⟩
  | 70 => ⟨S_, .i32⟩
  | 71 => ⟨S6x2304x2048, .i32⟩
  | 72 => ⟨S6x2304x2048, .i1⟩
  | 73 => ⟨S_, .i32⟩
  | 74 => ⟨S6x2304x2048, .i32⟩
  | 75 => ⟨S6x2304x2048, .i32⟩
  | 76 => ⟨S_, .i32⟩
  | 77 => ⟨S6x2304x2048, .i32⟩
  | 78 => ⟨S6x2304x2048, .i1⟩
  | 79 => ⟨S_, .i32⟩
  | 80 => ⟨S6x2304x2048, .i32⟩
  | 81 => ⟨S6x2304x2048, .i32⟩
  | 82 => ⟨S_, .i32⟩
  | 83 => ⟨S6x2304x2048, .i32⟩
  | 84 => ⟨S6x2304x2048, .i1⟩
  | 85 => ⟨S_, .bf16⟩
  | 86 => ⟨S_, .bf16⟩
  | 87 => ⟨S6x2304x2048, .bf16⟩
  | 88 => ⟨S6x2304x2048, .bf16⟩
  | 89 => ⟨S6x2304x2048, .bf16⟩
  | 90 => ⟨S_, .bf16⟩
  | 91 => ⟨S_, .bf16⟩
  | 92 => ⟨S6x2304x2048, .bf16⟩
  | 93 => ⟨S6x2304x2048, .bf16⟩
  | 94 => ⟨S6x2304x2048, .bf16⟩
  | 95 => ⟨S6x2304x2048, .bf16⟩
  | 96 => ⟨S_, .bf16⟩
  | 97 => ⟨S_, .bf16⟩
  | 98 => ⟨S6x2304x2048, .bf16⟩
  | 99 => ⟨S6x2304x2048, .bf16⟩
  | 100 => ⟨S6x2304x2048, .bf16⟩
  | 101 => ⟨S_, .bf16⟩
  | 102 => ⟨S_, .bf16⟩
  | 103 => ⟨S6x2304x2048, .bf16⟩
  | 104 => ⟨S6x2304x2048, .bf16⟩
  | 105 => ⟨S6x2304x2048, .bf16⟩
  | 106 => ⟨S6x2304x2048, .bf16⟩
  | 107 => ⟨S6x2304x2048, .bf16⟩
  | 108 => ⟨S6x2304x2048, .bf16⟩
  | 109 => ⟨S6x2304x2048, .bf16⟩
  | 110 => ⟨S6x2304x2048x1, .bf16⟩
  | 111 => ⟨S6x2304x2048x1, .bf16⟩
  | 112 => ⟨S6x2304x2048x2, .bf16⟩
  | 113 => ⟨S6x2304x256x8x2, .bf16⟩
  | 114 => ⟨S6x2304x256x8x2, .f32⟩
  | 115 => ⟨S6x2304x256x1x1, .f32⟩
  | 116 => ⟨S6x2304x256x8x2, .f32⟩
  | 117 => ⟨S6x2304x256x8x2, .f32⟩
  | 118 => ⟨S1x1x1x1x1, .f32⟩
  | 119 => ⟨S6x2304x256x8x2, .f32⟩
  | 120 => ⟨S6x2304x256x8x2, .f32⟩
  | 121 => ⟨S6x2304x4096, .f32⟩
  | 122 => ⟨S16, .i32⟩
  | 123 => ⟨S16x1, .i32⟩
  | 124 => ⟨S1x16, .i32⟩
  | 125 => ⟨S16x16, .i32⟩
  | 126 => ⟨S16x16, .i32⟩
  | 127 => ⟨S16x16, .i32⟩
  | _ => ⟨S6x2304x2048, .i8⟩

abbrev hbmTy0_1 (i : Nat) : BufTy := match i % 128 with
  | 0 => ⟨S16x16, .i32⟩
  | 1 => ⟨S_, .i32⟩
  | 2 => ⟨S16x16, .i32⟩
  | 3 => ⟨S16x16, .i32⟩
  | 4 => ⟨S_, .i32⟩
  | 5 => ⟨S16x16, .i32⟩
  | 6 => ⟨S16x16, .i32⟩
  | 7 => ⟨S_, .i32⟩
  | 8 => ⟨S16x16, .i32⟩
  | 9 => ⟨S16x16, .i32⟩
  | 10 => ⟨S16x16, .f32⟩
  | 11 => ⟨S1x16, .f32⟩
  | 12 => ⟨S16x16, .f32⟩
  | 13 => ⟨S16x16, .f32⟩
  | 14 => ⟨S_, .f32⟩
  | 15 => ⟨S16x16, .f32⟩
  | 16 => ⟨S16x16, .f32⟩
  | 17 => ⟨S6x144x16x4096, .f32⟩
  | 18 => ⟨S6x144x4096x16, .f32⟩
  | 19 => ⟨S6x144x16x4096, .f32⟩
  | 20 => ⟨S6x2304x4096, .f32⟩
  | 21 => ⟨S6x2304x4096, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S_, .f32⟩
  | 31 => ⟨S8x128, .f32⟩
  | _ => ⟨S6x2304x2048, .i8⟩

abbrev hbmTy (i : Nat) : BufTy := match i / 128 with
  | 0 => hbmTy0_0 i
  | 1 => hbmTy0_1 i
  | _ => ⟨S6x2304x2048, .i8⟩

abbrev bufTy : (tb : Table) → Fin (tcTables nBuf tb) → BufTy
  | .hbm, ⟨i, _⟩ => hbmTy i
  | .local _ .vmem, ⟨0, _⟩ => ⟨S6x2304x256, .fp8e4m3⟩
  | .local _ .vmem, ⟨1, _⟩ => ⟨S6x2304x256, .f32⟩
  | _, _ => ⟨S6x2304x2048, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_cst_8 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_cst_9 : Ref sig .tc := ⟨.hbm, 38, rfl⟩
abbrev main_cst_10 : Ref sig .tc := ⟨.hbm, 39, rfl⟩
abbrev main_call1_v0 : Ref sig .tc := ⟨.hbm, 40, rfl⟩
abbrev main_call1_v1 : Ref sig .tc := ⟨.hbm, 41, rfl⟩
abbrev main_v21 : Ref sig .tc := ⟨.hbm, 42, rfl⟩
abbrev main_v22 : Ref sig .tc := ⟨.hbm, 43, rfl⟩
abbrev main_cst_11 : Ref sig .tc := ⟨.hbm, 44, rfl⟩
abbrev main_cst_12 : Ref sig .tc := ⟨.hbm, 45, rfl⟩
abbrev main_call3_v0 : Ref sig .tc := ⟨.hbm, 46, rfl⟩
abbrev main_call3_v1 : Ref sig .tc := ⟨.hbm, 47, rfl⟩
abbrev main_v23 : Ref sig .tc := ⟨.hbm, 48, rfl⟩
abbrev main_cst_13 : Ref sig .tc := ⟨.hbm, 49, rfl⟩
abbrev main_cst_14 : Ref sig .tc := ⟨.hbm, 50, rfl⟩
abbrev main_call4_v0 : Ref sig .tc := ⟨.hbm, 51, rfl⟩
abbrev main_call4_v1 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_15 : Ref sig .tc := ⟨.hbm, 58, rfl⟩
abbrev main_v29 : Ref sig .tc := ⟨.hbm, 59, rfl⟩
abbrev main_v30 : Ref sig .tc := ⟨.hbm, 60, rfl⟩
abbrev main_c_16 : Ref sig .tc := ⟨.hbm, 61, rfl⟩
abbrev main_v31 : Ref sig .tc := ⟨.hbm, 62, rfl⟩
abbrev main_v32 : Ref sig .tc := ⟨.hbm, 63, rfl⟩
abbrev main_c_17 : Ref sig .tc := ⟨.hbm, 64, rfl⟩
abbrev main_v33 : Ref sig .tc := ⟨.hbm, 65, rfl⟩
abbrev main_v34 : Ref sig .tc := ⟨.hbm, 66, rfl⟩
abbrev main_c_18 : Ref sig .tc := ⟨.hbm, 67, rfl⟩
abbrev main_v35 : Ref sig .tc := ⟨.hbm, 68, rfl⟩
abbrev main_v36 : Ref sig .tc := ⟨.hbm, 69, rfl⟩
abbrev main_c_19 : Ref sig .tc := ⟨.hbm, 70, rfl⟩
abbrev main_v37 : Ref sig .tc := ⟨.hbm, 71, rfl⟩
abbrev main_v38 : Ref sig .tc := ⟨.hbm, 72, rfl⟩
abbrev main_c_20 : Ref sig .tc := ⟨.hbm, 73, rfl⟩
abbrev main_v39 : Ref sig .tc := ⟨.hbm, 74, rfl⟩
abbrev main_v40 : Ref sig .tc := ⟨.hbm, 75, rfl⟩
abbrev main_c_21 : Ref sig .tc := ⟨.hbm, 76, rfl⟩
abbrev main_v41 : Ref sig .tc := ⟨.hbm, 77, rfl⟩
abbrev main_v42 : Ref sig .tc := ⟨.hbm, 78, rfl⟩
abbrev main_c_22 : Ref sig .tc := ⟨.hbm, 79, rfl⟩
abbrev main_v43 : Ref sig .tc := ⟨.hbm, 80, rfl⟩
abbrev main_v44 : Ref sig .tc := ⟨.hbm, 81, rfl⟩
abbrev main_c_23 : Ref sig .tc := ⟨.hbm, 82, rfl⟩
abbrev main_v45 : Ref sig .tc := ⟨.hbm, 83, rfl⟩
abbrev main_v46 : Ref sig .tc := ⟨.hbm, 84, rfl⟩
abbrev main_cst_24 : Ref sig .tc := ⟨.hbm, 85, rfl⟩
abbrev main_cst_25 : Ref sig .tc := ⟨.hbm, 86, rfl⟩
abbrev main_call8_v0 : Ref sig .tc := ⟨.hbm, 87, rfl⟩
abbrev main_call8_v1 : Ref sig .tc := ⟨.hbm, 88, rfl⟩
abbrev main_v47 : Ref sig .tc := ⟨.hbm, 89, rfl⟩
abbrev main_cst_26 : Ref sig .tc := ⟨.hbm, 90, rfl⟩
abbrev main_cst_27 : Ref sig .tc := ⟨.hbm, 91, rfl⟩
abbrev main_call9_v0 : Ref sig .tc := ⟨.hbm, 92, rfl⟩
abbrev main_call9_v1 : Ref sig .tc := ⟨.hbm, 93, rfl⟩
abbrev main_v48 : Ref sig .tc := ⟨.hbm, 94, rfl⟩
abbrev main_v49 : Ref sig .tc := ⟨.hbm, 95, rfl⟩
abbrev main_cst_28 : Ref sig .tc := ⟨.hbm, 96, rfl⟩
abbrev main_cst_29 : Ref sig .tc := ⟨.hbm, 97, rfl⟩
abbrev main_call11_v0 : Ref sig .tc := ⟨.hbm, 98, rfl⟩
abbrev main_call11_v1 : Ref sig .tc := ⟨.hbm, 99, rfl⟩
abbrev main_v50 : Ref sig .tc := ⟨.hbm, 100, rfl⟩
abbrev main_cst_30 : Ref sig .tc := ⟨.hbm, 101, rfl⟩
abbrev main_cst_31 : Ref sig .tc := ⟨.hbm, 102, rfl⟩
abbrev main_call12_v0 : Ref sig .tc := ⟨.hbm, 103, rfl⟩
abbrev main_call12_v1 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_c_32 : Ref sig .tc := ⟨.hbm, 129, rfl⟩
abbrev main_v75 : Ref sig .tc := ⟨.hbm, 130, rfl⟩
abbrev main_v76 : Ref sig .tc := ⟨.hbm, 131, rfl⟩
abbrev main_c_33 : Ref sig .tc := ⟨.hbm, 132, rfl⟩
abbrev main_v77 : Ref sig .tc := ⟨.hbm, 133, rfl⟩
abbrev main_v78 : Ref sig .tc := ⟨.hbm, 134, rfl⟩
abbrev main_c_34 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_35 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_36 : Ref sig .tc := ⟨.hbm, 150, rfl⟩
abbrev main_v92 : Ref sig .tc := ⟨.hbm, 151, rfl⟩
abbrev main_cst_37 : Ref sig .tc := ⟨.hbm, 152, rfl⟩
abbrev main_v93 : Ref sig .tc := ⟨.hbm, 153, rfl⟩
abbrev main_cst_38 : Ref sig .tc := ⟨.hbm, 154, rfl⟩
abbrev main_v94 : Ref sig .tc := ⟨.hbm, 155, rfl⟩
abbrev main_cst_39 : Ref sig .tc := ⟨.hbm, 156, rfl⟩
abbrev main_call16_v0 : Ref sig .tc := ⟨.hbm, 157, rfl⟩
abbrev main_v95 : Ref sig .tc := ⟨.hbm, 158, rfl⟩
abbrev main_v96 : Ref sig .tc := ⟨.hbm, 159, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x2304x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2304x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DyQuant.lean ====
abbrev S1 : Shape := ⟨1, ![1]⟩
abbrev S6x2304x14336 : Shape := ⟨3, ![6, 2304, 14336]⟩
abbrev S16 : Shape := ⟨1, ![16]⟩
abbrev S8x128 : Shape := ⟨2, ![8, 128]⟩
abbrev S13824x14336 : Shape := ⟨2, ![13824, 14336]⟩
abbrev S6x1152x14336 : Shape := ⟨3, ![6, 1152, 14336]⟩
abbrev S6x144x14336 : Shape := ⟨3, ![6, 144, 14336]⟩
abbrev S2304x128 : Shape := ⟨2, ![2304, 128]⟩
abbrev S1x1152x128 : Shape := ⟨3, ![1, 1152, 128]⟩
abbrev S1x144x128 : Shape := ⟨3, ![1, 144, 128]⟩
abbrev S16x128 : Shape := ⟨2, ![16, 128]⟩
abbrev S144x128 : Shape := ⟨2, ![144, 128]⟩
abbrev S128x128 : Shape := ⟨2, ![128, 128]⟩
abbrev S8x16x128 : Shape := ⟨3, ![8, 16, 128]⟩
abbrev S8x1x128 : Shape := ⟨3, ![8, 1, 128]⟩
abbrev S32x128 : Shape := ⟨2, ![32, 128]⟩
abbrev S8x4x128 : Shape := ⟨3, ![8, 4, 128]⟩
abbrev S64x128 : Shape := ⟨2, ![64, 128]⟩
abbrev S1x64x128 : Shape := ⟨3, ![1, 64, 128]⟩

abbrev nBuf : Space → Nat
  | .hbm => 10
  | .vmem => 13
  | .smem => 1
  | _ => 0

abbrev bufTy : (tb : Table) → Fin (tcTables nBuf tb) → BufTy
  | .hbm, ⟨0, _⟩ => ⟨S1, .f32⟩
  | .hbm, ⟨1, _⟩ => ⟨S6x2304x14336, .bf16⟩
  | .hbm, ⟨2, _⟩ => ⟨S16, .f32⟩
  | .hbm, ⟨3, _⟩ => ⟨S6x2304x14336, .i8⟩
  | .hbm, ⟨4, _⟩ => ⟨S8x128, .f32⟩
  | .hbm, ⟨5, _⟩ => ⟨S13824x14336, .bf16⟩
  | .hbm, ⟨6, _⟩ => ⟨S13824x14336, .i8⟩
  | .hbm, ⟨7, _⟩ => ⟨S6x1152x14336, .i8⟩
  | .hbm, ⟨8, _⟩ => ⟨S6x144x14336, .fp8e4m3⟩
  | .hbm, ⟨9, _⟩ => ⟨S13824x14336, .bf16⟩
  | .local _ .vmem, ⟨0, _⟩ => ⟨S8x128, .f32⟩
  | .local _ .vmem, ⟨1, _⟩ => ⟨S2304x128, .bf16⟩
  | .local _ .vmem, ⟨2, _⟩ => ⟨S2304x128, .bf16⟩
  | .local _ .vmem, ⟨3, _⟩ => ⟨S2304x128, .i8⟩
  | .local _ .vmem, ⟨4, _⟩ => ⟨S2304x128, .i8⟩
  | .local _ .vmem, ⟨5, _⟩ => ⟨S1x1152x128, .i8⟩
  | .local _ .vmem, ⟨6, _⟩ => ⟨S1x1152x128, .i8⟩
  | .local _ .vmem, ⟨7, _⟩ => ⟨S1x144x128, .fp8e4m3⟩
  | .local _ .vmem, ⟨8, _⟩ => ⟨S1x144x128, .fp8e4m3⟩
  | .local _ .vmem, ⟨9, _⟩ => ⟨S2304x128, .bf16⟩
  | .local _ .vmem, ⟨10, _⟩ => ⟨S2304x128, .bf16⟩
  | .local _ .vmem, ⟨11, _⟩ => ⟨S16x128, .i32⟩
  | .local _ .vmem, ⟨12, _⟩ => ⟨S144x128, .f32⟩
  | .local _ .smem, ⟨0, _⟩ => ⟨S16, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![6, 112], ![false, false]⟩

@[reducible] def k0_t1_loop : Scf.Loop 32 :=
  let c0_i32 : BitVec 32 := 0#32
  let c18_i32 : BitVec 32 := 18#32
  let v3 : BitVec 32 := Scalar.addi c0_i32 c18_i32
  let c1_i32 : BitVec 32 := 1#32
  ⟨c0_i32, v3, c1_i32⟩
def k0_mult1 (k0_t1 : Fin k0_t1_loop.trips) : BitVec 32 :=
  let c128_i32 : BitVec 32 := 128#32
  let c0_i32 : BitVec 32 := 0#32
  let c1_i32 : BitVec 32 := 1#32
  let arg11 : BitVec 32 := Scf.iv c0_i32 c1_i32 k0_t1
  let v9 : BitVec 32 := Scalar.muli c128_i32 arg11
  v9
def k0_off1 (k0_t1 : Fin k0_t1_loop.trips) : Fin 2 → Nat :=
  let c128_i32 : BitVec 32 := 128#32
  let c0_i32 : BitVec 32 := 0#32
  let c1_i32 : BitVec 32 := 1#32
  let arg11 : BitVec 32 := Scf.iv c0_i32 c1_i32 k0_t1
  let v9 : BitVec 32 := Scalar.muli c128_i32 arg11
  let v10 : BitVec 32 := v9
  let v11 : Index := Scalar.indexCast v10
  let c0_7 : Index := 0#32
  ![v11.toNat, 0]
def k0_mult2 (k0_t1 : Fin k0_t1_loop.trips) : BitVec 32 :=
  let c8_i32 : BitVec 32 := 8#32
  let c0_i32 : BitVec 32 := 0#32
  let c1_i32 : BitVec 32 := 1#32
  let arg11 : BitVec 32 := Scf.iv c0_i32 c1_i32 k0_t1
  let v1300 : BitVec 32 := Scalar.muli c8_i32 arg11
  v1300
def k0_off2 (k0_t1 : Fin k0_t1_loop.trips) : Fin 2 → Nat :=
  let c8_i32 : BitVec 32 := 8#32
  let c0_i32 : BitVec 32 := 0#32
  let c1_i32 : BitVec 32 := 1#32
  let arg11 : BitVec 32 := Scf.iv c0_i32 c1_i32 k0_t1
  let v1300 : BitVec 32 := Scalar.muli c8_i32 arg11
  let v1301 : BitVec 32 := v1300
  let v1302 : Index := Scalar.indexCast v1301
  let c0_466 : Index := 0#32
  ![v1302.toNat, 0]
def k0_mult3 (k0_t1 : Fin k0_t1_loop.trips) : BitVec 32 :=
  let c64_i32 : BitVec 32 := 64#32
  let c0_i32 : BitVec 32 := 0#32
  let c1_i32 : BitVec 32 := 1#32
  let arg11 : BitVec 32 := Scf.iv c0_i32 c1_i32 k0_t1
  let v1308 : BitVec 32 := Scalar.muli c64_i32 arg11
  v1308
def k0_off3 (k0_t1 : Fin k0_t1_loop.trips) : Fin 3 → Nat :=
  let c0_469 : Index := 0#32
  let c64_i32 : BitVec 32 := 64#32
  let c0_i32 : BitVec 32 := 0#32
  let c1_i32 : BitVec 32 := 1#32
  let arg11 : BitVec 32 := Scf.iv c0_i32 c1_i32 k0_t1
  let v1308 : BitVec 32 := Scalar.muli c64_i32 arg11
  let v1309 : BitVec 32 := v1308
  let v1310 : Index := Scalar.indexCast v1309
  let c0_470 : Index := 0#32
  ![0, v1310.toNat, 0]
def k0_mult4 (k0_t1 : Fin k0_t1_loop.trips) : BitVec 32 :=
  let c128_i32_482 : BitVec 32 := 128#32
  let c0_i32 : BitVec 32 := 0#32
  let c1_i32 : BitVec 32 := 1#32
  let arg11 : BitVec 32 := Scf.iv c0_i32 c1_i32 k0_t1
  let v1365 : BitVec 32 := Scalar.muli c128_i32_482 arg11
  let c0_i32_483 : BitVec 32 := 0#32
  let v1366 : BitVec 32 := Scalar.addi v1365 c0_i32_483
  v1366
def k0_off4 (k0_t1 : Fin k0_t1_loop.trips) (c0_i32_483 : BitVec 32) : Fin 2 → Nat :=
  let c128_i32_482 : BitVec 32 := 128#32
  let c0_i32 : BitVec 32 := 0#32
  let c1_i32 : BitVec 32 := 1#32
  let arg11 : BitVec 32 := Scf.iv c0_i32 c1_i32 k0_t1
  let v1365 : BitVec 32 := Scalar.muli c128_i32_482 arg11
  let v1366 : BitVec 32 := Scalar.addi v1365 c0_i32_483
  let v1367 : BitVec 32 := v1366
  let v1368 : Index := Scalar.indexCast v1367
  let c0_484 : Index := 0#32
  ![v1368.toNat, 0]
def k0_mult5 (k0_t1 : Fin k0_t1_loop.trips) : BitVec 32 :=
  let c128_i32_485 : BitVec 32 := 128#32
  let c0_i32 : BitVec 32 := 0#32
  let c1_i32 : BitVec 32 := 1#32
  let arg11 : BitVec 32 := Scf.iv c0_i32 c1_i32 k0_t1
  let v1370 : BitVec 32 := Scalar.muli c128_i32_485 arg11
  let c32_i32 : BitVec 32 := 32#32
  let v1371 : BitVec 32 := Scalar.addi v1370 c32_i32
  v1371
def k0_mult6 (k0_t1 : Fin k0_t1_loop.trips) : BitVec 32 :=
  let c128_i32_487 : BitVec 32 := 128#32
  let c0_i32 : BitVec 32 := 0#32
  let c1_i32 : BitVec 32 := 1#32
  let arg11 : BitVec 32 := Scf.iv c0_i32 c1_i32 k0_t1
  let v1375 : BitVec 32 := Scalar.muli c128_i32_487 arg11
  let c64_i32_488 : BitVec 32 := 64#32
  let v1376 : BitVec 32 := Scalar.addi v1375 c64_i32_488
  v1376
def k0_mult7 (k0_t1 : Fin k0_t1_loop.trips) : BitVec 32 :=
  let c128_i32_490 : BitVec 32 := 128#32
  let c0_i32 : BitVec 32 := 0#32
  let c1_i32 : BitVec 32 := 1#32
  let arg11 : BitVec 32 := Scf.iv c0_i32 c1_i32 k0_t1
  let v1380 : BitVec 32 := Scalar.muli c128_i32_490 arg11
  let c96_i32 : BitVec 32 := 96#32
  let v1381 : BitVec 32 := Scalar.addi v1380 c96_i32
  v1381
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2304x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1152x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x144x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2304x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DyQuantRefIdeal.lean ====
abbrev S1 : Shape := ⟨1, ![1]⟩
abbrev S6x2304x14336 : Shape := ⟨3, ![6, 2304, 14336]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S6x144x16x14336 : Shape := ⟨4, ![6, 144, 16, 14336]⟩
abbrev S6x144x14336x16 : Shape := ⟨4, ![6, 144, 14336, 16]⟩
abbrev S6x144x14336 : Shape := ⟨3, ![6, 144, 14336]⟩
abbrev S1x1x1 : Shape := ⟨3, ![1, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S1, .f32⟩
  | .hbm, ⟨1, _⟩ => ⟨S6x2304x14336, .bf16⟩
  | .hbm, ⟨2, _⟩ => ⟨S16, .f32⟩
  | .hbm, ⟨3, _⟩ => ⟨S6x2304x14336, .i8⟩
  | .hbm, ⟨4, _⟩ => ⟨S16, .i32⟩
  | .hbm, ⟨5, _⟩ => ⟨S16x1, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .f32⟩
  | .hbm, ⟨21, _⟩ => ⟨S1x16, .f32⟩
  | .hbm, ⟨22, _⟩ => ⟨S16x16, .f32⟩
  | .hbm, ⟨23, _⟩ => ⟨S16x16, .f32⟩
  | .hbm, ⟨24, _⟩ => ⟨S_, .f32⟩
  | .hbm, ⟨25, _⟩ => ⟨S16x16, .f32⟩
  | .hbm, ⟨26, _⟩ => ⟨S16x16, .f32⟩
  | .hbm, ⟨27, _⟩ => ⟨S6x2304x14336, .f32⟩
  | .hbm, ⟨28, _⟩ => ⟨S6x144x16x14336, .f32⟩
  | .hbm, ⟨29, _⟩ => ⟨S6x144x14336x16, .f32⟩
  | .hbm, ⟨30, _⟩ => ⟨S6x144x16x14336, .f32⟩
  | .hbm, ⟨31, _⟩ => ⟨S6x144x16x14336, .f32⟩
  | .hbm, ⟨32, _⟩ => ⟨S_, .f32⟩
  | .hbm, ⟨33, _⟩ => ⟨S6x144x14336, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1x1, .f32⟩
  | .hbm, ⟨38, _⟩ => ⟨S6x144x14336, .f32⟩
  | .hbm, ⟨39, _⟩ => ⟨S6x144x14336, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S6x144x14336, .f32⟩
  | .hbm, ⟨44, _⟩ => ⟨S6x144x14336, .f32⟩
  | .hbm, ⟨45, _⟩ => ⟨S_, .f32⟩
  | .hbm, ⟨46, _⟩ => ⟨S6x144x14336, .f32⟩
  | .hbm, ⟨47, _⟩ => ⟨S6x144x14336, .f32⟩
  | .hbm, ⟨48, _⟩ => ⟨S6x144x14336, .fp8e4m3⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.WgradKernel.lean ====
/-
  What the weight-gradient call leaves in its result array, over the extended reals: every element is the sum over all
  13824 token rows of the products of the two operands' elements, times the product of the two tensor scales. The
  grid's last axis cuts the 13824 rows into 27 blocks of 512; the result block stays in place over those 27 points, is
  zeroed at the first, and is scaled after the last.
-/
module

public import proofs.«01_k».proof.Proof.Gen.KernelIdeal.Value
public import Idealize.ShloMosaic.Lib.Pointwise
public import Idealize.ShloMosaic.PureOps.Ideal.Laws

@[expose] public section

set_option maxRecDepth 16384

noncomputable section

namespace Cert.KernelIdeal.Wgrad

open Cert.KernelIdeal Cert.KernelIdeal.Gen Idealize.ShloMosaic Idealize.ShloMosaic.TcCoe Idealize.SL.Sem
open Idealize.ShloMosaic.Pipeline (Dat)
open scoped BigOperators

theorem hz : (![0, 0] : Fin 2 → Nat) = fun _ => 0 := funext fun a => by fin_cases a <;> rfl

/-! ## What the body leaves in the result block, case by case -/

section Cases
variable {F : FTy → Type} [FloatOps F]
variable (c : Dev nD) (i : grid0.Coords)
  (a3 : Memref sig .tc .vmem S8x128 .f32) (h3 : a3.IsWhole) (a4 : Memref sig .tc .vmem S8x128 .f32) (h4 : a4.IsWhole)
  (a5 : Memref sig .tc .vmem S512x1024 .bf16) (h5 : a5.IsWhole) (a6 : Memref sig .tc .vmem S512x2048 .bf16) (h6 : a6.IsWhole)
  (a7 : Memref sig .tc .vmem S1024x2048 .f32) (h7 : a7.IsWhole)
  (x0 x1 : Vec F S8x128 .f32) (x2 : Vec F S512x1024 .bf16) (x3 : Vec F S512x2048 .bf16) (xo : Vec F S1024x2048 .f32)

/-- At the first of the 27 points the block product is added to the zero block. -/
theorem out_A (hc0 : cond0_0 i) (hc1 : ¬cond0_1 i) :
    out0_A_4 c i a3 h3 a4 h4 a5 h5 a6 h6 a7 h7 hc0 hc1 x0 x1 x2 x3 = k0_pay2 k0_pay1 x2 x3 := by
  unfold out0_A_4
  rw [View.read_writes_eq_canon _ _ _ (cover0_A_4 c i a3 h3 a4 h4 a5 h5 a6 h6 a7 h7 hc0 hc1 x0 x1 x2 x3)]
  unfold kernelRun0_A
  dsimp only
  sl_unfold_words
  rw [View.canon_cons_unit_zero (S := S1024x2048) hz, View.readCov_unit_zero (S := S1024x2048) _ hz]
  simp only [View.readAt_eq_ld, h5.read_unread, h6.read_unread, View.ld_unit_zero (S := S512x1024) hz,
    View.ld_unit_zero (S := S512x2048) hz]

/-- At the points between, the block product is added to what the block holds. -/
theorem out_B (hc0 : ¬cond0_0 i) (hc1 : ¬cond0_1 i) :
    out0_B_4 c i a3 h3 a4 h4 a5 h5 a6 h6 a7 h7 hc0 hc1 x0 x1 x2 x3 xo = k0_pay2 xo x2 x3 := by
  unfold out0_B_4
  rw [View.read_writes_eq_canon _ _ _ (cover0_B_4 c i a3 h3 a4 h4 a5 h5 a6 h6 a7 h7 hc0 hc1 x0 x1 x2 x3 xo)]
  unfold kernelRun0_B
  dsimp only
  sl_unfold_words
  rw [View.canon_unit_zero hz]
  simp only [View.readAt_eq_ld, h5.read_unread, h6.read_unread, h7.read_unread, View.ld_unit_zero (S := S512x1024) hz,
    View.ld_unit_zero (S := S512x2048) hz, View.ld_unit_zero (S := S1024x2048) hz]

/-- At the last of the 27 points the block product is added and the sum is scaled. -/
theorem out_C (hc0 : ¬cond0_0 i) (hc1 : cond0_1 i) :
    out0_C_4 c i a3 h3 a4 h4 a5 h5 a6 h6 a7 h7 hc0 hc1 x0 x1 x2 x3 xo
      = k0_pay3 (k0_pay2 xo x2 x3)
          (View.ld x0 (Rect.unit (s := S8x128) ![0, 0] S1x1.size inb_S8x128_S1x1_0_0))
          (View.ld x1 (Rect.unit (s := S8x128) ![0, 0] S1x1.size inb_S8x128_S1x1_0_0)) := by
  unfold out0_C_4
  rw [View.read_writes_eq_canon _ _ _ (cover0_C_4 c i a3 h3 a4 h4 a5 h5 a6 h6 a7 h7 hc0 hc1 x0 x1 x2 x3 xo)]
  unfold kernelRun0_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread, h7.read_unread,
    View.ld_unit_zero (S := S512x1024) hz,
    View.ld_unit_zero (S := S512x2048) hz, View.ld_unit_zero (S := S1024x2048) hz]

end Cases

/-! ## The payloads read at an index -/

/-- One accumulation step at an index: the held value plus the 512-deep product. -/
theorem pay2_apply (v : Vec Ideal S1024x2048 .f32) (x2 : Vec Ideal S512x1024 .bf16) (x3 : Vec Ideal S512x2048 .bf16)
    (r : Fin 1024) (l : Fin 2048) :
    (k0_pay2 (F := Ideal) v x2 x3 : S1024x2048.Idx → EReal) (ix2 r l)
      = (v (ix2 r l) : EReal) + ∑ k : Fin 512, (x2 (ix2 k r) : EReal) * (x3 (ix2 k l) : EReal) := by
  unfold k0_pay2
  pointwise

theorem pay1_apply (r : Fin 1024) (l : Fin 2048) : (k0_pay1 (F := Ideal) : S1024x2048.Idx → EReal) (ix2 r l) = 0 := by
  unfold k0_pay1
  pointwise

/-- The scaling at an index. -/
theorem pay3_apply (v : Vec Ideal S1024x2048 .f32) (x y : Vec Ideal S1x1 .f32)
    (r : Fin 1024) (l : Fin 2048) :
    (k0_pay3 (F := Ideal) v x y : S1024x2048.Idx → EReal) (ix2 r l)
      = (v (ix2 r l) : EReal) * ((x (ix2 0 0) : EReal) * (y (ix2 0 0) : EReal)) := by
  unfold k0_pay3
  pointwise

/-! ## The blocks the windows stage, read off the arguments -/

section Array
variable (m : (ℓ : Loc nD τ sig) → Buf (Elt Ideal) ℓ) (ρ : Dev nD → PrngReg) (c : Dev nD)

/-- The four arguments as arrays of extended reals: the two tensor scales (each broadcast over an 8×128 array) and the
    decoded operands, with a row per token. -/
abbrev tsX : S8x128.Idx → EReal := m ((c : Thread nD τ).loc main_arg0)
abbrev tsDy : S8x128.Idx → EReal := m ((c : Thread nD τ).loc main_arg1)
abbrev dyq : S13824x14336.Idx → EReal := m ((c : Thread nD τ).loc main_arg2)
abbrev xq : S13824x4096.Idx → EReal := m ((c : Thread nD τ).loc main_arg3)

theorem index2 : ∀ t : Fin grid0.N, win0_2.index t 0 = t.val % 27 ∧ win0_2.index t 1 = t.val / 54 := by decide +kernel
theorem index3 : ∀ t : Fin grid0.N, win0_3.index t 0 = t.val % 27 ∧ win0_3.index t 1 = t.val / 27 % 2 := by decide +kernel
theorem index4 : ∀ t : Fin grid0.N, win0_4.index t 0 = t.val / 54 ∧ win0_4.index t 1 = t.val / 27 % 2 := by decide +kernel
theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel

theorem lt756 (t : Fin cfg0.N) : t.val < 756 := lt_of_lt_of_eq t.isLt N_0

/-- The result row and column a point's block element stands at. -/
def rowOf (t : Fin cfg0.N) (r : Fin 1024) : Fin 14336 := ⟨1024 * (t.val / 54) + r.val, by have := lt756 t; omega⟩
def colOf (t : Fin cfg0.N) (l : Fin 2048) : Fin 4096 := ⟨2048 * (t.val / 27 % 2) + l.val, by omega⟩
/-- The token row a point's operand row stands at. -/
def tokOf (t : Fin cfg0.N) (k : Fin 512) : Fin 13824 := ⟨512 * (t.val % 27) + k.val, by omega⟩

/-- The blocks of the two operands at a point, as arrays of extended reals. -/
abbrev dyBlk (t : Fin cfg0.N) : S512x1024.Idx → EReal := iblk m c 2 t
abbrev xBlk (t : Fin cfg0.N) : S512x2048.Idx → EReal := iblk m c 3 t

theorem blk2 (t : Fin cfg0.N) (k : Fin 512) (r : Fin 1024) :
    dyBlk m c t (ix2 k r) = dyq m c (ix2 (tokOf t k) (rowOf t r)) := by
  have hi := index2 t
  unfold dyBlk iblk
  rw [View.read_apply]
  show V m c main_arg2 _ = m (c.tc.loc main_arg2) _
  unfold V
  congr 1
  funext a
  apply Fin.ext
  match a with
  | ⟨0, _⟩ => show win0_2.index t 0 * 512 + 1 * k.val = 512 * (t.val % 27) + k.val; rw [hi.1]; omega
  | ⟨1, _⟩ => show win0_2.index t 1 * 1024 + 1 * r.val = 1024 * (t.val / 54) + r.val; rw [hi.2]; omega

theorem blk3 (t : Fin cfg0.N) (k : Fin 512) (l : Fin 2048) :
    xBlk m c t (ix2 k l) = xq m c (ix2 (tokOf t k) (colOf t l)) := by
  have hi := index3 t
  unfold xBlk iblk
  rw [View.read_apply]
  show V m c main_arg3 _ = m (c.tc.loc main_arg3) _
  unfold V
  congr 1
  funext a
  apply Fin.ext
  match a with
  | ⟨0, _⟩ => show win0_3.index t 0 * 512 + 1 * k.val = 512 * (t.val % 27) + k.val; rw [hi.1]; omega
  | ⟨1, _⟩ => show win0_3.index t 1 * 2048 + 1 * l.val = 2048 * (t.val / 27 % 2) + l.val; rw [hi.2]; omega

theorem blk0 (t : Fin cfg0.N) :
    View.ld (iblk m c 0 t : Vec Ideal S8x128 .f32) (Rect.unit (s := S8x128) ![0, 0] S1x1.size inb_S8x128_S1x1_0_0) (ix2 0 0)
      = tsX m c (ix2 0 0) := by
  have hi := index0 t
  unfold iblk
  show V m c main_arg0 _ = m (c.tc.loc main_arg0) _
  unfold V
  congr 1
  funext a
  apply Fin.ext
  match a with
  | ⟨0, _⟩ => show win0_0.index t 0 * 8 + 1 * (0 + 1 * 0) = 0; rw [hi.1]
  | ⟨1, _⟩ => show win0_0.index t 1 * 128 + 1 * (0 + 1 * 0) = 0; rw [hi.2]

theorem blk1 (t : Fin cfg0.N) :
    View.ld (iblk m c 1 t : Vec Ideal S8x128 .f32) (Rect.unit (s := S8x128) ![0, 0] S1x1.size inb_S8x128_S1x1_0_0) (ix2 0 0)
      = tsDy m c (ix2 0 0) := by
  have hi := index1 t
  unfold iblk
  show V m c main_arg1 _ = m (c.tc.loc main_arg1) _
  unfold V
  congr 1
  funext a
  apply Fin.ext
  match a with
  | ⟨0, _⟩ => show win0_1.index t 0 * 8 + 1 * (0 + 1 * 0) = 0; rw [hi.1]
  | ⟨1, _⟩ => show win0_1.index t 1 * 128 + 1 * (0 + 1 * 0) = 0; rw [hi.2]

/-! ## The running sum -/

/-- Token row `k`'s contribution to the result element at row `i`, column `j`; past the last token row it is zero. -/
def term (i : Fin 14336) (j : Fin 4096) (k : ℕ) : EReal :=
  if h : k < 13824 then dyq m c (ix2 ⟨k, h⟩ i) * xq m c (ix2 ⟨k, h⟩ j) else 0

/-- A point's 512-deep product is the contributions of its 512 token rows. -/
theorem block_sum (t : Fin cfg0.N) (r : Fin 1024) (l : Fin 2048) :
    ∑ k : Fin 512, dyBlk m c t (ix2 k r) * xBlk m c t (ix2 k l)
      = ∑ k ∈ Finset.range 512, term m c (rowOf t r) (colOf t l) (512 * (t.val % 27) + k) := by
  rw [Finset.sum_range]
  refine Finset.sum_congr rfl fun k _ => ?_
  rw [blk2, blk3]
  unfold term
  rw [dif_pos (by omega)]
  rfl

/-- Adding one point's product to the contributions of the points before extends the sum by 512 token rows. -/
theorem step (t : Fin cfg0.N) (v : Vec Ideal S1024x2048 .f32) (r : Fin 1024) (l : Fin 2048)
    (hv : (v (ix2 r l) : EReal) = ∑ k ∈ Finset.range (512 * (t.val % 27)), term m c (rowOf t r) (colOf t l) k) :
    (k0_pay2 (F := Ideal) v (iblk m c 2 t) (iblk m c 3 t) : S1024x2048.Idx → EReal) (ix2 r l)
      = ∑ k ∈ Finset.range (512 * (t.val % 27) + 512), term m c (rowOf t r) (colOf t l) k := by
  rw [pay2_apply, hv, Finset.sum_range_add]
  exact congrArg _ (block_sum m c t r l)

/-- Before the last of its 27 points a result block holds, at every element, the contributions of the token rows read
    so far — by induction on the point. -/
theorem outs_partial : ∀ (n : ℕ) (h : n < cfg0.N), n % 27 ≠ 26 → ∀ (r : Fin 1024) (l : Fin 2048),
    (outsAt0 m c n h : S1024x2048.Idx → EReal) (ix2 r l)
      = ∑ k ∈ Finset.range (512 * (n % 27) + 512), term m c (rowOf ⟨n, h⟩ r) (colOf ⟨n, h⟩ l) k := by
  intro n
  induction n with
  | zero =>
    intro h _ r l
    rw [show outsAt0 m c 0 h = _ from outsAt0_A m c ⟨0, h⟩ rfl (by show ¬0 % 27 = 26; omega), out_A]
    exact step m c ⟨0, h⟩ _ r l (pay1_apply r l)
  | succ n ih =>
    intro h hne r l
    by_cases h0 : (n + 1) % 27 = 0
    · rw [show outsAt0 m c (n + 1) h = _ from outsAt0_A m c ⟨n + 1, h⟩ h0 hne, out_A]
      refine step m c ⟨n + 1, h⟩ _ r l ((pay1_apply r l).trans ?_)
      rw [show (⟨n + 1, h⟩ : Fin cfg0.N).val % 27 = 0 from h0]
      rfl
    · rw [show outsAt0 m c (n + 1) h = _ from outsAt0_B m c ⟨n + 1, h⟩ h0 hne, out_B]
      refine step m c ⟨n + 1, h⟩ _ r l ((ih (Nat.lt_of_succ_lt h) (by omega) r l).trans ?_)
      have e1 : 512 * (n % 27) + 512 = 512 * ((n + 1) % 27) := by omega
      have e2 : rowOf ⟨n, Nat.lt_of_succ_lt h⟩ r = rowOf ⟨n + 1, h⟩ r := Fin.ext (by
        show 1024 * (n / 54) + r.val = 1024 * ((n + 1) / 54) + r.val; omega)
      have e3 : colOf ⟨n, Nat.lt_of_succ_lt h⟩ l = colOf ⟨n + 1, h⟩ l := Fin.ext (by
        show 2048 * (n / 27 % 2) + l.val = 2048 * ((n + 1) / 27 % 2) + l.val; omega)
      rw [e1, e2, e3]

/-- After the last of its 27 points a result block holds the whole sum over the token rows, scaled. -/
theorem outs_last (t : Fin cfg0.N) (ht : t.val % 27 = 26) (r : Fin 1024) (l : Fin 2048) :
    (outsAt0 m c t.val t.isLt : S1024x2048.Idx → EReal) (ix2 r l)
      = (∑ k ∈ Finset.range 13824, term m c (rowOf t r) (colOf t l) k) * (tsX m c (ix2 0 0) * tsDy m c (ix2 0 0)) := by
  have h0 : ¬t.val % 27 = 0 := by omega
  have hb := lt756 t
  rw [outsAt0_C m c t h0 ht, out_C]
  refine (pay3_apply _ _ _ r l).trans ?_
  rw [blk0, blk1]
  refine congrArg (· * _) ?_
  refine (step m c t _ r l ((outs_partial m c (t.val - 1) _ (by omega) r l).trans ?_)).trans ?_
  · have e1 : 512 * ((t.val - 1) % 27) + 512 = 512 * (t.val % 27) := by omega
    have e2 : rowOf ⟨t.val - 1, Nat.lt_of_le_of_lt (Nat.sub_le _ _) t.isLt⟩ r = rowOf t r := Fin.ext (by
      show 1024 * ((t.val - 1) / 54) + r.val = 1024 * (t.val / 54) + r.val; omega)
    have e3 : colOf ⟨t.val - 1, Nat.lt_of_le_of_lt (Nat.sub_le _ _) t.isLt⟩ l = colOf t l := Fin.ext (by
      show 2048 * ((t.val - 1) / 27 % 2) + l.val = 2048 * (t.val / 27 % 2) + l.val; omega)
    rw [e1, e2, e3]
  · rw [show 512 * (t.val % 27) + 512 = 13824 from by omega]

/-! ## The result array -/

/-- What the call computes: the contraction of the two operands over all token rows, times the product of the scales. -/
def dw : S14336x4096.Idx → EReal := fun i =>
  (∑ k : Fin 13824, dyq m c (ix2 k (i 0)) * xq m c (ix2 k (i 1))) * (tsX m c (ix2 0 0) * tsDy m c (ix2 0 0))

theorem sum_term (i : Fin 14336) (j : Fin 4096) :
    ∑ k ∈ Finset.range 13824, term m c i j k = ∑ k : Fin 13824, dyq m c (ix2 k i) * xq m c (ix2 k j) := by
  rw [Finset.sum_range]
  refine Finset.sum_congr rfl fun k _ => ?_
  unfold term
  rw [dif_pos k.isLt]

/-- Every write-back writes its block of `dw`. -/
theorem flushed_eq (t : Fin cfg0.N) (hf : (cfg0.win 4).flush t = true) :
    (dats m 0 c).flushed 4 t = ((cfg0.win 4).blk t).view.read (Elt Ideal) (dw m c) := by
  have ht : t.val % 27 = 26 := (flush0_4 t).mp hf
  have hi := index4 t
  rw [Value.flushed4]
  show (outsAt0 m c t.val t.isLt : S1024x2048.Idx → EReal) = _
  funext j
  rw [View.read_apply]
  refine ((congrArg _ (eq_ix2 (n0 := 1024) (n1 := 2048) j)).trans (outs_last m c t ht (j 0) (j 1))).trans ?_
  refine Eq.trans ?_ (show dw m c (ix2 (rowOf t (j 0)) (colOf t (j 1))) = dw m c _ from ?_)
  · rw [sum_term]
    rfl
  · congr 1
    funext a
    apply Fin.ext
    match a with
    | ⟨0, _⟩ => show 1024 * (t.val / 54) + (j 0).val = win0_4.index t 0 * 1024 + 1 * (j 0).val; rw [hi.1]; omega
    | ⟨1, _⟩ => show 2048 * (t.val / 27 % 2) + (j 1).val = win0_4.index t 1 * 2048 + 1 * (j 1).val; rw [hi.2]; omega

/-- The write-backs cover the result array. -/
theorem cover (i : S14336x4096.Idx) : ∃ t : Fin cfg0.N, (cfg0.win 4).flush t = true ∧ i ∈ ((cfg0.win 4).blk t).view.set := by
  have h0 : (i 0 : Nat) < 14336 := (i 0).isLt
  have h1 : (i 1 : Nat) < 4096 := (i 1).isLt
  let t : Fin cfg0.N := ⟨((i 0 : Nat) / 1024 * 2 + (i 1 : Nat) / 2048) * 27 + 26, by
    show _ < grid0.N; rw [Gen.N_0]; omega⟩
  have hi := index4 t
  have hx : ∀ t : Fin grid0.N, win0_4.xsize (grid0.coords t) 0 = 1024 ∧ win0_4.xsize (grid0.coords t) 1 = 2048 := by
    decide +kernel
  have tv : t.val = ((i 0 : Nat) / 1024 * 2 + (i 1 : Nat) / 2048) * 27 + 26 := rfl
  refine ⟨t, (flush0_4 t).mpr (by omega), ?_⟩
  show i ∈ ((View.whole main_v0).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + win0_4.xsize (grid0.coords t) 0
              rw [hi.1, (hx t).1]; omega
  | ⟨1, _⟩ => show win0_4.index t 1 * 2048 ≤ (i 1 : Nat) ∧ (i 1 : Nat) < win0_4.index t 1 * 2048 + win0_4.xsize (grid0.coords t) 1
              rw [hi.2, (hx t).2]; omega

/-- So the result array ends holding `dw`. -/
theorem final : (dats m 0 c).arrAt 4 cfg0.N = dw m c :=
  (dats m 0 c).arrAt_eq_of_cover 4 (dw m c) (flushed_eq m c) cover

end Array

/-- Every run of the kernel ends with the result array at `dw` and the four arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = dw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Wgrad

end
-- ==== Proof.WgradReference.lean ====
/-
  The weight gradient's reference over the extended reals, and its equality with what the kernel's call leaves.
-/
module

public import proofs.«01_k».proof.Defs
public import proofs.«01_k».proof.Proof.WgradKernel
public import proofs.«01_k».proof.Proof.Gen.Kernel.Frame
public import proofs.«01_k».proof.Proof.Gen.ReferenceIdeal.Run

@[expose] public section

set_option maxRecDepth 16384

noncomputable section

open Idealize.ShloMosaic Idealize.ShloMosaic.TcCoe Idealize.SL.Sem
open scoped BigOperators

namespace Cert.ReferenceIdeal.Wgrad

open Cert.ReferenceIdeal Cert.ReferenceIdeal.Gen

/-- The reference's product and scaling, read at an index: the contraction over all token rows, times the product of the
    two scales. -/
theorem result_apply (a0 a1 : Vec Ideal S8x128 .f32) (a2 : Vec Ideal S13824x14336 .bf16) (a3 : Vec Ideal S13824x4096 .bf16)
    (i : Fin 14336) (j : Fin 4096) :
    (mulf (F := Ideal) (φ := .f32) (Host.dotGeneral (φ₁ := .bf16) (φ₂ := .bf16) dot_S13824x14336_S13824x4096_S14336x4096_0_0_1_1_n_n none a2 a3)
      (broadcastInDim S14336x4096 ![] bcast_S_S14336x4096
        (mulf (shapeCast S_ (extractStridedSlice S1x1 ![0, 0] a0 slices_S8x128_S1x1_0_0) shapeCasts_S1x1_S_)
          (shapeCast S_ (extractStridedSlice S1x1 ![0, 0] a1 slices_S8x128_S1x1_0_0) shapeCasts_S1x1_S_)))
      : S14336x4096.Idx → EReal) (ix2 i j)
    = (∑ k : Fin 13824, (a2 (ix2 k i) : EReal) * (a3 (ix2 k j) : EReal)) * ((a0 (ix2 0 0) : EReal) * (a1 (ix2 0 0) : EReal)) := by
  pointwise

end Cert.ReferenceIdeal.Wgrad

namespace Cert.Proof.Wgrad

/-- Over the extended reals, from equal arguments, the kernel's result array and the reference's hold the same values. -/
theorem algebraic : Cert.algebraic_KernelIdeal_ReferenceIdeal := by
  intro m ρ m' ρ' _ hagree
  refine ⟨fun c => Cert.KernelIdeal.Wgrad.dw m c, Cert.KernelIdeal.Wgrad.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Wgrad.dw m c
  rw [(hagree c).1, (hagree c).2.1, (hagree c).2.2.1, (hagree c).2.2.2]
  funext i
  rw [eq_ix2 i]
  exact Cert.ReferenceIdeal.Wgrad.result_apply _ _ _ _ (i 0) (i 1)

/-- The kernel terminates with its arguments unchanged and its semaphore counters at zero. -/
theorem frame_k : Cert.quiescent_Kernel := fun m ρ _ => Cert.Kernel.Gen.frame m ρ

/-- So does its idealization. -/
theorem frame_ki : Cert.quiescent_KernelIdeal := fun m ρ _ => Cert.KernelIdeal.Gen.frame m ρ

/-- So does the reference, which declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Wgrad

end
-- ==== Proof.DyAmaxKernel.lean ====
/-
  The call that finds the gradient's tensor scale, over the extended reals: what one grid point leaves, what the running
  maximum holds after each point, and the result as one function of the arguments.
-/
module

public import proofs.«01_k».proof.Proof.Gen.DyAmaxIdeal.Value
public import Idealize.ShloMosaic.Lib.Pointwise
public import Idealize.ShloMosaic.PureOps.Ideal.Laws

@[expose] public section

set_option maxRecDepth 16384

noncomputable section

namespace Cert.DyAmaxIdeal.DyAmax

open Cert.DyAmaxIdeal Cert.DyAmaxIdeal.Gen Idealize.ShloMosaic Idealize.ShloMosaic.TcCoe Idealize.SL.Sem
open Idealize.ShloMosaic.Pipeline (Dat)
open scoped BigOperators

theorem hz : (![0, 0] : Fin 2 → Nat) = fun _ => 0 := funext fun a => by fin_cases a <;> rfl

section Body
variable {F : FTy → Type} [FloatOps F]

theorem slices (g : Fin 32) (h : Fin 2) : S256x256.Slices ![8 * g.val, 128 * h.val] S8x128 := by
  revert g h; decide +kernel

theorem inb (a : Fin 3) (b : Fin 8) : ∀ x, (![256 * a.val, 256 * b.val] : Fin 2 → Nat) x + S256x256.size x ≤ S768x2048.size x := by
  revert a b; decide +kernel

/-- A running 8×128 maximum joined with the 64 tiles of a 256×256 block, 8 rows by 128 lanes each. -/
def step (z : FVec F S256x256 .f32) (acc : FVec F S8x128 .f32) : FVec F S8x128 .f32 :=
  List.foldl (fun acc (g : Fin 32) => maximumf acc (maximumf (extractStridedSlice S8x128 ![8 * g.val, 128 * (0 : Fin 2).val] z (slices g 0))
    (extractStridedSlice S8x128 ![8 * g.val, 128 * (1 : Fin 2).val] z (slices g 1)))) acc
    [0,1,2,3,4,5,6,7,8,9,10,11,12,13,14,15,16,17,18,19,20,21,22,23,24,25,26,27,28,29,30,31]

/-- The 24 blocks of a 768×2048 block, in the order the body takes them. -/
def blocks : List (Fin 3 × Fin 8) :=
  [(0,0),(0,1),(0,2),(0,3),(0,4),(0,5),(0,6),(0,7),(1,0),(1,1),(1,2),(1,3),(1,4),(1,5),(1,6),(1,7),
   (2,0),(2,1),(2,2),(2,3),(2,4),(2,5),(2,6),(2,7)]

/-- The magnitudes of one of the 24 blocks, transformed. -/
def zblk (x0 : Vec F S8x256 .f32) (x1 : Vec F S768x2048 .bf16) (ab : Fin 3 × Fin 8) : FVec F S256x256 .f32 :=
  k0_pay4 (k0_pay3 (View.ld x0 (Rect.unit (s := S8x256) ![0, 0] S1x256.size inb_S8x256_S1x256_0_0)))
    (View.ld x1 (Rect.unit (s := S768x2048) ![256 * ab.1.val, 256 * ab.2.val] S256x256.size (inb ab.1 ab.2)))

/-- What the body stores: the running maximum joined with the magnitudes of the 24 transformed blocks. -/
def body (x0 : Vec F S8x256 .f32) (x1 : Vec F S768x2048 .bf16) (xs : Vec F S8x128 .f32) : FVec F S8x128 .f32 :=
  shapeCast S8x128 (List.foldl (fun acc ab => step (zblk x0 x1 ab) acc) xs blocks) shapeCasts_S8x128_S8x128

end Body

section Cases
variable {F : FTy → Type} [FloatOps F]
variable (c : Dev nD) (i : grid0.Coords)
  (a2 : Memref sig .tc .vmem S8x256 .f32) (h2 : a2.IsWhole) (a3 : Memref sig .tc .vmem S768x2048 .bf16) (h3 : a3.IsWhole)
  (a4 : Memref sig .tc .vmem S8x128 .f32) (h4 : a4.IsWhole) (a5 : Memref sig .tc .vmem S8x128 .f32) (h5 : a5.IsWhole)
  (x0 : Vec F S8x256 .f32) (x1 : Vec F S768x2048 .bf16) (xs : Vec F S8x128 .f32)

theorem sout_A (hc0 : cond0_0 i) (hc1 : ¬cond0_1 i) :
    sout0_A_0 c i a2 h2 a3 h3 a4 h4 a5 h5 hc0 hc1 x0 x1 = body x0 x1 k0_pay2 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz, View.readCov_unit_zero (S := S8x128) _ hz]
  simp only [View.readAt_eq_ld, h2.read_unread, h3.read_unread]
  rfl

theorem sout_B (hc0 : ¬cond0_0 i) (hc1 : ¬cond0_1 i) :
    sout0_B_0 c i a2 h2 a3 h3 a4 h4 a5 h5 hc0 hc1 x0 x1 xs = body x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S8x128) hz]
  rfl

theorem out_C (hc0 : ¬cond0_0 i) (hc1 : cond0_1 i) :
    out0_C_2 c i a2 h2 a3 h3 a4 h4 a5 h5 hc0 hc1 x0 x1 xs = k0_pay1 (body x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S8x128) _ hz]
  simp only [View.readAt_eq_ld, h2.read_unread, h3.read_unread, h5.read_unread, View.ld_unit_zero (S := S8x128) hz]
  rfl

end Cases

/-! ## The payloads read at an index -/

/-- The magnitude of an extended real. -/
def mag (a : EReal) : EReal := max a (-a)

/-- Whether the 16-point Hadamard matrix is negative at row `i`, column `j`: the parity of the bits `i` and `j` share. -/
def neg (i j : Fin 16) : Bool :=
  (i.val.testBit 0 && j.val.testBit 0) ^^ (i.val.testBit 1 && j.val.testBit 1) ^^
    (i.val.testBit 2 && j.val.testBit 2) ^^ (i.val.testBit 3 && j.val.testBit 3)

/-- The 16-point Hadamard matrix over 4: a quarter, with sign. -/
def quarter (i j : Fin 16) : EReal :=
  if neg i j then Ideal.ofBits .f32 0xBE800000#32 else Ideal.ofBits .f32 0x3E800000#32

theorem sel {α : Type} (b : Bool) (x y : α) : Scalar.select (BitVec.ofBool b) x y = if b then x else y := by
  cases b <;> rfl

theorem shr4 : ∀ r : Fin 256, IntOp.shrsi ArithUnit.vector (BitVec.ofNat 32 ↑r) 4#32 = BitVec.ofNat 32 (r.val / 16) := by decide +kernel
theorem and15 : ∀ r : Fin 256, IntOp.andi (BitVec.ofNat 32 ↑r) 15#32 = BitVec.ofNat 32 (r.val % 16) := by decide +kernel
theorem eq_bit : ∀ i j : Fin 16, IntOp.cmpi CmpIPredicate.eq (BitVec.ofNat 32 i.val) (BitVec.ofNat 32 j.val) = BitVec.ofBool (decide (i.val = j.val)) := by
  decide +kernel

/-- The mask bit of the block-diagonal matrix. -/
theorem mask_bit (r k : Fin 256) : IntOp.cmpi CmpIPredicate.eq (IntOp.shrsi ArithUnit.vector (BitVec.ofNat 32 ↑k) 4#32)
        (IntOp.andi (BitVec.ofNat 32 ↑r) 15#32) = BitVec.ofBool (decide (k.val / 16 = r.val % 16)) := by
  rw [shr4, and15]
  exact eq_bit ⟨k.val / 16, by omega⟩ ⟨r.val % 16, by omega⟩

theorem and_and15 : ∀ (i : Fin 16) (k : Fin 256), IntOp.andi (IntOp.andi (BitVec.ofNat 32 i.val) (BitVec.ofNat 32 ↑k)) 15#32
    = IntOp.andi (BitVec.ofNat 32 i.val) (BitVec.ofNat 32 (k.val % 16)) := by decide +kernel

/-- The parity of the bits two 4-bit words share, by two foldings of the word onto itself. -/
theorem parity_bit : ∀ i j : Fin 16, IntOp.cmpi CmpIPredicate.eq
            (IntOp.andi
              (IntOp.xori
                (IntOp.xori (IntOp.andi (BitVec.ofNat 32 i.val) (BitVec.ofNat 32 j.val))
                  (IntOp.shrsi ArithUnit.vector (IntOp.andi (BitVec.ofNat 32 i.val) (BitVec.ofNat 32 j.val)) 2#32))
                (IntOp.shrsi ArithUnit.vector
                  (IntOp.xori (IntOp.andi (BitVec.ofNat 32 i.val) (BitVec.ofNat 32 j.val))
                    (IntOp.shrsi ArithUnit.vector (IntOp.andi (BitVec.ofNat 32 i.val) (BitVec.ofNat 32 j.val)) 2#32))
                  1#32))
              1#32)
            1#32 = BitVec.ofBool (neg i j) := by decide +kernel

/-- The transform's block-diagonal matrix: row `16 i + q` holds, in the 16 columns of group `q`, row `i` of the signed
    Hadamard matrix; every other column of the row is zero. -/
theorem pay3_apply (v : Vec Ideal S1x256 .f32) (r k : Fin 256) :
    (k0_pay3 (F := Ideal) v : S256x256.Idx → EReal) (ix2 r k)
      = if k.val / 16 = r.val % 16 then quarter ⟨r.val / 16, by omega⟩ ⟨k.val % 16, by omega⟩ * (v (ix2 0 k) : EReal) else 0 := by
  unfold k0_pay3
  pointwise
  rw [mask_bit, shr4]
  simp only [fun (r k : Fin 256) => and_and15 ⟨r.val / 16, by omega⟩ k]
  rw [show _ = BitVec.ofBool _ from parity_bit ⟨r.val / 16, by omega⟩ ⟨k.val % 16, by omega⟩, sel, sel]
  simp only [decide_eq_true_eq, quarter]

/-- The magnitude of the transformed block at an index. -/
theorem pay4_apply (q x : Vec Ideal S256x256 .bf16) (r l : Fin 256) :
    (k0_pay4 (F := Ideal) q x : S256x256.Idx → EReal) (ix2 r l)
      = mag (∑ k : Fin 256, (q (ix2 r k) : EReal) * (x (ix2 k l) : EReal)) := by
  unfold k0_pay4
  pointwise
  rfl

theorem pay2_apply (r : Fin 8) (l : Fin 128) : (k0_pay2 (F := Ideal) : S8x128.Idx → EReal) (ix2 r l) = 0 := by
  unfold k0_pay2
  pointwise

/-- The tensor scale of a greatest magnitude: over 2688 where it is positive, else 1. -/
def scale (a : EReal) : EReal := if 0 < a then Ideal.div a (Ideal.ofBits .f32 0x45280000#32) else 1

/-- The bit pattern of minus infinity denotes the least extended real. -/
theorem ofBits_ninf : Ideal.ofBits .f32 0xFF800000#32 = ⊥ := by simp [Ideal.ofBits, Ideal.ieee]

/-- The final store: the scale of the running maximum's greatest element. -/
theorem pay1_apply (v : Vec Ideal S8x128 .f32) (r : Fin 8) (l : Fin 128) :
    (k0_pay1 (F := Ideal) v : S8x128.Idx → EReal) (ix2 r l)
      = scale (Finset.fold max ⊥ (fun x : Fin 8 × Fin 128 => (v (ix2 x.1 x.2) : EReal)) Finset.univ) := by
  unfold k0_pay1
  pointwise
  rw [ofBits_ninf]
  rfl

/-! ## The body's fold, as a bound -/

/-- A property of a fold's result that each step turns into itself and a condition on the element: the condition on
    every element, and the property at the start. -/
theorem foldl_iff {α ι : Type} (f : α → ι → α) (p : α → Prop) (q : ι → Prop) (h : ∀ a i, p (f a i) ↔ p a ∧ q i) :
    ∀ (L : List ι) (a : α), p (L.foldl f a) ↔ p a ∧ ∀ i ∈ L, q i
  | [], a => by simp
  | i :: L, a => by
    rw [List.foldl_cons, foldl_iff f p q h L, h]
    simp only [List.mem_cons, forall_eq_or_imp, and_assoc]

/-- Every element of a block at most `M`. -/
def Le {n0 n1 : ℕ} (v : (⟨2, ![n0, n1]⟩ : Shape).Idx → EReal) (M : EReal) : Prop := ∀ (r : Fin n0) (l : Fin n1), v (ix2 r l) ≤ M

theorem tile_apply (z : FVec Ideal S256x256 .f32) (acc : FVec Ideal S8x128 .f32) (g : Fin 32) (r : Fin 8) (l : Fin 128) :
    (maximumf (F := Ideal) acc (maximumf (extractStridedSlice S8x128 ![8 * g.val, 128 * (0 : Fin 2).val] z (slices g 0))
      (extractStridedSlice S8x128 ![8 * g.val, 128 * (1 : Fin 2).val] z (slices g 1))) : S8x128.Idx → EReal) (ix2 r l)
      = max (acc (ix2 r l) : EReal) (max (z (ix2 ⟨8 * g.val + r.val, by omega⟩ ⟨l.val, by omega⟩) : EReal)
          (z (ix2 ⟨8 * g.val + r.val, by omega⟩ ⟨128 + l.val, by omega⟩) : EReal)) := by
  pointwise

/-- One block's step bounds the running maximum by `M` iff it was so bounded and so is the block. -/
theorem step_le (z : FVec Ideal S256x256 .f32) (acc : FVec Ideal S8x128 .f32) (M : EReal) :
    Le (n0 := 8) (n1 := 128) (step (F := Ideal) z acc) M ↔ Le (n0 := 8) (n1 := 128) acc M ∧ Le (n0 := 256) (n1 := 256) z M := by
  unfold step
  rw [foldl_iff _ (fun a : FVec Ideal S8x128 .f32 => Le (n0 := 8) (n1 := 128) a M)
    (fun g : Fin 32 => ∀ (r : Fin 8) (l : Fin 128), (z (ix2 ⟨8 * g.val + r.val, by omega⟩ ⟨l.val, by omega⟩) : EReal) ≤ M
      ∧ (z (ix2 ⟨8 * g.val + r.val, by omega⟩ ⟨128 + l.val, by omega⟩) : EReal) ≤ M)
    (fun a g => by
      unfold Le
      simp only [tile_apply, max_le_iff]
      exact ⟨fun h => ⟨fun r l => (h r l).1, fun r l => (h r l).2⟩, fun h r l => ⟨h.1 r l, h.2 r l⟩⟩)]
  refine and_congr_right fun _ => ⟨fun h r l => ?_, fun h g _ r l => ⟨h _ _, h _ _⟩⟩
  have hg : ∀ g : Fin 32, g ∈ ([0,1,2,3,4,5,6,7,8,9,10,11,12,13,14,15,16,17,18,19,20,21,22,23,24,25,26,27,28,29,30,31] : List (Fin 32)) := by decide
  have h' := h ⟨r.val / 8, by omega⟩ (hg _) ⟨r.val % 8, by omega⟩ ⟨l.val % 128, by omega⟩
  by_cases hl : l.val < 128
  · convert h'.1 using 3
    · apply Fin.ext; show r.val = 8 * (r.val / 8) + r.val % 8; omega
    · apply Fin.ext; show l.val = l.val % 128; omega
  · convert h'.2 using 3
    · apply Fin.ext; show r.val = 8 * (r.val / 8) + r.val % 8; omega
    · apply Fin.ext; show l.val = 128 + l.val % 128; omega

/-- The signed Hadamard transform of 16 values: row `i` over 4, against a sign per column. -/
def had (s : Fin 16 → EReal) (x : Fin 16 → EReal) (i : Fin 16) : EReal := ∑ j : Fin 16, quarter i j * s j * x j

theorem had_congr {s x x' : Fin 16 → EReal} {i i' : Fin 16} (h : ∀ j, x j = x' j) (hi : i = i') : had s x i = had s x' i' := by
  rw [show x = x' from funext h, hi]

theorem ix2_ext {n0 n1 : ℕ} {a a' : Fin n0} {b b' : Fin n1} (ha : a.val = a'.val) (hb : b.val = b'.val) :
    (ix2 a b : (⟨2, ![n0, n1]⟩ : Shape).Idx) = ix2 a' b' := by
  rw [Fin.ext ha, Fin.ext hb]

/-- A row of the block-diagonal matrix against a column of the block is the transform of one group of 16. -/
theorem row_sum (s : Fin 16 → EReal) (v : Vec Ideal S1x256 .f32)
    (hv : ∀ k : Fin 256, (v (ix2 0 k) : EReal) = s ⟨k.val % 16, by omega⟩) (x : Vec Ideal S256x256 .bf16) (r l : Fin 256) :
    ∑ k : Fin 256, ((k0_pay3 (F := Ideal) v) (ix2 r k) : EReal) * (x (ix2 k l) : EReal)
      = had s (fun j => (x (ix2 ⟨16 * (r.val % 16) + j.val, by omega⟩ l) : EReal)) ⟨r.val / 16, by omega⟩ := by
  rw [← (finProdFinEquiv (m := 16) (n := 16)).sum_comp (fun k : Fin 256 => ((k0_pay3 (F := Ideal) v) (ix2 r k) : EReal) * (x (ix2 k l) : EReal)),
    Fintype.sum_prod_type, Finset.sum_eq_single (⟨r.val % 16, by omega⟩ : Fin 16)]
  · unfold had
    refine Finset.sum_congr rfl fun j _ => ?_
    have e : (finProdFinEquiv ((⟨r.val % 16, by omega⟩ : Fin 16), j) : Fin 256) = ⟨16 * (r.val % 16) + j.val, by omega⟩ :=
      Fin.ext (by show j.val + 16 * (r.val % 16) = 16 * (r.val % 16) + j.val; omega)
    rw [e, pay3_apply, if_pos (by show (16 * (r.val % 16) + j.val) / 16 = _; omega), hv]
    have e2 : (⟨(16 * (r.val % 16) + j.val) % 16, by omega⟩ : Fin 16) = j := Fin.ext (by show (16 * (r.val % 16) + j.val) % 16 = j.val; omega)
    simp only [e2]
  · intro q _ hq
    refine Finset.sum_eq_zero fun j _ => ?_
    rw [pay3_apply, if_neg, zero_mul]
    show ¬(j.val + 16 * q.val) / 16 = r.val % 16
    intro h
    exact hq (Fin.ext (by show q.val = r.val % 16; omega))
  · intro h
    exact absurd (Finset.mem_univ _) h

/-- The transformed magnitudes of a 768×2048 block at most `M`: at every group of 16 rows, column and transform row. -/
def BlockLe (s : Fin 16 → EReal) (x : S768x2048.Idx → EReal) (M : EReal) : Prop :=
  ∀ (p : Fin 48) (e : Fin 2048) (i : Fin 16), mag (had s (fun j => x (ix2 ⟨16 * p.val + j.val, by omega⟩ e)) i) ≤ M

theorem ld0_apply (x0 : Vec Ideal S8x256 .f32) (k : Fin 256) :
    (View.ld x0 (Rect.unit (s := S8x256) ![0, 0] S1x256.size inb_S8x256_S1x256_0_0) (ix2 0 k) : EReal) = x0 (ix2 0 k) := by
  show x0 _ = x0 _
  congr 1
  funext a
  apply Fin.ext
  match a with
  | ⟨0, _⟩ => rfl
  | ⟨1, _⟩ => show 0 + 1 * k.val = k.val; omega

theorem ld1_apply (x1 : Vec Ideal S768x2048 .bf16) (a : Fin 3) (b : Fin 8) (r l : Fin 256) :
    (View.ld x1 (Rect.unit (s := S768x2048) ![256 * a.val, 256 * b.val] S256x256.size (inb a b)) (ix2 r l) : EReal)
      = x1 (ix2 ⟨256 * a.val + r.val, by omega⟩ ⟨256 * b.val + l.val, by omega⟩) := by
  show x1 _ = x1 _
  congr 1
  funext d
  apply Fin.ext
  match d with
  | ⟨0, _⟩ => show 256 * a.val + 1 * r.val = 256 * a.val + r.val; omega
  | ⟨1, _⟩ => show 256 * b.val + 1 * l.val = 256 * b.val + l.val; omega

theorem cast_apply (v : FVec Ideal S8x128 .f32) (r : Fin 8) (l : Fin 128) :
    (shapeCast (α := Ideal .f32) S8x128 v shapeCasts_S8x128_S8x128 : S8x128.Idx → EReal) (ix2 r l) = v (ix2 r l) := by
  pointwise

/-- What the body stores is bounded by `M` iff what it read was, and every transformed magnitude of the block is. -/
theorem body_le (s : Fin 16 → EReal) (x0 : Vec Ideal S8x256 .f32) (x1 : Vec Ideal S768x2048 .bf16) (xs : Vec Ideal S8x128 .f32)
    (hs : ∀ k : Fin 256, (x0 (ix2 0 k) : EReal) = s ⟨k.val % 16, by omega⟩) (M : EReal) :
    Le (n0 := 8) (n1 := 128) (body (F := Ideal) x0 x1 xs) M ↔ Le (n0 := 8) (n1 := 128) xs M ∧ BlockLe s x1 M := by
  have hc : ∀ v : FVec Ideal S8x128 .f32, Le (n0 := 8) (n1 := 128) (shapeCast (α := Ideal .f32) S8x128 v shapeCasts_S8x128_S8x128) M
      ↔ Le (n0 := 8) (n1 := 128) v M := fun v => by
    unfold Le
    simp only [cast_apply]
  unfold body
  rw [hc]
  refine (foldl_iff _ (fun a : FVec Ideal S8x128 .f32 => Le (n0 := 8) (n1 := 128) a M)
    (fun ab => Le (n0 := 256) (n1 := 256) (zblk (F := Ideal) x0 x1 ab) M) (fun a ab => step_le _ a M) _ _).trans ?_
  refine and_congr_right fun _ => ?_
  have hz : ∀ (a : Fin 3) (b : Fin 8) (r l : Fin 256),
      (zblk (F := Ideal) x0 x1 (a, b) : S256x256.Idx → EReal) (ix2 r l)
      = mag (had s (fun j => (x1 (ix2 ⟨256 * a.val + (16 * (r.val % 16) + j.val), by omega⟩ ⟨256 * b.val + l.val, by omega⟩) : EReal)) ⟨r.val / 16, by omega⟩) :=
    fun a b r l => by
      unfold zblk
      rw [pay4_apply, row_sum s _ (fun k => (ld0_apply x0 k).trans (hs k))]
      exact congrArg mag (had_congr (fun j => ld1_apply x1 a b _ _) rfl)
  constructor
  · intro h p e i
    have hb : ∀ (a : Fin 3) (b : Fin 8), (a, b) ∈ blocks := by decide
    have h' := h _ (hb ⟨p.val / 16, by omega⟩ ⟨e.val / 256, by omega⟩) ⟨16 * i.val + p.val % 16, by omega⟩ ⟨e.val % 256, by omega⟩
    rw [hz] at h'
    refine le_of_eq_of_le (congrArg mag (had_congr (fun j => congrArg x1 (ix2_ext ?_ ?_)) (Fin.ext ?_))) h'
    · show 16 * p.val + j.val = 256 * (p.val / 16) + (16 * ((16 * i.val + p.val % 16) % 16) + j.val)
      omega
    · show e.val = 256 * (e.val / 256) + e.val % 256
      omega
    · show i.val = (16 * i.val + p.val % 16) / 16
      omega
  · intro h ab _ r l
    rw [hz ab.1 ab.2]
    refine le_of_eq_of_le (congrArg mag (had_congr (fun j => congrArg x1 (ix2_ext ?_ rfl)) rfl))
      (h ⟨16 * ab.1.val + r.val % 16, by omega⟩ ⟨256 * ab.2.val + l.val, by omega⟩ ⟨r.val / 16, by omega⟩)
    show 256 * ab.1.val + (16 * (r.val % 16) + j.val) = 16 * (16 * ab.1.val + r.val % 16) + j.val
    omega

/-! ## The arrays the windows stage -/

section Array
variable (m : (ℓ : Loc nD τ sig) → Buf (Elt Ideal) ℓ) (ρ : Dev nD → PrngReg) (c : Dev nD)

/-- The two arguments as arrays of extended reals: the gradient, and the signs. -/
abbrev dyA : S6x2304x14336.Idx → EReal := m ((c : Thread nD τ).loc main_arg0)
abbrev sgA : S16.Idx → EReal := m ((c : Thread nD τ).loc main_arg1)

theorem V4 : V m c main_v4 = broadcastInDim (α := Ideal .f32) S8x256 ![0, 1] bcast_S1x256_S8x256_0_1 (broadcastInDim (α := Ideal .f32) S1x256 ![1] bcast_S256_S1x256_1
    (shapeCast (α := Ideal .f32) S256 (broadcastInDim (α := Ideal .f32) S16x16 ![0, 1] bcast_S1x16_S16x16_0_1 (shapeCast (α := Ideal .f32) S1x16 (sgA m c) shapeCasts_S16_S1x16)) shapeCasts_S16x16_S256)) := by
  unfold V
  simp only [hostOps0]
  after_results_simp <;> rfl

theorem V5 : V m c main_v5 = shapeCast (α := Ideal .bf16) S13824x14336 (dyA m c) shapeCasts_S6x2304x14336_S13824x14336 := by
  unfold V
  simp only [hostOps0]
  after_results_simp <;> rfl

theorem V4_apply (k : Fin 256) : (V m c main_v4 : S8x256.Idx → EReal) (ix2 0 k) = sgA m c (ix1 ⟨k.val % 16, by omega⟩) := by
  rw [V4]
  pointwise

theorem V5_apply (T : Fin 13824) (e : Fin 14336) : (V m c main_v5 : S13824x14336.Idx → EReal) (ix2 T e) = dyA m c (ix3 ⟨T.val / 2304, by omega⟩ ⟨T.val % 2304, by omega⟩ e) := by
  rw [V5]
  pointwise

theorem lt126 (t : Fin cfg0.N) : t.val < 126 := lt_of_lt_of_eq t.isLt N_0

theorem index0 : ∀ t : Fin grid0.N, win0_0.index t 0 = 0 ∧ win0_0.index t 1 = 0 := by decide +kernel
theorem index1 : ∀ t : Fin grid0.N, win0_1.index t 0 = t.val % 18 ∧ win0_1.index t 1 = t.val / 18 := by decide +kernel

/-- The blocks of the signs and of the gradient at a point, as arrays of extended reals. -/
abbrev sgBlk (t : Fin cfg0.N) : S8x256.Idx → EReal := iblk m c 0 t
abbrev dyBlk (t : Fin cfg0.N) : S768x2048.Idx → EReal := iblk m c 1 t

/-- The sign of each of the 16 positions of a group. -/
def sg (j : Fin 16) : EReal := sgA m c (ix1 j)

theorem blk0 (t : Fin cfg0.N) (k : Fin 256) : sgBlk m c t (ix2 0 k) = sg m c ⟨k.val % 16, by omega⟩ := by
  have hi := index0 t
  refine Eq.trans ?_ (V4_apply m c k)
  unfold sgBlk iblk
  rw [View.read_apply]
  show V m c main_v4 _ = V m c main_v4 _
  congr 1
  funext a
  apply Fin.ext
  match a with
  | ⟨0, _⟩ => show win0_0.index t 0 * 8 + 1 * 0 = 0; rw [hi.1]
  | ⟨1, _⟩ => show win0_0.index t 1 * 256 + 1 * k.val = k.val; rw [hi.2]; omega

/-- The gradient at a token row (the batches end to end) and a column. -/
def dyRow (T : Fin 13824) (e : Fin 14336) : EReal := dyA m c (ix3 ⟨T.val / 2304, by omega⟩ ⟨T.val % 2304, by omega⟩ e)

theorem blk1 (t : Fin cfg0.N) (r : Fin 768) (l : Fin 2048) :
    dyBlk m c t (ix2 r l) = dyRow m c ⟨768 * (t.val % 18) + r.val, by omega⟩ ⟨2048 * (t.val / 18) + l.val, by have := lt126 t; omega⟩ := by
  have hi := index1 t
  refine Eq.trans ?_ (V5_apply m c _ _)
  unfold dyBlk iblk
  rw [View.read_apply]
  show V m c main_v5 _ = V m c main_v5 _
  congr 1
  funext a
  apply Fin.ext
  match a with
  | ⟨0, _⟩ => show win0_1.index t 0 * 768 + 1 * r.val = 768 * (t.val % 18) + r.val; rw [hi.1]; omega
  | ⟨1, _⟩ => show win0_1.index t 1 * 2048 + 1 * l.val = 2048 * (t.val / 18) + l.val; rw [hi.2]; omega

/-- The transformed gradient's magnitude: group `T` of 16 token rows, column `e`, row `i` of the transform. -/
def tmag (T : Fin 864) (e : Fin 14336) (i : Fin 16) : EReal :=
  mag (had (sg m c) (fun j => dyRow m c ⟨16 * T.val + j.val, by omega⟩ e) i)

/-- A point's block is the transformed magnitudes of its 48 groups and 2048 columns. -/
theorem blockLe_iff (t : Fin cfg0.N) (M : EReal) :
    BlockLe (sg m c) (dyBlk m c t) M ↔ ∀ (p : Fin 48) (e : Fin 2048) (i : Fin 16),
      tmag m c ⟨48 * (t.val % 18) + p.val, by omega⟩ ⟨2048 * (t.val / 18) + e.val, by have := lt126 t; omega⟩ i ≤ M := by
  unfold BlockLe tmag
  refine forall_congr' fun p => forall_congr' fun e => forall_congr' fun i => ?_
  refine iff_of_eq (congrArg (fun z => mag z ≤ M) (had_congr (fun j => ?_) rfl))
  rw [blk1]
  congr 1
  apply Fin.ext
  show 768 * (t.val % 18) + (16 * p.val + j.val) = 16 * (48 * (t.val % 18) + p.val) + j.val
  omega

/-! ## The running maximum -/

theorem pay2_le (M : EReal) : Le (n0 := 8) (n1 := 128) (k0_pay2 (F := Ideal)) M ↔ 0 ≤ M := by
  unfold Le
  simp only [pay2_apply]
  exact ⟨fun h => h 0 0, fun h _ _ => h⟩

/-- After point `n` the scratch is at most `M` iff zero is, and the transformed magnitudes of every block so far are. -/
theorem scratch_le : ∀ (n : ℕ) (h : n < cfg0.N) (M : EReal), n ≠ 125 →
    (Le (n0 := 8) (n1 := 128) (outsAt0 m c n h).2 M
      ↔ 0 ≤ M ∧ ∀ t : Fin cfg0.N, t.val ≤ n → BlockLe (sg m c) (dyBlk m c t) M) := by
  intro n
  induction n with
  | zero =>
    intro h M _
    rw [show outsAt0 m c 0 h = _ from outsAt0_A m c ⟨0, h⟩ rfl (by show ¬0 % 126 = 125; omega)]
    dsimp only
    rw [sout_A, body_le (sg m c) _ _ _ (fun k => blk0 m c ⟨0, h⟩ k), pay2_le]
    refine and_congr_right fun _ => ⟨fun hb t ht => ?_, fun hb => hb ⟨0, h⟩ (le_refl _)⟩
    have e : t = ⟨0, h⟩ := Fin.ext (Nat.le_zero.mp ht)
    rw [e]
    exact hb
  | succ n ih =>
    intro h M hne
    have hN := lt126 ⟨n + 1, h⟩
    have hN' : n + 1 < 126 := hN
    rw [show outsAt0 m c (n + 1) h = _ from outsAt0_B m c ⟨n + 1, h⟩ (by show ¬(n + 1) % 126 = 0; omega) (by show ¬(n + 1) % 126 = 125; omega)]
    dsimp only
    rw [sout_B, body_le (sg m c) _ _ _ (fun k => blk0 m c ⟨n + 1, h⟩ k)]
    refine (and_congr_left' (ih (Nat.lt_of_succ_lt h) M (by omega))).trans ?_
    rw [and_assoc]
    refine and_congr_right fun _ => ⟨fun hb t ht => ?_, fun hb => ⟨fun t ht => hb t (by omega), hb ⟨n + 1, h⟩ (le_refl _)⟩⟩
    by_cases ht' : t.val ≤ n
    · exact hb.1 t ht'
    · have e : t = ⟨n + 1, h⟩ := Fin.ext (by show t.val = n + 1; omega)
      rw [e]
      exact hb.2

/-- The greatest transformed magnitude. -/
def amax : EReal := ⨆ k : Fin 864 × Fin 14336 × Fin 16, tmag m c k.1 k.2.1 k.2.2

theorem mag_nonneg (a : EReal) : 0 ≤ mag a := by
  unfold mag
  rcases le_total 0 a with h | h
  · exact le_max_of_le_left h
  · exact le_max_of_le_right (EReal.neg_nonneg.mpr h)

theorem amax_le_iff (M : EReal) : amax m c ≤ M ↔ ∀ (T : Fin 864) (e : Fin 14336) (i : Fin 16), tmag m c T e i ≤ M := by
  unfold amax
  rw [iSup_le_iff]
  exact ⟨fun h T e i => h (T, e, i), fun h k => h k.1 k.2.1 k.2.2⟩

theorem fold_le_iff {ι : Type} [Fintype ι] (f : ι → EReal) (M : EReal) :
    Finset.fold max ⊥ f Finset.univ ≤ M ↔ ∀ i, f i ≤ M := by
  rw [Finset.fold_max_le]
  exact ⟨fun h i => h.2 i (Finset.mem_univ _), fun h => ⟨bot_le, fun i _ => h i⟩⟩

/-- After the last point the result block holds the scale of the greatest transformed magnitude, at every element. -/
theorem outs_last (h : 125 < cfg0.N) (r : Fin 8) (l : Fin 128) :
    ((outsAt0 m c 125 h).1 : S8x128.Idx → EReal) (ix2 r l) = scale (amax m c) := by
  rw [show outsAt0 m c 125 h = _ from outsAt0_C m c ⟨125, h⟩ (by show ¬125 % 126 = 0; omega) (by show 125 % 126 = 125; omega)]
  dsimp only
  rw [out_C, pay1_apply]
  refine congrArg scale (eq_of_forall_ge_iff fun M => ?_)
  rw [fold_le_iff, amax_le_iff]
  refine Iff.trans (b := Le (n0 := 8) (n1 := 128) (body (F := Ideal) (iblk m c 0 ⟨125, h⟩) (iblk m c 1 ⟨125, h⟩) (outsAt0 m c 124 (Nat.lt_of_succ_lt h)).2) M)
    ⟨fun hb r l => hb (r, l), fun hb x => hb x.1 x.2⟩ ?_
  rw [body_le (sg m c) _ _ _ (fun k => blk0 m c ⟨125, h⟩ k)]
  refine (and_congr_left' (scratch_le m c 124 _ M (by omega))).trans ?_
  constructor
  · rintro ⟨⟨_, h1⟩, h2⟩ T e i
    have key : ∀ t : Fin cfg0.N, BlockLe (sg m c) (dyBlk m c t) M := fun t => by
      by_cases ht : t.val ≤ 124
      · exact h1 t ht
      · have e : t = ⟨125, h⟩ := Fin.ext (by have := lt126 t; show t.val = 125; omega)
        rw [e]
        exact h2
    have h' := (blockLe_iff m c ⟨18 * (e.val / 2048) + T.val / 48, by show _ < grid0.N; rw [Gen.N_0]; omega⟩ M).mp (key _)
      ⟨T.val % 48, by omega⟩ ⟨e.val % 2048, by omega⟩ i
    convert h' using 2
    · apply Fin.ext
      show T.val = 48 * ((18 * (e.val / 2048) + T.val / 48) % 18) + T.val % 48
      omega
    · apply Fin.ext
      show e.val = 2048 * ((18 * (e.val / 2048) + T.val / 48) / 18) + e.val % 2048
      omega
  · intro hb
    refine ⟨⟨(mag_nonneg _).trans (hb 0 0 0), fun t _ => (blockLe_iff m c t M).mpr fun p e i => hb _ _ i⟩,
      (blockLe_iff m c ⟨125, h⟩ M).mpr fun p e i => hb _ _ i⟩

/-- What the call computes: the scale at every element of its 8×128 result. -/
def ts : S8x128.Idx → EReal := fun _ => scale (amax m c)

theorem final : Value.G2 m c = ts m c := by
  rw [Value.G2_last]
  have e := Value.outsAt0_sweep m c 125 (lt_of_lt_of_eq (by decide) N_0.symm)
  rw [← e]
  funext j
  exact (congrArg _ (eq_ix2 (n0 := 8) (n1 := 128) j)).trans (outs_last m c _ _ _)

end Array

/-- Every run of the kernel ends with the result array at `ts` and the two arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v6) = ts m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run m ρ)

end Cert.DyAmaxIdeal.DyAmax

end
-- ==== Proof.DyAmaxReference.lean ====
/-
  The reference of the gradient's tensor scale, read over the extended reals: the greatest magnitude of the transformed
  gradient is the same supremum as the kernel's, and so is the scale made of it. With it the claims about the three
  programs.
-/
module

public import proofs.«01_k».proof.Defs
public import proofs.«01_k».proof.Proof.DyAmaxKernel
public import proofs.«01_k».proof.Proof.Gen.DyAmax.Frame
public import proofs.«01_k».proof.Proof.Gen.DyAmaxIdeal.Frame
public import proofs.«01_k».proof.Proof.Gen.DyAmaxRefIdeal.Run

@[expose] public section

set_option maxRecDepth 16384

noncomputable section

open Idealize.ShloMosaic Idealize.ShloMosaic.TcCoe Idealize.SL.Sem
open scoped BigOperators

namespace Cert.DyAmaxRefIdeal.DyAmax

open Cert.DyAmaxRefIdeal Cert.DyAmaxRefIdeal.Gen
open Cert.DyAmaxIdeal.DyAmax (mag had quarter neg scale tmag)

/-- One minus twice the parity of the bits two indices share. -/
abbrev signs : IVec S16x16 32 :=
  subi (broadcastInDim S16x16 ![] bcast_S_S16x16 (constantI S_ 32 1#32)) (muli (broadcastInDim S16x16 ![] bcast_S_S16x16 (constantI S_ 32 2#32)) (andi (ctpop (andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0))))) (broadcastInDim S16x16 ![] bcast_S_S16x16 (constantI S_ 32 1#32))))

/-- The signed Hadamard matrix over 4, as the reference makes it. -/
abbrev matrix (sg : Vec Ideal S16 .f32) : Vec Ideal S16x16 .f32 :=
  mulf (F := Ideal) (φ := .f32) (mulf (F := Ideal) (φ := .f32) (sitofp .f32 signs) (broadcastInDim (α := Ideal .f32) S16x16 ![0, 1] bcast_S1x16_S16x16_0_1 (broadcastInDim (α := Ideal .f32) S1x16 ![1] bcast_S16_S1x16_1 sg))) (broadcastInDim (α := Ideal .f32) S16x16 ![] bcast_S_S16x16 (constant S_ .f32 0x3E800000#32))

/-- The magnitudes of the transformed gradient, as the reference makes them. -/
abbrev mags (dy : Vec Ideal S6x2304x14336 .bf16) (q : Vec Ideal S16x16 .f32) : Vec Ideal S6x2304x14336 .f32 :=
  Host.absf (F := Ideal) (φ := .f32) (shapeCast (α := Ideal .f32) S6x2304x14336 (transpose (α := Ideal .f32) S6x144x16x14336 [0, 1, 3, 2] (Host.dotGeneral (φ₁ := .f32) (φ₂ := .f32) dot_S6x144x16x14336_S16x16_S6x144x14336x16_2_1_013_0_n_n (some .fp32) (shapeCast (α := Ideal .f32) S6x144x16x14336 (extf .f32 dy bitsLt_bf16_f32) shapeCasts_S6x2304x14336_S6x144x16x14336) q) transposes_S6x144x14336x16_S6x144x16x14336_0_1_3_2) shapeCasts_S6x144x16x14336_S6x2304x14336)

abbrev greatest (z : Vec Ideal S6x2304x14336 .f32) : Vec Ideal S_ .f32 :=
  Host.reduce (α := Ideal .f32) FloatOps.maximumf z (constant S_ .f32 0xFF800000#32) reducesTo_S6x2304x14336_S_d0_1_2 h_S_

theorem signs_apply (i j : Fin 16) : signs (ix2 i j) = if neg i j then -1#32 else 1#32 := by
  have e : ∀ i j : Fin 16, IntOp.subi 1#32 (IntOp.muli 2#32 (IntOp.andi (IntOp.ctpop (IntOp.andi (BitVec.ofNat 32 i.val) (BitVec.ofNat 32 j.val))) 1#32))
    = if neg i j then -1#32 else 1#32 := by decide +kernel
  rw [← e]
  unfold signs
  pointwise

/-- The bit pattern of minus a quarter denotes the negative of what the pattern of a quarter denotes. -/
theorem quarter_neg : Ideal.ofBits .f32 0xBE800000#32 = -Ideal.ofBits .f32 0x3E800000#32 := by
  simp [Ideal.ofBits, Ideal.ieee]

theorem matrix_apply (sg : Vec Ideal S16 .f32) (i j : Fin 16) :
    (matrix sg : S16x16.Idx → EReal) (ix2 i j) = quarter i j * (sg (ix1 j) : EReal) := by
  have e : (matrix sg : S16x16.Idx → EReal) (ix2 i j)
      = (((signs (ix2 i j)).toInt : ℝ) : EReal) * (sg (ix1 j) : EReal) * Ideal.ofBits .f32 0x3E800000#32 := by
    unfold matrix
    pointwise
    rfl
  rw [e, signs_apply]
  unfold quarter
  cases neg i j
  · rw [if_neg (by decide), if_neg (by decide), mul_comm]
    show _ * ((((1 : ℤ) : ℝ) : EReal) * _) = _
    rw [Int.cast_one, EReal.coe_one, one_mul]
  · rw [if_pos rfl, if_pos rfl, mul_comm, quarter_neg]
    show _ * ((((-1 : ℤ) : ℝ) : EReal) * _) = _
    rw [Int.cast_neg, Int.cast_one, EReal.coe_neg, EReal.coe_one, EReal.neg_mul, one_mul, mul_neg, neg_mul]

theorem mags_apply (dy : Vec Ideal S6x2304x14336 .bf16) (q : Vec Ideal S16x16 .f32) (b : Fin 6) (t : Fin 2304) (e : Fin 14336) :
    (mags dy q : S6x2304x14336.Idx → EReal) (ix3 b t e)
      = mag (∑ j : Fin 16, (dy (ix3 b ⟨t.val / 16 * 16 + j.val, by omega⟩ e) : EReal) * (q (ix2 ⟨t.val % 16, by omega⟩ j) : EReal)) := by
  unfold mags
  pointwise
  rfl

theorem greatest_apply (z : Vec Ideal S6x2304x14336 .f32) (i : S_.Idx) :
    (greatest z : S_.Idx → EReal) i
      = Finset.fold max ⊥ (fun k : Fin 6 × Fin 2304 × Fin 14336 => (z (ix3 k.1 k.2.1 k.2.2) : EReal)) Finset.univ := by
  unfold greatest
  pointwise
  rw [Cert.DyAmaxIdeal.DyAmax.ofBits_ninf]

/-- The scale made of the greatest magnitude, at every element. -/
theorem scale_apply (g : Vec Ideal S_ .f32) (r : Fin 8) (l : Fin 128) :
    (broadcastInDim (α := Ideal .f32) S8x128 ![] bcast_S_S8x128 (select (cmpf (F := Ideal) (φ := .f32) .ogt g (constant S_ .f32 0x00000000#32))
      (Host.divf (F := Ideal) (φ := .f32) g (constant S_ .f32 0x45280000#32)) (id (constant S_ .f32 0x3F800000#32))) : S8x128.Idx → EReal) (ix2 r l)
      = scale (g ix0 : EReal) := by
  unfold id
  pointwise
  rfl

end Cert.DyAmaxRefIdeal.DyAmax

namespace Cert.Proof.DyAmax

open Cert.DyAmaxIdeal.DyAmax

/-- The greatest magnitude the reference finds is the supremum the kernel finds. -/
theorem greatest_eq (m : (ℓ : Loc Cert.DyAmaxIdeal.nD Cert.DyAmaxIdeal.τ Cert.DyAmaxIdeal.sig) → Buf (Elt Ideal) ℓ)
    (c : Dev Cert.DyAmaxIdeal.nD) (i : Cert.DyAmaxRefIdeal.S_.Idx) :
    (Cert.DyAmaxRefIdeal.DyAmax.greatest (Cert.DyAmaxRefIdeal.DyAmax.mags (dyA m c) (Cert.DyAmaxRefIdeal.DyAmax.matrix (sgA m c)))
      : Cert.DyAmaxRefIdeal.S_.Idx → EReal) i = amax m c := by
  rw [Cert.DyAmaxRefIdeal.DyAmax.greatest_apply]
  refine eq_of_forall_ge_iff fun M => ?_
  rw [fold_le_iff, amax_le_iff]
  have key : ∀ (b : Fin 6) (t : Fin 2304) (e : Fin 14336),
      (Cert.DyAmaxRefIdeal.DyAmax.mags (dyA m c) (Cert.DyAmaxRefIdeal.DyAmax.matrix (sgA m c)) : Cert.DyAmaxRefIdeal.S6x2304x14336.Idx → EReal) (ix3 b t e)
        = tmag m c ⟨144 * b.val + t.val / 16, by omega⟩ e ⟨t.val % 16, by omega⟩ := fun b t e => by
    rw [Cert.DyAmaxRefIdeal.DyAmax.mags_apply]
    unfold tmag had
    refine congrArg mag (Finset.sum_congr rfl fun j _ => ?_)
    rw [Cert.DyAmaxRefIdeal.DyAmax.matrix_apply, mul_comm]
    refine congrArg _ ?_
    unfold dyRow
    congr 2
    · apply Fin.ext
      show b.val = (16 * (144 * b.val + t.val / 16) + j.val) / 2304
      omega
    · apply Fin.ext
      show t.val / 16 * 16 + j.val = (16 * (144 * b.val + t.val / 16) + j.val) % 2304
      omega
  constructor
  · intro h T e i
    have h' := h (⟨T.val / 144, by omega⟩, ⟨16 * (T.val % 144) + i.val, by omega⟩, e)
    rw [key] at h'
    convert h' using 2
    · apply Fin.ext
      show T.val = 144 * (T.val / 144) + (16 * (T.val % 144) + i.val) / 16
      omega
    · apply Fin.ext
      show i.val = (16 * (T.val % 144) + i.val) % 16
      omega
  · intro h k
    rw [key]
    exact h _ _ _

/-- Over the extended reals, from equal arguments, the kernel's result array and the reference's hold the same values. -/
theorem algebraic : Cert.algebraic_DyAmaxIdeal_DyAmaxRefIdeal := by
  intro m ρ m' ρ' _ hagree
  refine ⟨fun c => ts m c, run m ρ, ?_⟩
  refine (θ_run Cert.DyAmaxRefIdeal.defs _ _).mono (fun _ h c => ⟨(h c).1.trans ?_, (h c).2⟩)
    (Cert.DyAmaxRefIdeal.Value.run (F := Ideal) m' ρ')
  show _ = ts m c
  rw [(hagree c).1, (hagree c).2]
  funext i
  rw [eq_ix2 i]
  exact (Cert.DyAmaxRefIdeal.DyAmax.scale_apply (Cert.DyAmaxRefIdeal.DyAmax.greatest
    (Cert.DyAmaxRefIdeal.DyAmax.mags (dyA m c) (Cert.DyAmaxRefIdeal.DyAmax.matrix (sgA m c)))) (i 0) (i 1)).trans
    (congrArg scale (greatest_eq m c _))

/-- The kernel terminates with its arguments unchanged and its semaphore counters at zero. -/
theorem frame_k : Cert.quiescent_DyAmax := fun m ρ _ => Cert.DyAmax.Gen.frame m ρ

/-- So does its idealization. -/
theorem frame_ki : Cert.quiescent_DyAmaxIdeal := fun m ρ _ => Cert.DyAmaxIdeal.Gen.frame m ρ

/-- So does the reference, which declares no semaphore. -/
theorem frame_ri : Cert.quiescent_DyAmaxRefIdeal := fun m ρ _ =>
  (θ_run Cert.DyAmaxRefIdeal.defs _ _).mono (fun r h => ⟨fun c => (h c).2, sem_eq_zero_of_no_sems (by decide) r.2⟩)
    (Cert.DyAmaxRefIdeal.Value.run (F := Ideal) m ρ)

end Cert.Proof.DyAmax

end
-- ==== Proof.Magnitude.lean ====
/-
  Sums of extended reals and their magnitudes: a common factor moves out of the greatest magnitude of the transforms
  of a family of groups, whatever the factor and the values are.
-/
module

public import proofs.«01_k».proof.Proof.DyAmaxKernel

@[expose] public section

noncomputable section

namespace Cert.Magnitude

open Idealize.ShloMosaic Cert.DyAmaxIdeal.DyAmax
open scoped BigOperators

theorem mag_mul (a b : EReal) : mag (a * b) = mag a * mag b := by
  have h : ∀ a : EReal, mag a = a ∨ mag a = -a := fun a => by unfold mag; exact max_choice _ _
  have hp : ∀ a : EReal, 0 ≤ a → mag a = a := fun a ha => by
    unfold mag
    exact max_eq_left ((EReal.neg_le_neg_iff.mpr ha).trans (by simpa using ha))
  have hn : ∀ a : EReal, mag (-a) = mag a := fun a => by unfold mag; rw [neg_neg, max_comm]
  rcases le_total 0 a with ha | ha <;> rcases le_total 0 b with hb | hb
  · rw [hp a ha, hp b hb, hp _ (mul_nonneg ha hb)]
  · have hb' : 0 ≤ -b := EReal.neg_nonneg.mpr hb
    rw [← hn b, hp a ha, hp _ hb', ← hn (a * b), ← mul_neg, hp _ (mul_nonneg ha hb')]
  · have ha' : 0 ≤ -a := EReal.neg_nonneg.mpr ha
    rw [← hn a, hp b hb, hp _ ha', ← hn (a * b), ← neg_mul, hp _ (mul_nonneg ha' hb)]
  · have ha' : 0 ≤ -a := EReal.neg_nonneg.mpr ha
    have hb' : 0 ≤ -b := EReal.neg_nonneg.mpr hb
    rw [← hn a, ← hn b, hp _ hb', hp _ ha', ← neg_mul_neg, hp _ (mul_nonneg ha' hb')]

theorem mag_zero : mag 0 = 0 := by unfold mag; simp

theorem mag_coe (x : ℝ) : mag (x : EReal) = ((|x| : ℝ) : EReal) := by
  unfold mag
  rw [← EReal.coe_neg]
  exact (EReal.coe_strictMono.monotone.map_max (a := x) (b := -x)).symm

theorem mag_top : mag ⊤ = ⊤ := by unfold mag; simp
theorem mag_bot : mag ⊥ = ⊤ := by unfold mag; simp

/-- A value of finite magnitude is a real. -/
theorem real_of_mag {a : EReal} (h : mag a ≠ ⊤) : ∃ x : ℝ, a = (x : EReal) := by
  induction a with
  | bot => exact absurd mag_bot h
  | top => exact absurd mag_top h
  | coe x => exact ⟨x, rfl⟩

theorem mag_add_top (a b : EReal) : mag (a + b) = ⊤ ↔ mag a = ⊤ ∨ mag b = ⊤ := by
  induction a with
  | bot => simp [mag_bot]
  | top => induction b with
    | bot => simp [mag_bot, mag_top]
    | top => simp [mag_top]
    | coe y => simp [mag_top]
  | coe x => induction b with
    | bot => simp [mag_bot]
    | top => simp [mag_top]
    | coe y => rw [← EReal.coe_add, mag_coe, mag_coe, mag_coe]; simp

/-- A sum's magnitude is infinite iff some term's is. -/
theorem mag_sum_top {ι : Type} (s : Finset ι) (f : ι → EReal) : mag (∑ i ∈ s, f i) = ⊤ ↔ ∃ i ∈ s, mag (f i) = ⊤ := by
  classical
  induction s using Finset.induction_on with
  | empty => simp [mag_zero]
  | insert a s ha ih => rw [Finset.sum_insert ha, mag_add_top, ih]; simp

theorem mag_nonneg' (a : EReal) : 0 ≤ mag a := mag_nonneg a

theorem mag_eq_zero {a : EReal} : mag a = 0 ↔ a = 0 := by
  constructor
  · intro h
    obtain ⟨x, rfl⟩ := real_of_mag (a := a) (by rw [h]; exact EReal.zero_ne_top)
    rw [mag_coe] at h
    rw [abs_eq_zero.mp (EReal.coe_eq_zero.mp h), EReal.coe_zero]
  · rintro rfl; exact mag_zero

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor of every term moves out of a sum's magnitude. -/
theorem mag_sum_mul {ι : Type} (s : Finset ι) (f : ι → EReal) (t : ℝ) :
    mag (∑ i ∈ s, f i * (t : EReal)) = mag (∑ i ∈ s, f i) * mag (t : EReal) := by
  by_cases h0 : t = 0
  · subst h0
    simp [mag_zero]
  by_cases hf : ∃ i ∈ s, mag (f i) = ⊤
  · have ht : 0 < |t| := abs_pos.mpr h0
    rw [(mag_sum_top s f).mpr hf, mag_coe, EReal.top_mul_coe_of_pos ht, mag_sum_top]
    obtain ⟨i, hi, h⟩ := hf
    exact ⟨i, hi, by rw [mag_mul, h, mag_coe, EReal.top_mul_coe_of_pos ht]⟩
  · push Not at hf
    have hx : ∀ i : ι, ∃ x : ℝ, i ∈ s → f i = (x : EReal) := fun i => by
      by_cases hi : i ∈ s
      · obtain ⟨x, hx⟩ := real_of_mag (hf i hi)
        exact ⟨x, fun _ => hx⟩
      · exact ⟨0, fun h => absurd h hi⟩
    choose x hx using hx
    rw [← mag_mul, Finset.sum_congr rfl (fun i hi => by rw [hx i hi]), Finset.sum_congr rfl (fun i hi => hx i hi), ← coe_sum,
      ← EReal.coe_mul, Finset.sum_mul, coe_sum]
    simp only [EReal.coe_mul]

/-! ## The transform is injective -/

/-- The Hadamard matrix's sign as an integer, and over 4 as a real. -/
def sgnInt (i j : Fin 16) : ℤ := if neg i j then -1 else 1

theorem quarter_eq (i j : Fin 16) : quarter i j = (((sgnInt i j : ℝ) / 4 : ℝ) : EReal) := by
  have h1 : Ideal.ofBits .f32 0x3E800000#32 = ((1 / 4 : ℝ) : EReal) := by
    simp [Ideal.ofBits, Ideal.ieee]
    rw [← EReal.coe_mul]
    norm_num
  have h2 : Ideal.ofBits .f32 0xBE800000#32 = ((-1 / 4 : ℝ) : EReal) := by
    simp [Ideal.ofBits, Ideal.ieee]
    rw [← EReal.coe_mul, ← EReal.coe_neg]
    norm_num
  unfold quarter sgnInt
  cases neg i j
  · rw [if_neg (by decide), if_neg (by decide), h1]; norm_num
  · rw [if_pos rfl, if_pos rfl, h2]; norm_num

theorem sgnInt_orth : ∀ k j : Fin 16, ∑ i : Fin 16, sgnInt i k * sgnInt i j = if k = j then 16 else 0 := by decide +kernel

/-- Values whose every transform is zero are zero. -/
theorem had_zero (c : Fin 16 → EReal) (h : ∀ i, ∑ j : Fin 16, quarter i j * c j = 0) (k : Fin 16) : c k = 0 := by
  have hc : ∀ j, ∃ x : ℝ, c j = (x : EReal) := fun j => by
    refine real_of_mag fun hj => ?_
    have h' : mag (∑ j : Fin 16, quarter 0 j * c j) = ⊤ := (mag_sum_top _ _).mpr ⟨j, Finset.mem_univ _, by
      rw [mag_mul, hj, quarter_eq, mag_coe, EReal.coe_mul_top_of_pos]
      unfold sgnInt
      cases neg 0 j <;> norm_num⟩
    rw [h 0, mag_zero] at h'
    exact EReal.zero_ne_top h'
  choose x hx using hc
  have hr : ∀ i, ∑ j : Fin 16, (sgnInt i j : ℝ) * x j = 0 := fun i => by
    have e := h i
    simp only [hx, quarter_eq, ← EReal.coe_mul] at e
    rw [← coe_sum, EReal.coe_eq_zero] at e
    have : ∑ j : Fin 16, (sgnInt i j : ℝ) * x j = 4 * ∑ j : Fin 16, (sgnInt i j : ℝ) / 4 * x j := by
      rw [Finset.mul_sum]
      exact Finset.sum_congr rfl fun j _ => by ring
    rw [this, e, mul_zero]
  have hk : (16 : ℝ) * x k = 0 := by
    calc (16 : ℝ) * x k = ∑ j : Fin 16, (if k = j then (16 : ℝ) else 0) * x j := by simp
      _ = ∑ j : Fin 16, (∑ i : Fin 16, (sgnInt i k : ℝ) * (sgnInt i j : ℝ)) * x j := by
          refine Finset.sum_congr rfl fun j _ => ?_
          have e := congrArg (fun z : ℤ => (z : ℝ)) (sgnInt_orth k j)
          push_cast at e
          rw [e]
      _ = ∑ i : Fin 16, (sgnInt i k : ℝ) * ∑ j : Fin 16, (sgnInt i j : ℝ) * x j := by
          simp only [Finset.sum_mul, Finset.mul_sum]
          rw [Finset.sum_comm]
          exact Finset.sum_congr rfl fun i _ => Finset.sum_congr rfl fun j _ => by ring
      _ = 0 := by simp [hr]
  have : x k = 0 := by linarith
  rw [hx, this, EReal.coe_zero]

/-! ## The greatest magnitude, and a factor -/

/-- A nonnegative factor moves out of the supremum of a finite family. -/
theorem iSup_mul {κ : Type} [Finite κ] [Nonempty κ] (f : κ → EReal) {t : EReal} (ht : 0 ≤ t) : (⨆ k, f k) * t = ⨆ k, f k * t := by
  obtain ⟨k0, h0⟩ := Finite.exists_max f
  have e : ⨆ k, f k = f k0 := le_antisymm (iSup_le h0) (le_iSup f k0)
  rw [e]
  exact le_antisymm (le_iSup (fun k => f k * t) k0) (iSup_le fun k => mul_le_mul_of_nonneg_right (h0 k) ht)

/-- A factor of every value of a family of groups moves out of the greatest magnitude of the groups' transforms. -/
theorem greatest_mul {κ : Type} [Finite κ] [Nonempty κ] (c : κ → Fin 16 → EReal) (t : EReal) :
    (⨆ k : κ × Fin 16, mag (∑ j : Fin 16, quarter k.2 j * c k.1 j)) * mag t
      = ⨆ k : κ × Fin 16, mag (∑ j : Fin 16, quarter k.2 j * (c k.1 j * t)) := by
  rw [iSup_mul _ (mag_nonneg t)]
  by_cases ht : mag t = ⊤
  · have hz : ∀ k : κ, (∀ j, c k j = 0) → ∀ i, mag (∑ j : Fin 16, quarter i j * c k j) * mag t = 0
        ∧ mag (∑ j : Fin 16, quarter i j * (c k j * t)) = 0 := fun k hk i => by
      simp [hk, mag_zero]
    have hq : ∀ i j, mag (quarter i j) * ⊤ = ⊤ := fun i j => by
      rw [quarter_eq, mag_coe, EReal.coe_mul_top_of_pos]
      unfold sgnInt
      cases neg i j <;> norm_num
    have hpos : ∀ a : EReal, a ≠ 0 → mag a * ⊤ = ⊤ := fun a ha =>
      EReal.mul_top_of_pos (lt_of_le_of_ne (mag_nonneg a) (fun e => ha (mag_eq_zero.mp e.symm)))
    refine le_antisymm (iSup_le fun k => ?_) (iSup_le fun k => ?_)
    · by_cases hk : ∀ j, c k.1 j = 0
      · rw [(hz k.1 hk k.2).1]
        exact le_iSup_of_le k (mag_nonneg _)
      · push Not at hk
        obtain ⟨j, hj⟩ := hk
        refine le_iSup_of_le k ?_
        have h' : mag (∑ j : Fin 16, quarter k.2 j * (c k.1 j * t)) = ⊤ :=
          (mag_sum_top _ _).mpr ⟨j, Finset.mem_univ _, by rw [mag_mul, mag_mul, ht, hpos _ hj, hq]⟩
        rw [h']
        exact le_top
    · by_cases hk : ∀ j, c k.1 j = 0
      · rw [(hz k.1 hk k.2).2]
        exact le_iSup_of_le k (mul_nonneg (mag_nonneg _) (mag_nonneg _))
      · have hi : ∃ i, ∑ j : Fin 16, quarter i j * c k.1 j ≠ 0 := by
          by_contra hn
          push Not at hn
          exact hk (had_zero _ hn)
        obtain ⟨i, hi⟩ := hi
        refine le_iSup_of_le (k.1, i) ?_
        rw [ht, hpos _ hi]
        exact le_top
  · obtain ⟨x, rfl⟩ := real_of_mag ht
    refine iSup_congr fun k => ?_
    rw [← mag_sum_mul]
    simp only [mul_assoc]

end Cert.Magnitude

end
-- ==== Proof.XAmaxKernel.lean ====
/-
  The call that finds the activation's tensor scale, point by point: what one grid point leaves in the running maximum
  and in the result, in terms of the blocks of codes and block scales it reads.
-/
module

public import proofs.«01_k».proof.Proof.Gen.XAmaxIdeal.Value
public import proofs.«01_k».proof.Proof.Magnitude
public import Idealize.ShloMosaic.Lib.BitcastFour
public import Idealize.ShloMosaic.Lib.Pointwise
public import Idealize.ShloMosaic.PureOps.Ideal.Laws

@[expose] public section

set_option maxRecDepth 16384

noncomputable section

namespace Cert.XAmaxIdeal.XAmax

open Cert.XAmaxIdeal Cert.XAmaxIdeal.Gen Idealize.ShloMosaic Idealize.ShloMosaic.TcCoe Idealize.SL.Sem
open Idealize.ShloMosaic.Pipeline (Dat)
open Cert.DyAmaxIdeal.DyAmax (hz step mag neg quarter sel shr4 scale foldl_iff Le step_le had had_congr ix2_ext mag_nonneg fold_le_iff)
open scoped BigOperators

section Body
variable {F : FTy → Type} [FloatOps F]

theorem slicesW (g : Fin 8) : S64x128.Slices ![8 * g.val, 0] S8x128 := by
  revert g; decide +kernel

theorem slicesS (g : Fin 8) : S256x128.Slices ![32 * g.val, 0] S32x128 := by
  revert g; decide +kernel

theorem inb (c : Fin 8) : ∀ x, (![0, 128 * c.val] : Fin 2 → Nat) x + S256x128.size x ≤ S256x1024.size x := by
  revert c; decide +kernel

/-- The lane index. -/
def lane : IVec S8x128 32 := iota .tc S8x128 32 [1] iota_S8x128_d1_w32

/-- The code column a lane reads: half the lane, past `64 h`. -/
def cIdx (h : Fin 2) : IVec S8x128 32 :=
  addi (shrsi lane (broadcast S8x128 1#32)) (broadcast S8x128 (BitVec.ofNat 32 (64 * h.val)))

/-- The scale column a lane reads: a sixteenth of the lane, past the half's first column. -/
def sIdx (c : Fin 8) (h : Fin 2) : IVec S32x128 32 :=
  addi (shrsi (iota .tc S32x128 32 [1] iota_S32x128_d1_w32) (broadcast S32x128 4#32))
    (broadcast S32x128 (BitVec.ofNat 32 (8 * (2 * c.val + h.val))))

/-- A column index with the negative ones moved up by 128. -/
def wrapC (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

def wrapS (v : IVec S32x128 32) : IVec S32x128 32 :=
  shapeCast S32x128 (shapeCast S32x128x1 (select (cmpi .slt v (broadcast S32x128 0#32)) (addi v (broadcast S32x128 128#32)) v)
    shapeCasts_S32x128_S32x128x1) shapeCasts_S32x128x1_S32x128

/-- The four bytes of codes a lane reads in 32 rows, each shifted to the lane's nibble. -/
def nibs (w : IVec S64x128 32) (h : Fin 2) (g : Fin 8) : IVec S8x128 32 :=
  shrui (dynamicGather 1 (extractStridedSlice S8x128 ![8 * g.val, 0] w (slicesW g)) (wrapC (cIdx h)))
    (shli (andi lane (broadcast S8x128 1#32)) (broadcast S8x128 2#32))

/-- A nibble's bits moved to an eight-bit float's: magnitude to bits 2 to 4, sign to bit 7. -/
def spread (n : IVec S8x128 32) : IVec S8x128 32 :=
  ori (shli (andi n (broadcast S8x128 117901063#32)) (broadcast S8x128 2#32))
    (shli (andi n (broadcast S8x128 134744072#32)) (broadcast S8x128 4#32))

/-- 32 rows of a half: each nibble's value against its scale. -/
def group (w : IVec S64x128 32) (s : FVec F S256x128 .f32) (c : Fin 8) (h : Fin 2) (g : Fin 8) : FVec F S32x128 .bf16 :=
  mulf (extf .bf16 (bitcastToFloat .fp8e4m3 (bitcast S32x128 8 (spread (nibs w h g)) bitcasts_S8x128_w32_S32x128_w8)) bitsLt_fp8e4m3_bf16)
    (mulf (truncf .bf16 (dynamicGather 1 (extractStridedSlice S32x128 ![32 * g.val, 0] s (slicesS g)) (wrapS (sIdx c h))) bitsLt_bf16_f32)
      (broadcast S32x128 (Scalar.ofBits .bf16 0x4280#16)))

/-- 128 columns of a chunk's block. -/
def half (w : IVec S64x128 32) (s : FVec F S256x128 .f32) (c : Fin 8) (h : Fin 2) : FVec F S256x128 .bf16 :=
  concatenate S256x128 0 [⟨S32x128, group w s c h 0⟩, ⟨S32x128, group w s c h 1⟩, ⟨S32x128, group w s c h 2⟩, ⟨S32x128, group w s c h 3⟩,
    ⟨S32x128, group w s c h 4⟩, ⟨S32x128, group w s c h 5⟩, ⟨S32x128, group w s c h 6⟩, ⟨S32x128, group w s c h 7⟩]
    concatenates_S32x128_S32x128_S32x128_S32x128_S32x128_S32x128_S32x128_S32x128_S256x128_d0

/-- The 256 columns a chunk of 128 code columns decodes to. -/
def block (w : IVec S64x128 32) (s : FVec F S256x128 .f32) (c : Fin 8) : FVec F S256x256 .bf16 :=
  concatenate S256x256 1 [⟨S256x128, half w s c 0⟩, ⟨S256x128, half w s c 1⟩] concatenates_S256x128_S256x128_S256x256_d1

/-- The magnitudes of a chunk's block, transformed. -/
def zblk (x0 : Vec F S8x256 .f32) (x2 : Vec F S256x1024 .i8) (x3 : Vec F S256x128 .fp8e4m3) (c : Fin 8) : FVec F S256x256 .f32 :=
  absf (matmul dot_S256x256_S256x256_S256x256_1_0_0_1_n_n none
    (k0_pay4 (View.ld x0 (Rect.unit (s := S8x256) ![0, 0] S1x256.size inb_S8x256_S1x256_0_0)))
    (block (k0_pay5 (F := F) (View.ld x2 (Rect.unit (s := S256x1024) ![0, 128 * c.val] S256x128.size (inb c)))) (k0_pay6 x3) c)
    (constant S256x256 .f32 0x00000000#32))

/-- What the body stores: the running maximum joined with the magnitudes of the 8 transformed blocks. -/
def body (x0 : Vec F S8x256 .f32) (x2 : Vec F S256x1024 .i8) (x3 : Vec F S256x128 .fp8e4m3) (xs : Vec F S8x128 .f32) : FVec F S8x128 .f32 :=
  shapeCast S8x128 (List.foldl (fun acc c => step (zblk x0 x2 x3 c) acc) xs [0,1,2,3,4,5,6,7]) shapeCasts_S8x128_S8x128

end Body

section Cases
variable {F : FTy → Type} [FloatOps F]
variable (c : Dev nD) (i : grid0.Coords)
  (a2 : Memref sig .tc .vmem S8x256 .f32) (h2 : a2.IsWhole) (a3 : Memref sig .tc .smem S1 .f32) (h3 : a3.IsWhole)
  (a4 : Memref sig .tc .vmem S256x1024 .i8) (h4 : a4.IsWhole) (a5 : Memref sig .tc .vmem S256x128 .fp8e4m3) (h5 : a5.IsWhole)
  (a6 : Memref sig .tc .vmem S8x128 .f32) (h6 : a6.IsWhole) (a7 : Memref sig .tc .vmem S8x128 .f32) (h7 : a7.IsWhole)
  (x0 : Vec F S8x256 .f32) (x1 : Vec F S1 .f32) (x2 : Vec F S256x1024 .i8) (x3 : Vec F S256x128 .fp8e4m3) (xs : Vec F S8x128 .f32)

theorem sout_B (hc0 : ¬cond0_0 i) (hc1 : ¬cond0_1 i) :
    sout0_B_0 c i a2 h2 a3 h3 a4 h4 a5 h5 a6 h6 a7 h7 hc0 hc1 x0 x1 x2 x3 xs = body x0 x2 x3 xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero hz]
  simp only [View.readAt_eq_ld, h2.read_unread, h4.read_unread, h5.read_unread, h7.read_unread, View.ld_unit_zero (S := S8x128) hz, View.ld_unit_zero (S := S256x128) hz]
  rfl

theorem sout_A (hc0 : cond0_0 i) (hc1 : ¬cond0_1 i) :
    sout0_A_0 c i a2 h2 a3 h3 a4 h4 a5 h5 a6 h6 a7 h7 hc0 hc1 x0 x1 x2 x3 = body x0 x2 x3 k0_pay3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S8x128) hz, View.readCov_unit_zero (S := S8x128) _ hz]
  simp only [View.readAt_eq_ld, h2.read_unread, h4.read_unread, h5.read_unread, View.ld_unit_zero (S := S256x128) hz]
  rfl

theorem out_C (hc0 : ¬cond0_0 i) (hc1 : cond0_1 i) :
    out0_C_4 c i a2 h2 a3 h3 a4 h4 a5 h5 a6 h6 a7 h7 hc0 hc1 x0 x1 x2 x3 xs = k0_pay2 (body x0 x2 x3 xs) (x1 (ix1 0)) := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero hz, View.readCov_unit_zero (S := S8x128) _ hz]
  simp only [View.readAt_eq_ld, h2.read_unread, h3.read_unread, h4.read_unread, h5.read_unread, h7.read_unread, View.ld_unit_zero (S := S8x128) hz, View.ld_unit_zero (S := S256x128) hz]
  refine congrArg₂ k0_pay2 ?_ ?_
  · rfl
  · show x1 _ = x1 _
    congr 1
    funext a
    match a with
    | ⟨0, _⟩ => exact Subsingleton.elim (α := Fin 1) _ _

end Cases

/-! ## The payloads read at an index -/

theorem pay4_eq (v : Vec Ideal S1x256 .f32) : k0_pay4 (F := Ideal) v = Cert.DyAmaxIdeal.Gen.k0_pay3 (F := Ideal) v := rfl

theorem code_col : ∀ (h : Fin 2) (l : Fin 128),
    (Scalar.select (IntOp.cmpi CmpIPredicate.slt
          (IntOp.addi (IntOp.shrsi ArithUnit.vector (BitVec.ofNat 32 l.val) 1#32) (BitVec.ofNat 32 (64 * h.val))) 0#32)
        (IntOp.addi (IntOp.addi (IntOp.shrsi ArithUnit.vector (BitVec.ofNat 32 l.val) 1#32) (BitVec.ofNat 32 (64 * h.val))) 128#32)
        (IntOp.addi (IntOp.shrsi ArithUnit.vector (BitVec.ofNat 32 l.val) 1#32) (BitVec.ofNat 32 (64 * h.val)))).toNat % 128
      = 64 * h.val + l.val / 2 := by
  decide +kernel

theorem scale_col : ∀ (c : Fin 8) (h : Fin 2) (l : Fin 128),
    (Scalar.select (IntOp.cmpi CmpIPredicate.slt
          (IntOp.addi (IntOp.shrsi ArithUnit.vector (BitVec.ofNat 32 l.val) 4#32) (BitVec.ofNat 32 (8 * (2 * c.val + h.val)))) 0#32)
        (IntOp.addi (IntOp.addi (IntOp.shrsi ArithUnit.vector (BitVec.ofNat 32 l.val) 4#32) (BitVec.ofNat 32 (8 * (2 * c.val + h.val)))) 128#32)
        (IntOp.addi (IntOp.shrsi ArithUnit.vector (BitVec.ofNat 32 l.val) 4#32) (BitVec.ofNat 32 (8 * (2 * c.val + h.val))))).toNat % 128
      = 8 * (2 * c.val + h.val) + l.val / 16 := by
  decide +kernel

theorem nib_shift : ∀ l : Fin 128, IntOp.shli ArithUnit.vector (IntOp.andi (BitVec.ofNat 32 l.val) 1#32) 2#32 = BitVec.ofNat 32 (4 * (l.val % 2)) := by
  decide +kernel

theorem shr_nib (W : BitVec 32) : ∀ p : Fin 2, IntOp.shrui ArithUnit.vector W (BitVec.ofNat 32 (4 * p.val)) = W >>> (4 * p.val) := by
  intro p
  match p with
  | ⟨0, _⟩ => rfl
  | ⟨1, _⟩ => rfl

theorem nibs_apply (w : IVec S64x128 32) (h : Fin 2) (g : Fin 8) (r : Fin 8) (l : Fin 128) :
    nibs w h g (ix2 r l) = w (ix2 ⟨8 * g.val + r.val, by omega⟩ ⟨64 * h.val + l.val / 2, by omega⟩) >>> (4 * (l.val % 2)) := by
  unfold nibs wrapC cIdx lane
  pointwise
  rw [nib_shift, show _ = _ from shr_nib _ ⟨l.val % 2, by omega⟩]
  exact congrArg (fun z => w z >>> _) (ix2_ext rfl (code_col h l))

theorem spread_apply (n : IVec S8x128 32) (r : Fin 8) (l : Fin 128) :
    spread n (ix2 r l) = ((n (ix2 r l) &&& 117901063#32) <<< 2) ||| ((n (ix2 r l) &&& 134744072#32) <<< 4) := rfl

/-- The eight-bit float whose bits are a byte's low (`p = 0`) or high nibble's: magnitude in bits 2 to 4, sign in bit 7. -/
def nibByte (x : BitVec 8) (p : Fin 2) : BitVec 8 := (((x >>> (4 * p.val)) &&& 7#8) <<< 2) ||| (((x >>> (4 * p.val)) &&& 8#8) <<< 4)

/-- Byte `k` of the spread word is the spread nibble of byte `k`. -/
theorem byte_bits (W : BitVec 32) (x : BitVec 8) (k : Fin 4) (hx : ∀ b : Fin 8, W.getLsbD (8 * k.val + b.val) = x.getLsbD b.val) (p : Fin 2) (q : Fin 8) :
    ((((W >>> (4 * p.val)) &&& 117901063#32) <<< 2) ||| (((W >>> (4 * p.val)) &&& 134744072#32) <<< 4)).getLsbD (8 * k.val + q.val)
      = (nibByte x p).getLsbD q.val := by
  have h0 := hx 0
  have h1 := hx 1
  have h2 := hx 2
  have h3 := hx 3
  have h4 := hx 4
  have h5 := hx 5
  have h6 := hx 6
  have h7 := hx 7
  clear hx
  unfold nibByte
  fin_cases k <;> fin_cases p <;> fin_cases q <;>
    simp [BitVec.getLsbD_or, BitVec.getLsbD_and, BitVec.getLsbD_shiftLeft, BitVec.getLsbD_ushiftRight] at h0 h1 h2 h3 h4 h5 h6 h7 ⊢ <;>
    first | done | assumption

theorem words_bits (X : Vec Ideal S256x128 .i8) (a : Fin 64) (l : Fin 128) (k : Fin 4) (b : Fin 8) :
    (k0_pay5 (F := Ideal) X (ix2 a l)).getLsbD (8 * k.val + b.val) = (show BitVec 8 from X (ix2 ⟨4 * a.val + k.val, by omega⟩ l)).getLsbD b.val := by
  unfold k0_pay5
  dsimp only
  refine (bitcast_8_32_getLsbD_ix2 (R := 256) (r := 64) (n := 128) (shapeCast (α := BitVec 8) S256x128 X shapeCasts_S256x128_S256x128)
    bitcasts_S256x128_w8_S64x128_w32 a l (8 * k.val + b.val) (by omega) ⟨4 * a.val + k.val, by omega⟩
    (by show 4 * a.val + k.val = 4 * a.val + (8 * k.val + b.val) / 8; omega)).trans ?_
  rw [show (8 * k.val + b.val) % 8 = b.val by omega]
  refine congrArg (fun z : BitVec 8 => z.getLsbD b.val) ?_
  pointwise
  rfl

/-- A lane of the eight-bit floats is the spread nibble of the code it reads. -/
theorem bits_apply (X : Vec Ideal S256x128 .i8) (h : Fin 2) (g : Fin 8) (r : Fin 32) (l : Fin 128) :
    bitcast S32x128 8 (spread (nibs (k0_pay5 (F := Ideal) X) h g)) bitcasts_S8x128_w32_S32x128_w8 (ix2 r l)
      = nibByte (X (ix2 ⟨32 * g.val + r.val, by omega⟩ ⟨64 * h.val + l.val / 2, by omega⟩)) ⟨l.val % 2, by omega⟩ := by
  apply BitVec.eq_of_getLsbD_eq
  intro q hq
  rw [bitcast_getLsbD _ _ _ q hq (by decide)]
  have hr : S32x128.row (ix2 r l) = r.val := rfl
  have e : ∀ p hp, bitcasts_S8x128_w32_S32x128_w8.srcIdx (ix2 r l) p hp = (ix2 ⟨p, hp ⟨0, Nat.zero_lt_two⟩ rfl⟩ l : S8x128.Idx) := fun p hp => by
    funext d
    match d with
    | ⟨0, _⟩ => exact Fin.ext (bitcasts_S8x128_w32_S32x128_w8.srcIdx_row _ _ _ ⟨0, Nat.zero_lt_two⟩ rfl)
    | ⟨1, _⟩ => exact Fin.ext (bitcasts_S8x128_w32_S32x128_w8.srcIdx_other _ _ _ ⟨1, Nat.one_lt_two⟩ (by show ¬ 1 + 2 = 2; omega))
  rw [e, spread_apply, nibs_apply]
  have hk : (S32x128.row (ix2 r l) * 8 + q) % 32 = 8 * (r.val % 4) + q := by rw [hr]; omega
  rw [hk]
  refine byte_bits _ _ ⟨r.val % 4, by omega⟩ (fun b => ?_) ⟨l.val % 2, by omega⟩ ⟨q, hq⟩
  refine (words_bits X _ _ ⟨r.val % 4, by omega⟩ b).trans ?_
  refine congrArg (fun z => BitVec.getLsbD (X z) b.val) (ix2_ext ?_ rfl)
  show 4 * (8 * g.val + (S32x128.row (ix2 r l) * 8 + q) / 32) + r.val % 4 = 32 * g.val + r.val
  rw [hr]; omega

/-- The value a 4-bit code denotes: sign in bit 3, magnitude 0, ½, 1, 1½, 2, 3, 4 or 6. -/
def val (n : Fin 16) : EReal :=
  let mg : EReal := if n.val.testBit 2 then
      (if n.val.testBit 1 then (if n.val.testBit 0 then Ideal.ofBits .bf16 0x40C0#16 else Ideal.ofBits .bf16 0x4080#16)
        else (if n.val.testBit 0 then Ideal.ofBits .bf16 0x4040#16 else Ideal.ofBits .bf16 0x4000#16))
    else (if n.val.testBit 1 then (if n.val.testBit 0 then Ideal.ofBits .bf16 0x3FC0#16 else Ideal.ofBits .bf16 0x3F80#16)
        else (if n.val.testBit 0 then Ideal.ofBits .bf16 0x3F00#16 else Ideal.ofBits .bf16 0x0000#16))
  if n.val.testBit 3 then -mg else mg

/-- A byte's low or high nibble. -/
def nib (x : BitVec 8) (p : Fin 2) : Fin 16 := ⟨x.toNat / 16 ^ p.val % 16, Nat.mod_lt _ (by decide)⟩

theorem nibByte_eq : ∀ (p : Fin 2) (x : Fin 256), nibByte (BitVec.ofNat 8 x.val) p = BitVec.ofNat 8 ((nib (BitVec.ofNat 8 x.val) p).val % 8 * 4 + (nib (BitVec.ofNat 8 x.val) p).val / 8 * 128) := by
  decide +kernel

/-- The sixteen values of a 4-bit code as reals. -/
def valR : Fin 16 → ℝ := ![0, 1/2, 1, 3/2, 2, 3, 4, 6, 0, -1/2, -1, -3/2, -2, -3, -4, -6]

theorem e4m3_of (b : BitVec 8) (neg : Bool) (ex fr : ℕ) (h1 : (b.extractLsb' 7 1 == 1#1) = neg) (h2 : (b.extractLsb' 3 4).toNat = ex)
    (h3 : (b.extractLsb' 0 3).toNat = fr) : Ideal.ofBits .fp8e4m3 b = if ex = 15 ∧ fr = 7 then ⊥
      else if ex = 0 then (((if neg then -1 else 1) * fr * (2 : ℝ) ^ (-9 : Int) : ℝ) : EReal)
      else (((if neg then -1 else 1) * (8 + fr : Nat) * (2 : ℝ) ^ ((ex : Int) - 10) : ℝ) : EReal) := by
  subst h1 h2 h3
  rfl

theorem bf16_of (b : BitVec 16) (ex fr : ℕ) (h1 : (b.extractLsb' 15 1 == 1#1) = false) (h2 : (b.extractLsb' 7 8).toNat = ex)
    (h3 : (b.extractLsb' 0 7).toNat = fr) (h4 : ex ≠ 255) (h5 : ex ≠ 0) :
    Ideal.ofBits .bf16 b = (((128 + fr : Nat) * (2 : ℝ) ^ ((ex : Int) - 134) : ℝ) : EReal) := by
  show Ideal.ieee 8 7 b = _
  unfold Ideal.ieee
  dsimp only
  rw [h1, h2, h3, if_neg (show ¬ex = 2 ^ 8 - 1 from h4), if_neg h5]
  refine congrArg Real.toEReal ?_
  norm_num
  left
  ring_nf

theorem e4m3_val (n : Fin 16) : Ideal.ofBits .fp8e4m3 (BitVec.ofNat 8 (n.val % 8 * 4 + n.val / 8 * 128)) = ((valR n / 64 : ℝ) : EReal) := by
  rw [e4m3_of _ (decide (8 ≤ n.val)) (n.val % 8 / 2) (n.val % 2 * 4) (by revert n; decide +kernel) (by revert n; decide +kernel) (by revert n; decide +kernel)]
  fin_cases n
  all_goals
    rw [if_neg (by decide)]
    first | rw [if_pos (by decide)] | rw [if_neg (by decide)]
    refine congrArg Real.toEReal ?_
    norm_num [valR]

theorem c6 : Ideal.ofBits .bf16 0x40C0#16 = ((6 : ℝ) : EReal) := by
  rw [bf16_of _ 129 64 (by decide) (by decide) (by decide) (by decide) (by decide)]; norm_num
theorem c4 : Ideal.ofBits .bf16 0x4080#16 = ((4 : ℝ) : EReal) := by
  rw [bf16_of _ 129 0 (by decide) (by decide) (by decide) (by decide) (by decide)]; norm_num
theorem c3 : Ideal.ofBits .bf16 0x4040#16 = ((3 : ℝ) : EReal) := by
  rw [bf16_of _ 128 64 (by decide) (by decide) (by decide) (by decide) (by decide)]; norm_num
theorem c2 : Ideal.ofBits .bf16 0x4000#16 = ((2 : ℝ) : EReal) := by
  rw [bf16_of _ 128 0 (by decide) (by decide) (by decide) (by decide) (by decide)]; norm_num
theorem c32 : Ideal.ofBits .bf16 0x3FC0#16 = ((3 / 2 : ℝ) : EReal) := by
  rw [bf16_of _ 127 64 (by decide) (by decide) (by decide) (by decide) (by decide)]; norm_num
theorem c1 : Ideal.ofBits .bf16 0x3F80#16 = ((1 : ℝ) : EReal) := by
  rw [bf16_of _ 127 0 (by decide) (by decide) (by decide) (by decide) (by decide)]; norm_num
theorem c12 : Ideal.ofBits .bf16 0x3F00#16 = ((1 / 2 : ℝ) : EReal) := by
  rw [bf16_of _ 126 0 (by decide) (by decide) (by decide) (by decide) (by decide)]; norm_num
theorem c64 : Ideal.ofBits .bf16 0x4280#16 = ((64 : ℝ) : EReal) := by
  rw [bf16_of _ 133 0 (by decide) (by decide) (by decide) (by decide) (by decide)]; norm_num
theorem c0 : Ideal.ofBits .bf16 0x0000#16 = ((0 : ℝ) : EReal) := by
  simp [Ideal.ofBits, Ideal.ieee]

theorem val_eq (n : Fin 16) : val n = (valR n : EReal) := by
  unfold val
  rw [c6, c4, c3, c2, c32, c1, c12, c0]
  dsimp only
  fin_cases n
  all_goals
    repeat (first | rw [if_pos (by decide)] | rw [if_neg (by decide)])
    first | rfl | (rw [← EReal.coe_neg]; refine congrArg Real.toEReal ?_; norm_num [valR])

theorem byte_val (n : Fin 16) : Ideal.ofBits .fp8e4m3 (BitVec.ofNat 8 (n.val % 8 * 4 + n.val / 8 * 128)) * Ideal.ofBits .bf16 0x4280#16 = val n := by
  rw [e4m3_val, c64, val_eq, ← EReal.coe_mul]
  refine congrArg Real.toEReal ?_
  ring

theorem half_apply (w : IVec S64x128 32) (s : FVec Ideal S256x128 .f32) (c : Fin 8) (h : Fin 2) (g : Fin 8) (q : Fin 32) (l : Fin 128) :
    (half (F := Ideal) w s c h : S256x128.Idx → EReal) (ix2 ⟨32 * g.val + q.val, by omega⟩ l)
      = (group (F := Ideal) w s c h g : S32x128.Idx → EReal) (ix2 q l) := by
  unfold half
  fin_cases g
  all_goals
    pointwise
    repeat rw [dif_neg (by omega)]
    try rw [dif_pos (by omega)]
    try exact congrArg _ (ix2_ext (by show _ = q.val; omega) rfl)
    try exact congrArg (fun z : Fin 32 => group w s c h _ (ix2 z l)) (Fin.ext (by dsimp only; omega))

theorem block_apply (w : IVec S64x128 32) (s : FVec Ideal S256x128 .f32) (c : Fin 8) (r : Fin 256) (h : Fin 2) (l : Fin 128) :
    (block (F := Ideal) w s c : S256x256.Idx → EReal) (ix2 r ⟨128 * h.val + l.val, by omega⟩)
      = (half (F := Ideal) w s c h : S256x128.Idx → EReal) (ix2 r l) := by
  unfold block
  fin_cases h
  all_goals
    pointwise
    try (split_ifs <;> first | (exfalso; omega) | exact congrArg _ (ix2_ext rfl (by show _ = l.val; omega)))

theorem pay6_apply (x3 : Vec Ideal S256x128 .fp8e4m3) (r : Fin 256) (l : Fin 128) :
    (k0_pay6 (F := Ideal) x3 : S256x128.Idx → EReal) (ix2 r l) = x3 (ix2 r l) := by
  unfold k0_pay6
  pointwise

/-- The decoded block: at a row and a column, the nibble's value against the scale of its 16 columns. -/
def bval (x2 : S256x1024.Idx → BitVec 8) (x3 : S256x128.Idx → EReal) (r : Fin 256) (e : Fin 2048) : EReal :=
  val (nib (x2 (ix2 r ⟨e.val / 2, by omega⟩)) ⟨e.val % 2, by omega⟩) * x3 (ix2 r ⟨e.val / 16, by omega⟩)

theorem ld2_apply (x2 : Vec Ideal S256x1024 .i8) (c : Fin 8) (r : Fin 256) (l : Fin 128) :
    (View.ld x2 (Rect.unit (s := S256x1024) ![0, 128 * c.val] S256x128.size (inb c)) (ix2 r l) : BitVec 8) = x2 (ix2 r ⟨128 * c.val + l.val, by omega⟩) := by
  show x2 _ = x2 _
  congr 1
  funext d
  apply Fin.ext
  match d with
  | ⟨0, _⟩ => show 0 + 1 * r.val = r.val; omega
  | ⟨1, _⟩ => show 128 * c.val + 1 * l.val = 128 * c.val + l.val; omega

theorem group_apply (x2 : Vec Ideal S256x1024 .i8) (x3 : Vec Ideal S256x128 .fp8e4m3) (c : Fin 8) (h : Fin 2) (g : Fin 8) (r : Fin 32) (l : Fin 128) :
    (group (F := Ideal) (k0_pay5 (F := Ideal) (View.ld x2 (Rect.unit (s := S256x1024) ![0, 128 * c.val] S256x128.size (inb c)))) (k0_pay6 x3) c h g : S32x128.Idx → EReal) (ix2 r l)
      = bval x2 x3 ⟨32 * g.val + r.val, by omega⟩ ⟨256 * c.val + (128 * h.val + l.val), by omega⟩ := by
  unfold group wrapS sIdx
  pointwise
  rw [bits_apply, ld2_apply, pay6_apply]
  have hof : ∀ y : BitVec 8, BitVec.ofNat 8 y.toFin.val = y := fun y => BitVec.eq_of_toNat_eq (by simp)
  have hn := nibByte_eq ⟨l.val % 2, by omega⟩ (BitVec.toFin (x2 (ix2 ⟨32 * g.val + r.val, by omega⟩ ⟨128 * c.val + (64 * h.val + l.val / 2), by omega⟩)))
  rw [hof] at hn
  refine (congrArg₂ (fun (a : BitVec 8) (b : EReal) => Ideal.ofBits .fp8e4m3 a * (b * Ideal.ofBits .bf16 0x4280#16)) hn
    (show x3 _ = x3 (ix2 ⟨32 * g.val + r.val, by omega⟩ ⟨8 * (2 * c.val + h.val) + l.val / 16, by omega⟩) from
      congrArg x3 (ix2_ext rfl (scale_col c h l)))).trans ?_
  rw [mul_comm (x3 _), ← mul_assoc, byte_val]
  unfold bval
  refine congrArg₂ (· * ·) (congrArg val (congrArg₂ nib (congrArg x2 (ix2_ext rfl ?_)) (Fin.ext ?_))) (congrArg x3 (ix2_ext rfl ?_))
  · show 128 * c.val + (64 * h.val + l.val / 2) = (256 * c.val + (128 * h.val + l.val)) / 2
    omega
  · show l.val % 2 = (256 * c.val + (128 * h.val + l.val)) % 2
    omega
  · show 8 * (2 * c.val + h.val) + l.val / 16 = (256 * c.val + (128 * h.val + l.val)) / 16
    omega

/-- A chunk's block at an index is the decoded block at the chunk's columns. -/
theorem decoded_apply (x2 : Vec Ideal S256x1024 .i8) (x3 : Vec Ideal S256x128 .fp8e4m3) (c : Fin 8) (r l : Fin 256) :
    (block (F := Ideal) (k0_pay5 (F := Ideal) (View.ld x2 (Rect.unit (s := S256x1024) ![0, 128 * c.val] S256x128.size (inb c)))) (k0_pay6 x3) c : S256x256.Idx → EReal) (ix2 r l)
      = bval x2 x3 r ⟨256 * c.val + l.val, by omega⟩ := by
  obtain ⟨g, q, rfl⟩ : ∃ (g : Fin 8) (q : Fin 32), r = ⟨32 * g.val + q.val, by omega⟩ :=
    ⟨⟨r.val / 32, by omega⟩, ⟨r.val % 32, by omega⟩, Fin.ext (by show r.val = 32 * (r.val / 32) + r.val % 32; omega)⟩
  obtain ⟨h, l', rfl⟩ : ∃ (h : Fin 2) (l' : Fin 128), l = ⟨128 * h.val + l'.val, by omega⟩ :=
    ⟨⟨l.val / 128, by omega⟩, ⟨l.val % 128, by omega⟩, Fin.ext (by show l.val = 128 * (l.val / 128) + l.val % 128; omega)⟩
  rw [block_apply, half_apply, group_apply]

/-- The magnitudes of a chunk's transformed block. -/
theorem zblk_apply (s : Fin 16 → EReal) (x0 : Vec Ideal S8x256 .f32) (x2 : Vec Ideal S256x1024 .i8) (x3 : Vec Ideal S256x128 .fp8e4m3)
    (hs : ∀ k : Fin 256, (x0 (ix2 0 k) : EReal) = s ⟨k.val % 16, by omega⟩) (c : Fin 8) (r l : Fin 256) :
    (zblk (F := Ideal) x0 x2 x3 c : S256x256.Idx → EReal) (ix2 r l)
      = mag (had s (fun j => bval x2 x3 ⟨16 * (r.val % 16) + j.val, by omega⟩ ⟨256 * c.val + l.val, by omega⟩) ⟨r.val / 16, by omega⟩) := by
  unfold zblk
  rw [pay4_eq]
  pointwise
  refine congrArg mag ((Cert.DyAmaxIdeal.DyAmax.row_sum s _ (fun k => (Cert.DyAmaxIdeal.DyAmax.ld0_apply x0 k).trans (hs k)) _ r l).trans ?_)
  exact had_congr (fun j => decoded_apply x2 x3 c _ l) rfl

end Cert.XAmaxIdeal.XAmax

end
-- ==== Proof.XAmaxValue.lean ====
/-
  The call that finds the activation's tensor scale, over the extended reals: what it leaves, as one function of its
  arguments. The running maximum over the grid is the greatest magnitude of the transformed codes times their block
  scales; the last point multiplies it by the magnitude of the incoming tensor scale and makes the new scale of it.
-/
module

public import proofs.«01_k».proof.Proof.XAmaxKernel

@[expose] public section

set_option maxRecDepth 16384

noncomputable section

namespace Cert.XAmaxIdeal.XAmax

open Cert.XAmaxIdeal Cert.XAmaxIdeal.Gen Idealize.ShloMosaic Idealize.ShloMosaic.TcCoe Idealize.SL.Sem
open Idealize.ShloMosaic.Pipeline (Dat)
open Cert.DyAmaxIdeal.DyAmax (hz step mag neg quarter sel shr4 scale foldl_iff Le step_le had had_congr ix2_ext mag_nonneg fold_le_iff ofBits_ninf)
open scoped BigOperators

/-! ## One block -/

/-- Every transformed magnitude of the block decoded from `x2` and `x3` is at most `M`. -/
def BlockLe (s : Fin 16 → EReal) (x2 : S256x1024.Idx → BitVec 8) (x3 : S256x128.Idx → EReal) (M : EReal) : Prop :=
  ∀ (p : Fin 16) (e : Fin 2048) (i : Fin 16), mag (had s (fun j => bval x2 x3 ⟨16 * p.val + j.val, by omega⟩ e) i) ≤ M

theorem cast_apply (v : FVec Ideal S8x128 .f32) (r : Fin 8) (l : Fin 128) :
    (shapeCast (α := Ideal .f32) S8x128 v shapeCasts_S8x128_S8x128 : S8x128.Idx → EReal) (ix2 r l) = v (ix2 r l) := by
  pointwise

/-- What the body stores is bounded by `M` iff what it read was, and every transformed magnitude of the block is. -/
theorem body_le (s : Fin 16 → EReal) (x0 : Vec Ideal S8x256 .f32) (x2 : Vec Ideal S256x1024 .i8) (x3 : Vec Ideal S256x128 .fp8e4m3) (xs : Vec Ideal S8x128 .f32)
    (hs : ∀ k : Fin 256, (x0 (ix2 0 k) : EReal) = s ⟨k.val % 16, by omega⟩) (M : EReal) :
    Le (n0 := 8) (n1 := 128) (body (F := Ideal) x0 x2 x3 xs) M ↔ Le (n0 := 8) (n1 := 128) xs M ∧ BlockLe s x2 x3 M := by
  have hc : ∀ v : FVec Ideal S8x128 .f32, Le (n0 := 8) (n1 := 128) (shapeCast (α := Ideal .f32) S8x128 v shapeCasts_S8x128_S8x128) M
      ↔ Le (n0 := 8) (n1 := 128) v M := fun v => by
    unfold Le
    simp only [cast_apply]
  unfold body
  rw [hc]
  refine (foldl_iff _ (fun a : FVec Ideal S8x128 .f32 => Le (n0 := 8) (n1 := 128) a M)
    (fun ab => Le (n0 := 256) (n1 := 256) (zblk (F := Ideal) x0 x2 x3 ab) M) (fun a ab => step_le _ a M) _ _).trans ?_
  refine and_congr_right fun _ => ?_
  constructor
  · intro h p e i
    have hb : ∀ a : Fin 8, a ∈ ([0,1,2,3,4,5,6,7] : List (Fin 8)) := by decide
    have h' := h _ (hb ⟨e.val / 256, by omega⟩) ⟨16 * i.val + p.val, by omega⟩ ⟨e.val % 256, by omega⟩
    rw [zblk_apply s x0 x2 x3 hs] at h'
    refine le_of_eq_of_le (congrArg mag (had_congr (fun j => congrArg₂ (bval x2 x3) (Fin.ext ?_) (Fin.ext ?_)) (Fin.ext ?_))) h'
    · show 16 * p.val + j.val = 16 * ((16 * i.val + p.val) % 16) + j.val
      omega
    · show e.val = 256 * (e.val / 256) + e.val % 256
      omega
    · show i.val = (16 * i.val + p.val) / 16
      omega
  · intro h a _ r l
    rw [zblk_apply s x0 x2 x3 hs]
    exact h ⟨r.val % 16, by omega⟩ ⟨256 * a.val + l.val, by omega⟩ ⟨r.val / 16, by omega⟩

theorem pay3_apply (r : Fin 8) (l : Fin 128) : (k0_pay3 (F := Ideal) : S8x128.Idx → EReal) (ix2 r l) = 0 := by
  unfold k0_pay3
  pointwise

theorem pay3_le (M : EReal) : Le (n0 := 8) (n1 := 128) (k0_pay3 (F := Ideal)) M ↔ 0 ≤ M := by
  unfold Le
  simp only [pay3_apply]
  exact ⟨fun h => h 0 0, fun h _ _ => h⟩

/-- The final store: the scale of the running maximum's greatest element times the magnitude of the tensor scale. -/
theorem pay2_apply (v : Vec Ideal S8x128 .f32) (t : Elt Ideal .f32) (r : Fin 8) (l : Fin 128) :
    (k0_pay2 (F := Ideal) v t : S8x128.Idx → EReal) (ix2 r l)
      = scale (Finset.fold max ⊥ (fun x : Fin 8 × Fin 128 => (v (ix2 x.1 x.2) : EReal)) Finset.univ * mag t) := by
  unfold k0_pay2
  pointwise
  rw [ofBits_ninf]
  rfl

/-! ## The arrays the windows stage -/

section Array
variable (m : (ℓ : Loc nD τ sig) → Buf (Elt Ideal) ℓ) (ρ : Dev nD → PrngReg) (c : Dev nD)

/-- The arguments: the codes as bytes, and as extended reals the block scales, the tensor scale and the signs. -/
abbrev codesA : S6x2304x2048.Idx → BitVec 8 := m ((c : Thread nD τ).loc main_arg0)
abbrev scalesA : S6x2304x256.Idx → EReal := m ((c : Thread nD τ).loc main_arg1)
abbrev tsA : S1.Idx → EReal := m ((c : Thread nD τ).loc main_arg2)
abbrev sgA : S16.Idx → EReal := m ((c : Thread nD τ).loc main_arg3)

theorem V4 : V m c main_v4 = broadcastInDim (α := Ideal .f32) S8x256 ![0, 1] bcast_S1x256_S8x256_0_1 (broadcastInDim (α := Ideal .f32) S1x256 ![1] bcast_S256_S1x256_1
    (shapeCast (α := Ideal .f32) S256 (broadcastInDim (α := Ideal .f32) S16x16 ![0, 1] bcast_S1x16_S16x16_0_1 (shapeCast (α := Ideal .f32) S1x16 (sgA m c) shapeCasts_S16_S1x16)) shapeCasts_S16x16_S256)) := by
  unfold V
  simp only [hostOps0]
  after_results_simp <;> rfl

theorem V5 : V m c main_v5 = shapeCast (α := BitVec 8) S13824x2048 (codesA m c) shapeCasts_S6x2304x2048_S13824x2048 := by
  unfold V
  simp only [hostOps0]
  after_results_simp <;> rfl

theorem V6 : V m c main_v6 = shapeCast (α := Ideal .fp8e4m3) S13824x256 (scalesA m c) shapeCasts_S6x2304x256_S13824x256 := by
  unfold V
  simp only [hostOps0]
  after_results_simp <;> rfl

theorem V2 : V m c main_arg2 = tsA m c := by
  unfold V
  simp only [hostOps0]
  after_results_simp <;> rfl

theorem V4_apply (k : Fin 256) : (V m c main_v4 : S8x256.Idx → EReal) (ix2 0 k) = sgA m c (ix1 ⟨k.val % 16, by omega⟩) := by
  rw [V4]
  pointwise

theorem V5_apply (T : Fin 13824) (e : Fin 2048) : (V m c main_v5 : S13824x2048.Idx → BitVec 8) (ix2 T e) = codesA m c (ix3 ⟨T.val / 2304, by omega⟩ ⟨T.val % 2304, by omega⟩ e) := by
  rw [V5]
  pointwise

theorem V6_apply (T : Fin 13824) (e : Fin 256) : (V m c main_v6 : S13824x256.Idx → EReal) (ix2 T e) = scalesA m c (ix3 ⟨T.val / 2304, by omega⟩ ⟨T.val % 2304, by omega⟩ e) := by
  rw [V6]
  pointwise

theorem lt108 (t : Fin cfg0.N) : t.val < 108 := lt_of_lt_of_eq t.isLt N_0

theorem index0 : ∀ t : Fin grid0.N, win0_0.index t 0 = 0 ∧ win0_0.index t 1 = 0 := by decide +kernel
theorem index1 : ∀ t : Fin grid0.N, win0_1.index t 0 = 0 := by decide +kernel
theorem index2 : ∀ t : Fin grid0.N, win0_2.index t 0 = t.val % 54 ∧ win0_2.index t 1 = t.val / 54 := by decide +kernel
theorem index3 : ∀ t : Fin grid0.N, win0_3.index t 0 = t.val % 54 ∧ win0_3.index t 1 = t.val / 54 := by decide +kernel

/-- The blocks at a point: signs, tensor scale, codes, block scales. -/
abbrev sgBlk (t : Fin cfg0.N) : S8x256.Idx → EReal := iblk m c 0 t
abbrev tsBlk (t : Fin cfg0.N) : S1.Idx → EReal := iblk m c 1 t
abbrev coBlk (t : Fin cfg0.N) : S256x1024.Idx → BitVec 8 := iblk m c 2 t
abbrev scBlk (t : Fin cfg0.N) : S256x128.Idx → EReal := iblk m c 3 t

/-- The sign of each of the 16 positions of a group. -/
def sg (j : Fin 16) : EReal := sgA m c (ix1 j)

theorem blk0 (t : Fin cfg0.N) (k : Fin 256) : sgBlk m c t (ix2 0 k) = sg m c ⟨k.val % 16, by omega⟩ := by
  have hi := index0 t
  refine Eq.trans ?_ (V4_apply m c k)
  unfold sgBlk iblk
  rw [View.read_apply]
  show V m c main_v4 _ = V m c main_v4 _
  congr 1
  funext a
  apply Fin.ext
  match a with
  | ⟨0, _⟩ => show win0_0.index t 0 * 8 + 1 * 0 = 0; rw [hi.1]
  | ⟨1, _⟩ => show win0_0.index t 1 * 256 + 1 * k.val = k.val; rw [hi.2]; omega

theorem blk1 (t : Fin cfg0.N) : tsBlk m c t (ix1 0) = tsA m c (ix1 0) := by
  refine Eq.trans ?_ (congrFun (V2 m c) (ix1 0))
  unfold tsBlk iblk
  rw [View.read_apply]
  show V m c main_arg2 _ = V m c main_arg2 _
  congr 1
  funext a
  match a with
  | ⟨0, _⟩ => exact Subsingleton.elim (α := Fin 1) _ _

theorem blk2 (t : Fin cfg0.N) (r : Fin 256) (l : Fin 1024) :
    coBlk m c t (ix2 r l) = codesA m c (ix3 ⟨(256 * (t.val % 54) + r.val) / 2304, by omega⟩ ⟨(256 * (t.val % 54) + r.val) % 2304, by omega⟩ ⟨1024 * (t.val / 54) + l.val, by have := lt108 t; omega⟩) := by
  have hi := index2 t
  refine Eq.trans ?_ (V5_apply m c ⟨256 * (t.val % 54) + r.val, by omega⟩ _)
  unfold coBlk iblk
  rw [View.read_apply]
  show V m c main_v5 _ = V m c main_v5 _
  congr 1
  funext a
  apply Fin.ext
  match a with
  | ⟨0, _⟩ => show win0_2.index t 0 * 256 + 1 * r.val = 256 * (t.val % 54) + r.val; rw [hi.1]; omega
  | ⟨1, _⟩ => show win0_2.index t 1 * 1024 + 1 * l.val = 1024 * (t.val / 54) + l.val; rw [hi.2]; omega

theorem blk3 (t : Fin cfg0.N) (r : Fin 256) (l : Fin 128) :
    scBlk m c t (ix2 r l) = scalesA m c (ix3 ⟨(256 * (t.val % 54) + r.val) / 2304, by omega⟩ ⟨(256 * (t.val % 54) + r.val) % 2304, by omega⟩ ⟨128 * (t.val / 54) + l.val, by have := lt108 t; omega⟩) := by
  have hi := index3 t
  refine Eq.trans ?_ (V6_apply m c ⟨256 * (t.val % 54) + r.val, by omega⟩ _)
  unfold scBlk iblk
  rw [View.read_apply]
  show V m c main_v6 _ = V m c main_v6 _
  congr 1
  funext a
  apply Fin.ext
  match a with
  | ⟨0, _⟩ => show win0_3.index t 0 * 256 + 1 * r.val = 256 * (t.val % 54) + r.val; rw [hi.1]; omega
  | ⟨1, _⟩ => show win0_3.index t 1 * 128 + 1 * l.val = 128 * (t.val / 54) + l.val; rw [hi.2]; omega

/-- The decoded activation without its tensor scale, at a batch, a token and a column: the value of the code's half, times
the scale of the column's block of 16. -/
def dec (b : Fin 6) (t : Fin 2304) (e : Fin 4096) : EReal :=
  val (nib (codesA m c (ix3 b t ⟨e.val / 2, by omega⟩)) ⟨e.val % 2, by omega⟩) * scalesA m c (ix3 b t ⟨e.val / 16, by omega⟩)

/-- The same at a token row, the batches end to end. -/
def decRow (T : Fin 13824) (e : Fin 4096) : EReal := dec m c ⟨T.val / 2304, by omega⟩ ⟨T.val % 2304, by omega⟩ e

theorem bval_blk (t : Fin cfg0.N) (r : Fin 256) (e : Fin 2048) :
    bval (coBlk m c t) (scBlk m c t) r e
      = decRow m c ⟨256 * (t.val % 54) + r.val, by omega⟩ ⟨2048 * (t.val / 54) + e.val, by have := lt108 t; omega⟩ := by
  unfold bval decRow dec
  rw [blk2, blk3]
  refine congrArg₂ (· * ·) (congrArg val (congrArg₂ nib (congrArg (fun z => codesA m c (ix3 _ _ z)) (Fin.ext ?_)) (Fin.ext ?_)))
    (congrArg (fun z => scalesA m c (ix3 _ _ z)) (Fin.ext ?_))
  · show 1024 * (t.val / 54) + e.val / 2 = (2048 * (t.val / 54) + e.val) / 2
    omega
  · show e.val % 2 = (2048 * (t.val / 54) + e.val) % 2
    omega
  · show 128 * (t.val / 54) + e.val / 16 = (2048 * (t.val / 54) + e.val) / 16
    omega

/-- The transformed magnitude, without the tensor scale: group `T` of 16 token rows, column `e`, row `i` of the transform. -/
def tmag (T : Fin 864) (e : Fin 4096) (i : Fin 16) : EReal :=
  mag (had (sg m c) (fun j => decRow m c ⟨16 * T.val + j.val, by omega⟩ e) i)

/-- A point's block is the transformed magnitudes of its 16 groups and 2048 columns. -/
theorem blockLe_iff (t : Fin cfg0.N) (M : EReal) :
    BlockLe (sg m c) (coBlk m c t) (scBlk m c t) M ↔ ∀ (p : Fin 16) (e : Fin 2048) (i : Fin 16),
      tmag m c ⟨16 * (t.val % 54) + p.val, by omega⟩ ⟨2048 * (t.val / 54) + e.val, by have := lt108 t; omega⟩ i ≤ M := by
  unfold BlockLe tmag
  refine forall_congr' fun p => forall_congr' fun e => forall_congr' fun i => ?_
  refine iff_of_eq (congrArg (fun z => mag z ≤ M) (had_congr (fun j => ?_) rfl))
  rw [bval_blk]
  congr 1
  apply Fin.ext
  show 256 * (t.val % 54) + (16 * p.val + j.val) = 16 * (16 * (t.val % 54) + p.val) + j.val
  omega

/-! ## The running maximum -/

/-- After point `n` the scratch is at most `M` iff zero is, and the transformed magnitudes of every block so far are. -/
theorem scratch_le : ∀ (n : ℕ) (h : n < cfg0.N) (M : EReal), n ≠ 107 →
    (Le (n0 := 8) (n1 := 128) (outsAt0 m c n h).2 M
      ↔ 0 ≤ M ∧ ∀ t : Fin cfg0.N, t.val ≤ n → BlockLe (sg m c) (coBlk m c t) (scBlk m c t) M) := by
  intro n
  induction n with
  | zero =>
    intro h M _
    rw [show outsAt0 m c 0 h = _ from outsAt0_A m c ⟨0, h⟩ rfl (by show ¬0 % 108 = 107; omega)]
    dsimp only
    rw [sout_A, body_le (sg m c) _ _ _ _ (fun k => blk0 m c ⟨0, h⟩ k), pay3_le]
    refine and_congr_right fun _ => ⟨fun hb t ht => ?_, fun hb => hb ⟨0, h⟩ (le_refl _)⟩
    have e : t = ⟨0, h⟩ := Fin.ext (Nat.le_zero.mp ht)
    rw [e]
    exact hb
  | succ n ih =>
    intro h M hne
    have hN := lt108 ⟨n + 1, h⟩
    have hN' : n + 1 < 108 := hN
    rw [show outsAt0 m c (n + 1) h = _ from outsAt0_B m c ⟨n + 1, h⟩ (by show ¬(n + 1) % 108 = 0; omega) (by show ¬(n + 1) % 108 = 107; omega)]
    dsimp only
    rw [sout_B, body_le (sg m c) _ _ _ _ (fun k => blk0 m c ⟨n + 1, h⟩ k)]
    refine (and_congr_left' (ih (Nat.lt_of_succ_lt h) M (by omega))).trans ?_
    rw [and_assoc]
    refine and_congr_right fun _ => ⟨fun hb t ht => ?_, fun hb => ⟨fun t ht => hb t (by omega), hb ⟨n + 1, h⟩ (le_refl _)⟩⟩
    by_cases ht' : t.val ≤ n
    · exact hb.1 t ht'
    · have e : t = ⟨n + 1, h⟩ := Fin.ext (by show t.val = n + 1; omega)
      rw [e]
      exact hb.2

/-- The greatest transformed magnitude, without the tensor scale. -/
def gmax : EReal := ⨆ k : (Fin 864 × Fin 4096) × Fin 16, tmag m c k.1.1 k.1.2 k.2

theorem gmax_le_iff (M : EReal) : gmax m c ≤ M ↔ ∀ (T : Fin 864) (e : Fin 4096) (i : Fin 16), tmag m c T e i ≤ M := by
  unfold gmax
  rw [iSup_le_iff]
  exact ⟨fun h T e i => h ((T, e), i), fun h k => h k.1.1 k.1.2 k.2⟩

/-- The greatest transformed magnitude of the activation, its tensor scale included. -/
def amax : EReal := ⨆ k : (Fin 864 × Fin 4096) × Fin 16,
  mag (∑ j : Fin 16, quarter k.2 j * (sg m c j * decRow m c ⟨16 * k.1.1.val + j.val, by omega⟩ k.1.2 * tsA m c (ix1 0)))

/-- The tensor scale's magnitude may be taken out of the maximum. -/
theorem gmax_mul : gmax m c * mag (tsA m c (ix1 0)) = amax m c := by
  have h := Cert.Magnitude.greatest_mul (κ := Fin 864 × Fin 4096)
    (fun k j => sg m c j * decRow m c ⟨16 * k.1.val + j.val, by omega⟩ k.2) (tsA m c (ix1 0))
  refine Eq.trans (congrArg (· * _) ?_) h
  unfold gmax tmag had
  refine congrArg iSup (funext fun k => congrArg mag (Finset.sum_congr rfl fun j _ => ?_))
  exact mul_assoc _ _ _

/-- After the last point the result block holds the scale of the activation's greatest magnitude, at every element. -/
theorem outs_last (h : 107 < cfg0.N) (r : Fin 8) (l : Fin 128) :
    ((outsAt0 m c 107 h).1 : S8x128.Idx → EReal) (ix2 r l) = scale (amax m c) := by
  rw [show outsAt0 m c 107 h = _ from outsAt0_C m c ⟨107, h⟩ (by show ¬107 % 108 = 0; omega) (by show 107 % 108 = 107; omega)]
  dsimp only
  rw [out_C, pay2_apply, ← gmax_mul]
  refine congrArg scale (congrArg₂ (· * ·) (eq_of_forall_ge_iff fun M => ?_) (congrArg mag (blk1 m c ⟨107, h⟩)))
  rw [fold_le_iff, gmax_le_iff]
  refine Iff.trans (b := Le (n0 := 8) (n1 := 128) (body (F := Ideal) (iblk m c 0 ⟨107, h⟩) (iblk m c 2 ⟨107, h⟩) (iblk m c 3 ⟨107, h⟩) (outsAt0 m c 106 (Nat.lt_of_succ_lt h)).2) M)
    ⟨fun hb r l => hb (r, l), fun hb x => hb x.1 x.2⟩ ?_
  rw [body_le (sg m c) _ _ _ _ (fun k => blk0 m c ⟨107, h⟩ k)]
  refine (and_congr_left' (scratch_le m c 106 _ M (by omega))).trans ?_
  constructor
  · rintro ⟨⟨_, h1⟩, h2⟩ T e i
    have key : ∀ t : Fin cfg0.N, BlockLe (sg m c) (coBlk m c t) (scBlk m c t) M := fun t => by
      by_cases ht : t.val ≤ 106
      · exact h1 t ht
      · have e : t = ⟨107, h⟩ := Fin.ext (by have := lt108 t; show t.val = 107; omega)
        rw [e]
        exact h2
    have h' := (blockLe_iff m c ⟨54 * (e.val / 2048) + T.val / 16, by show _ < grid0.N; rw [Gen.N_0]; omega⟩ M).mp (key _)
      ⟨T.val % 16, by omega⟩ ⟨e.val % 2048, by omega⟩ i
    convert h' using 2
    · apply Fin.ext
      show T.val = 16 * ((54 * (e.val / 2048) + T.val / 16) % 54) + T.val % 16
      omega
    · apply Fin.ext
      show e.val = 2048 * ((54 * (e.val / 2048) + T.val / 16) / 54) + e.val % 2048
      omega
  · intro hb
    refine ⟨⟨(mag_nonneg _).trans (hb 0 0 0), fun t _ => (blockLe_iff m c t M).mpr fun p e i => hb _ _ i⟩,
      (blockLe_iff m c ⟨107, h⟩ M).mpr fun p e i => hb _ _ i⟩

/-- What the call computes: the scale at every element of its 8×128 result. -/
def ts : S8x128.Idx → EReal := fun _ => scale (amax m c)

theorem final : Value.G4 m c = ts m c := by
  rw [Value.G4_last]
  have e := Value.outsAt0_sweep m c 107 (lt_of_lt_of_eq (by decide) N_0.symm)
  rw [← e]
  funext j
  exact (congrArg _ (eq_ix2 (n0 := 8) (n1 := 128) j)).trans (outs_last m c _ _ _)

end Array

/-- Every run of the kernel ends with the result array at `ts` and the four arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v7) = ts m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run m ρ)

end Cert.XAmaxIdeal.XAmax

end
-- ==== Proof.XAmaxReference.lean ====
/-
  The reference of the activation's tensor scale, read over the extended reals: it decodes each 4-bit code, multiplies it
  by its block scale and the tensor scale, transforms, and makes the scale of the greatest magnitude — the same number as
  the kernel's. With it the claims about the three programs.
-/
module

public import proofs.«01_k».proof.Defs
public import proofs.«01_k».proof.Proof.XAmaxValue
public import proofs.«01_k».proof.Proof.DyAmaxReference
public import proofs.«01_k».proof.Proof.Gen.XAmax.Frame
public import proofs.«01_k».proof.Proof.Gen.XAmaxIdeal.Frame
public import proofs.«01_k».proof.Proof.Gen.XAmaxRefIdeal.Run
public import Idealize.ShloMosaic.Lib.Pipeline.Value

@[expose] public section

set_option maxRecDepth 16384

noncomputable section

open Idealize.ShloMosaic Idealize.ShloMosaic.TcCoe Idealize.SL.Sem
open scoped BigOperators

namespace Cert.XAmaxRefIdeal.XAmax

open Cert.XAmaxRefIdeal Cert.XAmaxRefIdeal.Gen
open Idealize.ShloMosaic.Pipeline (Dat)
open Cert.DyAmaxIdeal.DyAmax (mag had quarter neg scale)
open Cert.XAmaxIdeal.XAmax (val nib)

/-! ## The widened scales -/

section Widen
variable (m : (ℓ : Loc nD τ sig) → Buf (Elt Ideal) ℓ) (c : Dev nD)

theorem hz3 : (![0, 0, 0] : Fin 3 → Nat) = fun _ => 0 := by
  funext a
  match a with
  | ⟨0, _⟩ => rfl
  | ⟨1, _⟩ => rfl
  | ⟨2, _⟩ => rfl

/-- The one block of the widening call is the whole scales array. -/
theorem iblk_eq (t : Fin cfg0.N) : (iblk m c 0 t : S6x2304x256.Idx → EReal) = m ((c : Thread nD τ).loc main_arg1) := by
  unfold iblk
  funext j
  rw [View.read_apply]
  show V m c main_arg1 _ = V m c main_arg1 _
  congr 1
  funext a
  apply Fin.ext
  show 0 * _ + 1 * (j a).val = (j a).val
  omega

theorem out_eq (x : Vec Ideal S6x2304x256 .fp8e4m3) : (out0_1 (F := Ideal) x : S6x2304x256.Idx → EReal) = x := by
  unfold out0_1
  rw [View.canon_unit_zero hz3, View.ld_unit_zero (S := S6x2304x256) hz3]
  rfl

/-- The widening call leaves the block scales as they are: over the extended reals a width changes no value. -/
theorem scales_eq : (Value.reg_main_v0 m c : S6x2304x256.Idx → EReal) = m ((c : Thread nD τ).loc main_arg1) := by
  unfold Value.reg_main_v0
  refine (dats m 0 c).arrAt_eq_of_cover 1 _ (fun t hf => ?_) (fun i => ?_)
  · show (cfg0.win 1).cut (grid0.coords t) ((dats m 0 c).after 1 t) = _
    rw [after0_1]
    funext j
    rw [View.read_apply]
    show (out0_1 (F := Ideal) (iblk m c 0 t) : S6x2304x256.Idx → EReal) _ = _
    rw [out_eq, iblk_eq]
    congr 1
    funext a
    apply Fin.ext
    show (j a).val = 0 * _ + 1 * (j a).val
    omega
  · let t : Fin cfg0.N := ⟨0, by decide⟩
    refine ⟨t, flush0_1 _, ?_⟩
    show i ∈ ((View.whole main_v0).slice (win0_1.rect t)).set
    rw [View.set_slice_whole, Rect.mem_set_unit]
    intro a
    have h : (i a).val < S6x2304x256.size a := (i a).isLt
    show 0 * _ ≤ (i a).val ∧ (i a).val < 0 * _ + S6x2304x256.size a
    rw [Nat.zero_mul, Nat.zero_add]
    exact ⟨Nat.zero_le _, h⟩

end Widen

/-! ## Decoding -/

/-- A splat of a 32-bit word over the codes' shape. -/
abbrev splat (x : BitVec 32) : IVec S6x2304x2048 32 := broadcastInDim S6x2304x2048 ![] bcast_S_S6x2304x2048 (constantI S_ 32 x)

abbrev splatF (x : BitVec 16) : FVec Ideal S6x2304x2048 .bf16 :=
  broadcastInDim (α := Ideal .bf16) S6x2304x2048 ![] bcast_S_S6x2304x2048 (constant S_ .bf16 x)

/-- Where a bit of a word is set. -/
abbrev bit (w : IVec S6x2304x2048 32) (x : BitVec 32) : IVec S6x2304x2048 1 := cmpi .ne (andi w (splat x)) (splat 0#32)

/-- The magnitude of a 4-bit code. -/
abbrev magn (w : IVec S6x2304x2048 32) : FVec Ideal S6x2304x2048 .bf16 :=
  select (bit w 4#32)
    (select (bit w 2#32) (select (bit w 1#32) (splatF 0x40C0#16) (splatF 0x4080#16)) (select (bit w 1#32) (splatF 0x4040#16) (splatF 0x4000#16)))
    (select (bit w 2#32) (select (bit w 1#32) (splatF 0x3FC0#16) (splatF 0x3F80#16)) (select (bit w 1#32) (splatF 0x3F00#16) (splatF 0x0000#16)))

/-- The value of a 4-bit code. -/
abbrev value (w : IVec S6x2304x2048 32) : FVec Ideal S6x2304x2048 .bf16 := select (bit w 8#32) (Host.negf (F := Ideal) (φ := .bf16) (magn w)) (magn w)

abbrev lo (codes : IVec S6x2304x2048 8) : IVec S6x2304x2048 32 := andi (extui 32 codes natLt_8_32) (splat 15#32)
abbrev hi (codes : IVec S6x2304x2048 8) : IVec S6x2304x2048 32 := Host.shrsi (extui 32 codes natLt_8_32) (splat 4#32)

theorem select_ofBool {α : Type} (b : Bool) (x y : α) : Scalar.select (BitVec.ofBool b) x y = if b then x else y := by
  cases b <;> rfl

theorem bits_lo : ∀ (x : Fin 256) (k : Fin 4), IntOp.cmpi .ne (IntOp.andi (IntOp.andi ((BitVec.ofNat 8 x.val).setWidth 32) 15#32) (BitVec.ofNat 32 (2 ^ k.val))) 0#32
    = BitVec.ofBool ((nib (BitVec.ofNat 8 x.val) 0).val.testBit k.val) := by decide +kernel

theorem bits_hi : ∀ (x : Fin 256) (k : Fin 4), IntOp.cmpi .ne (IntOp.andi (IntOp.shrsi .host ((BitVec.ofNat 8 x.val).setWidth 32) 4#32) (BitVec.ofNat 32 (2 ^ k.val))) 0#32
    = BitVec.ofBool ((nib (BitVec.ofNat 8 x.val) 1).val.testBit k.val) := by decide +kernel

theorem of_toFin (y : BitVec 8) : BitVec.ofNat 8 y.toFin.val = y := BitVec.eq_of_toNat_eq (by simp)

theorem value_apply (w : IVec S6x2304x2048 32) (n : Fin 16) (i : S6x2304x2048.Idx)
    (h : ∀ k : Fin 4, IntOp.cmpi .ne (IntOp.andi (w i) (BitVec.ofNat 32 (2 ^ k.val))) 0#32 = BitVec.ofBool (n.val.testBit k.val)) :
    (value w : S6x2304x2048.Idx → EReal) i = val n := by
  have h0 : bit w 1#32 i = BitVec.ofBool (n.val.testBit 0) := h 0
  have h1 : bit w 2#32 i = BitVec.ofBool (n.val.testBit 1) := h 1
  have h2 : bit w 4#32 i = BitVec.ofBool (n.val.testBit 2) := h 2
  have h3 : bit w 8#32 i = BitVec.ofBool (n.val.testBit 3) := h 3
  have hm : (magn w : S6x2304x2048.Idx → EReal) i = if n.val.testBit 2 then
      (if n.val.testBit 1 then (if n.val.testBit 0 then Ideal.ofBits .bf16 0x40C0#16 else Ideal.ofBits .bf16 0x4080#16)
        else (if n.val.testBit 0 then Ideal.ofBits .bf16 0x4040#16 else Ideal.ofBits .bf16 0x4000#16))
    else (if n.val.testBit 1 then (if n.val.testBit 0 then Ideal.ofBits .bf16 0x3FC0#16 else Ideal.ofBits .bf16 0x3F80#16)
        else (if n.val.testBit 0 then Ideal.ofBits .bf16 0x3F00#16 else Ideal.ofBits .bf16 0x0000#16)) := by
    show Scalar.select (bit w 4#32 i) (Scalar.select (bit w 2#32 i) (Scalar.select (bit w 1#32 i) (Ideal.ofBits .bf16 0x40C0#16) (Ideal.ofBits .bf16 0x4080#16))
        (Scalar.select (bit w 1#32 i) (Ideal.ofBits .bf16 0x4040#16) (Ideal.ofBits .bf16 0x4000#16)))
      (Scalar.select (bit w 2#32 i) (Scalar.select (bit w 1#32 i) (Ideal.ofBits .bf16 0x3FC0#16) (Ideal.ofBits .bf16 0x3F80#16))
        (Scalar.select (bit w 1#32 i) (Ideal.ofBits .bf16 0x3F00#16) (Ideal.ofBits .bf16 0x0000#16))) = _
    rw [h0, h1, h2]
    simp only [select_ofBool]
  show Scalar.select (bit w 8#32 i) (-(magn w i : EReal)) (magn w i : EReal) = _
  rw [h3, hm, select_ofBool]
  rfl

theorem lo_apply (codes : IVec S6x2304x2048 8) (i : S6x2304x2048.Idx) : (value (lo codes) : S6x2304x2048.Idx → EReal) i = val (nib (codes i) 0) :=
  value_apply _ _ i fun k => by
    have h := bits_lo (codes i).toFin k
    rw [of_toFin] at h
    exact h

theorem hi_apply (codes : IVec S6x2304x2048 8) (i : S6x2304x2048.Idx) : (value (hi codes) : S6x2304x2048.Idx → EReal) i = val (nib (codes i) 1) :=
  value_apply _ _ i fun k => by
    have h := bits_hi (codes i).toFin k
    rw [of_toFin] at h
    exact h

/-- The two values of each code byte, side by side. -/
abbrev pairs (u v : FVec Ideal S6x2304x2048 .bf16) : FVec Ideal S6x2304x2048x2 .bf16 :=
  concatenate (α := Ideal .bf16) S6x2304x2048x2 3 [⟨S6x2304x2048x1, (broadcastInDim (α := Ideal .bf16) S6x2304x2048x1 ![0, 1, 2] bcast_S6x2304x2048_S6x2304x2048x1_0_1_2 u)⟩,
    ⟨S6x2304x2048x1, (broadcastInDim (α := Ideal .bf16) S6x2304x2048x1 ![0, 1, 2] bcast_S6x2304x2048_S6x2304x2048x1_0_1_2 v)⟩] concatenates_S6x2304x2048x1_S6x2304x2048x1_S6x2304x2048x2_d3

/-- The activation, as the reference decodes it. -/
abbrev decoded (p : FVec Ideal S6x2304x2048x2 .bf16) (sc : Vec Ideal S6x2304x256 .f32) (t : Vec Ideal S1 .f32) : Vec Ideal S6x2304x4096 .f32 :=
  shapeCast (α := Ideal .f32) S6x2304x4096 (mulf (F := Ideal) (φ := .f32) (mulf (F := Ideal) (φ := .f32)
    (extf .f32 (shapeCast (α := Ideal .bf16) S6x2304x256x8x2 p shapeCasts_S6x2304x2048x2_S6x2304x256x8x2) bitsLt_bf16_f32)
    (broadcastInDim (α := Ideal .f32) S6x2304x256x8x2 ![0, 1, 2, 3, 4] bcast_S6x2304x256x1x1_S6x2304x256x8x2_0_1_2_3_4 (broadcastInDim (α := Ideal .f32) S6x2304x256x1x1 ![0, 1, 2] bcast_S6x2304x256_S6x2304x256x1x1_0_1_2 sc)))
    (broadcastInDim (α := Ideal .f32) S6x2304x256x8x2 ![0, 1, 2, 3, 4] bcast_S1x1x1x1x1_S6x2304x256x8x2_0_1_2_3_4 (broadcastInDim (α := Ideal .f32) S1x1x1x1x1 ![4] bcast_S1_S1x1x1x1x1_4 t))) shapeCasts_S6x2304x256x8x2_S6x2304x4096

abbrev mags (x : Vec Ideal S6x2304x4096 .f32) (q : Vec Ideal S16x16 .f32) : Vec Ideal S6x2304x4096 .f32 :=
  Host.absf (F := Ideal) (φ := .f32) (shapeCast (α := Ideal .f32) S6x2304x4096 (transpose (α := Ideal .f32) S6x144x16x4096 [0, 1, 3, 2] (Host.dotGeneral (φ₁ := .f32) (φ₂ := .f32) dot_S6x144x16x4096_S16x16_S6x144x4096x16_2_1_013_0_n_n (some .fp32) (shapeCast (α := Ideal .f32) S6x144x16x4096 x shapeCasts_S6x2304x4096_S6x144x16x4096) q) transposes_S6x144x4096x16_S6x144x16x4096_0_1_3_2) shapeCasts_S6x144x16x4096_S6x2304x4096)

abbrev greatest (z : Vec Ideal S6x2304x4096 .f32) : Vec Ideal S_ .f32 :=
  Host.reduce (α := Ideal .f32) FloatOps.maximumf z (constant S_ .f32 0xFF800000#32) reducesTo_S6x2304x4096_S_d0_1_2 h_S_

theorem decoded_apply (p : FVec Ideal S6x2304x2048x2 .bf16) (sc : Vec Ideal S6x2304x256 .f32) (t : Vec Ideal S1 .f32) (b : Fin 6) (r : Fin 2304) (e : Fin 4096) :
    (decoded p sc t : S6x2304x4096.Idx → EReal) (ix3 b r e)
      = (p (ix4 b r ⟨e.val / 2, by omega⟩ ⟨e.val % 2, by omega⟩) : EReal) * sc (ix3 b r ⟨e.val / 16, by omega⟩) * t (ix1 0) := by
  unfold decoded
  pointwise
  refine congrArg (· * _) (congrArg (· * _) (congrArg (fun z => (p (ix4 b r z ⟨e.val % 2, by omega⟩) : EReal)) (Fin.ext ?_)))
  show e.val / 16 * 8 + e.val / 2 % 8 = e.val / 2
  omega

theorem pairs_apply (u v : FVec Ideal S6x2304x2048 .bf16) (b : Fin 6) (r : Fin 2304) (e : Fin 2048) (p : Fin 2) :
    (pairs u v : S6x2304x2048x2.Idx → EReal) (ix4 b r e p) = if p = 0 then (u (ix3 b r e) : EReal) else v (ix3 b r e) := by
  unfold pairs
  fin_cases p
  all_goals
    pointwise

theorem mags_apply (x : Vec Ideal S6x2304x4096 .f32) (q : Vec Ideal S16x16 .f32) (b : Fin 6) (t : Fin 2304) (e : Fin 4096) :
    (mags x q : S6x2304x4096.Idx → EReal) (ix3 b t e)
      = mag (∑ j : Fin 16, (x (ix3 b ⟨t.val / 16 * 16 + j.val, by omega⟩ e) : EReal) * (q (ix2 ⟨t.val % 16, by omega⟩ j) : EReal)) := by
  unfold mags
  pointwise
  rfl

theorem greatest_apply (z : Vec Ideal S6x2304x4096 .f32) (i : S_.Idx) :
    (greatest z : S_.Idx → EReal) i
      = Finset.fold max ⊥ (fun k : Fin 6 × Fin 2304 × Fin 4096 => (z (ix3 k.1 k.2.1 k.2.2) : EReal)) Finset.univ := by
  unfold greatest
  pointwise
  rw [Cert.DyAmaxIdeal.DyAmax.ofBits_ninf]

/-- The greatest magnitude as the run names it is the one of the definitions above. -/
theorem greatest_run (m : (ℓ : Loc nD τ sig) → Buf (Elt Ideal) ℓ) (c : Dev nD) :
    Value.res_main_v92 (Value.exitV m c) = greatest (mags (decoded (pairs (value (lo (m ((c : Thread nD τ).loc main_arg0)))) (value (hi (m ((c : Thread nD τ).loc main_arg0)))))
      (m ((c : Thread nD τ).loc main_arg1)) (m ((c : Thread nD τ).loc main_arg2))) (Cert.DyAmaxRefIdeal.DyAmax.matrix (m ((c : Thread nD τ).loc main_arg3)))) := by
  unfold Value.res_main_v92 Value.res_main_v53 Value.res_main_v46 Value.res_main_v42 Value.res_main_v30 Value.res_main_v26 Value.res_main_v19 Value.res_main_v15 Value.res_main_v3 Value.res_main_v1 Value.res_main_v68
  rw [Value.exit_main_arg0, Value.exit_main_arg2, Value.exit_main_arg3, Value.exit_main_v0,
    show Value.reg_main_v0 m c = m ((c : Thread nD τ).loc main_arg1) from scales_eq m c]

end Cert.XAmaxRefIdeal.XAmax

namespace Cert.Proof.XAmax

open Cert.XAmaxIdeal.XAmax
open Cert.DyAmaxIdeal.DyAmax (mag had quarter neg scale fold_le_iff)

/-- The decoded activation at a batch, a token and a column: the value of the code's half, times its block's scale, times
the tensor scale. -/
theorem decoded_eq (codes : Cert.XAmaxRefIdeal.S6x2304x2048.Idx → BitVec 8) (sc : Cert.XAmaxRefIdeal.S6x2304x256.Idx → EReal) (t : Cert.XAmaxRefIdeal.S1.Idx → EReal)
    (b : Fin 6) (r : Fin 2304) (e : Fin 4096) :
    (Cert.XAmaxRefIdeal.XAmax.decoded (Cert.XAmaxRefIdeal.XAmax.pairs (Cert.XAmaxRefIdeal.XAmax.value (Cert.XAmaxRefIdeal.XAmax.lo codes))
      (Cert.XAmaxRefIdeal.XAmax.value (Cert.XAmaxRefIdeal.XAmax.hi codes))) sc t : Cert.XAmaxRefIdeal.S6x2304x4096.Idx → EReal) (ix3 b r e)
      = val (nib (codes (ix3 b r ⟨e.val / 2, by omega⟩)) ⟨e.val % 2, by omega⟩) * sc (ix3 b r ⟨e.val / 16, by omega⟩) * t (ix1 0) := by
  rw [Cert.XAmaxRefIdeal.XAmax.decoded_apply, Cert.XAmaxRefIdeal.XAmax.pairs_apply, Cert.XAmaxRefIdeal.XAmax.lo_apply, Cert.XAmaxRefIdeal.XAmax.hi_apply]
  refine congrArg (· * _) (congrArg (· * _) ?_)
  rcases Nat.mod_two_eq_zero_or_one e.val with h | h
  · have hp : (⟨e.val % 2, by omega⟩ : Fin 2) = 0 := Fin.ext h
    rw [hp, if_pos rfl]
  · have hp : (⟨e.val % 2, by omega⟩ : Fin 2) = 1 := Fin.ext h
    rw [hp, if_neg (by decide)]

/-- The greatest magnitude the reference finds is the kernel's, the tensor scale included. -/
theorem greatest_eq (m : (ℓ : Loc Cert.XAmaxIdeal.nD Cert.XAmaxIdeal.τ Cert.XAmaxIdeal.sig) → Buf (Elt Ideal) ℓ)
    (c : Dev Cert.XAmaxIdeal.nD) (i : Cert.XAmaxRefIdeal.S_.Idx) :
    (Cert.XAmaxRefIdeal.XAmax.greatest (Cert.XAmaxRefIdeal.XAmax.mags (Cert.XAmaxRefIdeal.XAmax.decoded
      (Cert.XAmaxRefIdeal.XAmax.pairs (Cert.XAmaxRefIdeal.XAmax.value (Cert.XAmaxRefIdeal.XAmax.lo (codesA m c)))
        (Cert.XAmaxRefIdeal.XAmax.value (Cert.XAmaxRefIdeal.XAmax.hi (codesA m c)))) (scalesA m c) (tsA m c))
      (Cert.DyAmaxRefIdeal.DyAmax.matrix (sgA m c))) : Cert.XAmaxRefIdeal.S_.Idx → EReal) i = amax m c := by
  rw [Cert.XAmaxRefIdeal.XAmax.greatest_apply]
  refine eq_of_forall_ge_iff fun M => ?_
  unfold amax
  rw [fold_le_iff, iSup_le_iff]
  have key : ∀ (b : Fin 6) (t : Fin 2304) (e : Fin 4096),
      (Cert.XAmaxRefIdeal.XAmax.mags (Cert.XAmaxRefIdeal.XAmax.decoded
      (Cert.XAmaxRefIdeal.XAmax.pairs (Cert.XAmaxRefIdeal.XAmax.value (Cert.XAmaxRefIdeal.XAmax.lo (codesA m c)))
        (Cert.XAmaxRefIdeal.XAmax.value (Cert.XAmaxRefIdeal.XAmax.hi (codesA m c)))) (scalesA m c) (tsA m c))
      (Cert.DyAmaxRefIdeal.DyAmax.matrix (sgA m c)) : Cert.XAmaxRefIdeal.S6x2304x4096.Idx → EReal) (ix3 b t e)
        = mag (∑ j : Fin 16, quarter ⟨t.val % 16, by omega⟩ j
            * (sg m c j * decRow m c ⟨16 * (144 * b.val + t.val / 16) + j.val, by omega⟩ e * tsA m c (ix1 0))) := fun b t e => by
    rw [Cert.XAmaxRefIdeal.XAmax.mags_apply]
    refine congrArg mag (Finset.sum_congr rfl fun j _ => ?_)
    rw [Cert.DyAmaxRefIdeal.DyAmax.matrix_apply, decoded_eq]
    have hd : decRow m c ⟨16 * (144 * b.val + t.val / 16) + j.val, by omega⟩ e = dec m c b ⟨t.val / 16 * 16 + j.val, by omega⟩ e := by
      unfold decRow
      congr 1
      · apply Fin.ext
        show (16 * (144 * b.val + t.val / 16) + j.val) / 2304 = b.val
        omega
      · apply Fin.ext
        show (16 * (144 * b.val + t.val / 16) + j.val) % 2304 = t.val / 16 * 16 + j.val
        omega
    rw [hd]
    unfold dec sg
    ac_rfl
  constructor
  · intro h k
    obtain ⟨⟨T, e⟩, i⟩ := k
    have h' := h (⟨T.val / 144, by omega⟩, ⟨16 * (T.val % 144) + i.val, by omega⟩, e)
    rw [key] at h'
    refine le_of_eq_of_le (congrArg mag (Finset.sum_congr rfl fun j _ => congrArg₂ (fun a b => quarter a j * (sg m c j * decRow m c b e * tsA m c (ix1 0)))
      (Fin.ext ?_) (Fin.ext ?_))) h'
    · show i.val = (16 * (T.val % 144) + i.val) % 16
      omega
    · show 16 * T.val + j.val = 16 * (144 * (T.val / 144) + (16 * (T.val % 144) + i.val) / 16) + j.val
      omega
  · intro h k
    rw [key]
    exact h ((⟨144 * k.1.val + k.2.1.val / 16, by omega⟩, k.2.2), ⟨k.2.1.val % 16, by omega⟩)

/-- Over the extended reals, from equal arguments, the kernel's result array and the reference's hold the same values. -/
theorem algebraic : Cert.algebraic_XAmaxIdeal_XAmaxRefIdeal := by
  intro m ρ m' ρ' _ hagree
  refine ⟨fun c => ts m c, run m ρ, ?_⟩
  refine (θ_run Cert.XAmaxRefIdeal.defs _ _).mono (fun _ h c => ⟨(h c).1.trans ?_, (h c).2⟩)
    (Cert.XAmaxRefIdeal.Value.run (F := Ideal) m' ρ')
  show _ = ts m c
  rw [Cert.XAmaxRefIdeal.XAmax.greatest_run, (hagree c).1, (hagree c).2.1, (hagree c).2.2.1, (hagree c).2.2.2]
  funext i
  rw [eq_ix2 i]
  exact (Cert.DyAmaxRefIdeal.DyAmax.scale_apply _ (i 0) (i 1)).trans (congrArg scale (greatest_eq m c _))

/-- The kernel terminates with its arguments unchanged and its semaphore counters at zero. -/
theorem frame_k : Cert.quiescent_XAmax := fun m ρ _ => Cert.XAmax.Gen.frame m ρ

/-- So does its idealization. -/
theorem frame_ki : Cert.quiescent_XAmaxIdeal := fun m ρ _ => Cert.XAmaxIdeal.Gen.frame m ρ

/-- So does the reference. -/
theorem frame_ri : Cert.quiescent_XAmaxRefIdeal := fun m ρ _ => Cert.XAmaxRefIdeal.Gen.frame m ρ

end Cert.Proof.XAmax

end
-- ==== Proof.DyQuantIdealLoop.lean ====
/- The counted loop of the idealized dy_quant call, by an invariant: the pieces its trips write, over whatever the
   buffers held. A trip writes its two words of codes into the word scratch at stride 2 and reads the scratch back whole;
   its two stores cover the scratch, so what it reads is what it wrote. -/
module

public import proofs.«01_k».proof.Proof.Gen.DyQuantIdeal.Skeleton
public import Idealize.ShloMosaic.Lib.Exec
public import Idealize.ShloMosaic.Lib.Tactic
public import Idealize.ShloMosaic.Lib.Pipeline.Kit
public import Idealize.ShloMosaic.Lib.Ring

@[expose] public section

set_option maxRecDepth 8192
set_option maxHeartbeats 4000000

noncomputable section

namespace Cert.DyQuantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The class of invariants of the call's one counted loop. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 v0)

/-- The two stride-2 stores of a trip into the word scratch cover it: row `2 r + ph` is row `r` of store `ph`. -/
theorem words_cover (w0 w1 : Vec F S8x128 .i32) (y : S16x128.Idx) :
    ∃ p ∈ ([⟨⟨(⟨![1, 0], S8x128.size, ![2, 1], inb_S16x128_S8x128_1_0_s_2_1⟩ : LoadRect S16x128), spos_2_1⟩, w1⟩,
        ⟨⟨(⟨![0, 0], S8x128.size, ![2, 1], inb_S16x128_S8x128_0_0_s_2_1⟩ : LoadRect S16x128), spos_2_1⟩, w0⟩] : List (View.Piece (Elt F) S16x128 .i32)),
      y ∈ p.1.set := by
  have h0 : (y 0).val < 16 := (y 0).isLt
  have h1 : (y 1).val < 128 := (y 1).isLt
  have hr : (y 0).val / 2 < 8 := by omega
  rcases Nat.mod_two_eq_zero_or_one (y 0).val with h | h
  · refine ⟨_, List.mem_cons_of_mem _ List.mem_cons_self, (LoadRect.mem_set _).mpr fun a => ?_⟩
    fin_cases a
    · exact ⟨(y 0).val / 2, hr, by show (y 0).val = 0 + 2 * ((y 0).val / 2); omega⟩
    · exact ⟨(y 1).val, h1, by show (y 1).val = 0 + 1 * (y 1).val; omega⟩
  · refine ⟨_, List.mem_cons_self, (LoadRect.mem_set _).mpr fun a => ?_⟩
    fin_cases a
    · exact ⟨(y 0).val / 2, hr, by show (y 0).val = 1 + 2 * ((y 0).val / 2); omega⟩
    · exact ⟨(y 1).val, h1, by show (y 1).val = 0 + 1 * (y 1).val; omega⟩
/-! ### `k0_t1_loop`: the generated invariant (classifier: affine) -/

/-- One trip's resources: what the region reads (arg2, arg4, arg5) at its contents, what it writes
   (arg6, arg8, arg9, arg10) at any. -/
abbrev Trip_k0_t1 (c : Dev nD) (arg2 : Memref sig .tc .smem S16 .f32) (arg4 : Memref sig .tc .vmem S2304x128 .bf16) (arg5 : Memref sig .tc .vmem S2304x128 .i8) (arg6 : Memref sig .tc .vmem S1x1152x128 .i8) (arg8 : Memref sig .tc .vmem S2304x128 .bf16) (arg9 : Memref sig .tc .vmem S16x128 .i32) (arg10 : Memref sig .tc .vmem S144x128 .f32) (X_arg2 : BufTy.Contents (Elt F) arg2.view.ty) (X_arg4 : BufTy.Contents (Elt F) arg4.view.ty) (X_arg5 : BufTy.Contents (Elt F) arg5.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) : sProp (MT nD τ sig Unit (Elt F) ℕ (UR sig nD τ) ℕ) :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- ONE TRIP of `k0_t1_loop` at a symbolic `k`, run by `sl_exec` (its rectangles' offsets closed
   forms of `k`, their geometry linear arithmetic): the pieces it writes into arg6, arg8, arg9,
   arg10 are the run's own finds — the witnesses `sl_close` assigns handing the buffers to the
   continuation. `@[irreducible]`: cited, never unfolded. -/
@[irreducible] def trip_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : Fin k0_t1_loop.trips) :
    Σ' (L_arg6 : List (View.Piece (Elt F) S1x1152x128 .i8)) (L_arg8 : List (View.Piece (Elt F) S2304x128 .bf16)) (L_arg9 : List (View.Piece (Elt F) S16x128 .i32)) , { L_arg10 : List (View.Piece (Elt F) S144x128 .f32) // ∀ (E : Set ℕ) (f_arg6 : BufTy.Contents (Elt F) arg6.view.ty) (f_arg8 : BufTy.Contents (Elt F) arg8.view.ty) (f_arg9 : BufTy.Contents (Elt F) arg9.view.ty) (f_arg10 : BufTy.Contents (Elt F) arg10.view.ty),
      Trip_k0_t1 (F := F) c arg2 arg4 arg5 arg6 arg8 arg9 arg10 X_arg2 X_arg4 X_arg5 f_arg6 f_arg8 f_arg9 f_arg10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 v0 k PUnit.unit)
          (fun _ => Trip_k0_t1 (F := F) c arg2 arg4 arg5 arg6 arg8 arg9 arg10 X_arg2 X_arg4 X_arg5 (arg6.view.writes (Elt F) f_arg6 L_arg6) (arg8.view.writes (Elt F) f_arg8 L_arg8) (arg9.view.writes (Elt F) f_arg9 L_arg9) (arg10.view.writes (Elt F) f_arg10 L_arg10)) } := by
  have hk : k.val < 18 := Nat.lt_of_lt_of_le k.isLt k0_t1_abs.2.1
  refine ⟨?_, ?_, ?_, ?_, fun E f_arg6 f_arg8 f_arg9 f_arg10 => ?run⟩
  case run =>
    have hrd : ∀ (f : BufTy.Contents (Elt F) arg9.view.ty) (w0 w1 : Vec F S8x128 .i32),
        arg9.view.readAt (Elt F) (Rect.unit (s := S16x128) ![0, 0] S16x128.size inb_S16x128_S16x128_0_0).toLoadRect
            (arg9.view.writes (Elt F) f [⟨⟨(⟨![1, 0], S8x128.size, ![2, 1], inb_S16x128_S8x128_1_0_s_2_1⟩ : LoadRect S16x128), spos_2_1⟩, w1⟩,
              ⟨⟨(⟨![0, 0], S8x128.size, ![2, 1], inb_S16x128_S8x128_0_0_s_2_1⟩ : LoadRect S16x128), spos_2_1⟩, w0⟩])
          = arg9.view.readCov [⟨⟨(⟨![1, 0], S8x128.size, ![2, 1], inb_S16x128_S8x128_1_0_s_2_1⟩ : LoadRect S16x128), spos_2_1⟩, w1⟩,
              ⟨⟨(⟨![0, 0], S8x128.size, ![2, 1], inb_S16x128_S8x128_0_0_s_2_1⟩ : LoadRect S16x128), spos_2_1⟩, w0⟩]
              (Rect.unit (s := S16x128) ![0, 0] S16x128.size inb_S16x128_S16x128_0_0).toLoadRect :=
      fun f w0 w1 => View.readAt_writes_of_cover _ f _ _ (fun j => words_cover w0 w1 _)
    unfold k0_t1_body
    iintro ⟨HR_arg2, HR_arg4, HR_arg5, HW_arg6, HW_arg8, HW_arg9, HW_arg10⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : Fin k0_t1_loop.trips) : List (View.Piece (Elt F) S1x1152x128 .i8) × List (View.Piece (Elt F) S2304x128 .bf16) × List (View.Piece (Elt F) S16x128 .i32) × List (View.Piece (Elt F) S144x128 .f32) :=
  ((trip_k0_t1 (F := F) 𝒱 c bd i arg2 harg2 arg3 harg3 arg4 harg4 arg5 harg5 arg6 harg6 arg7 harg7 arg8 harg8 arg9 harg9 arg10 harg10 v0 X_arg2 X_arg4 X_arg5 k).1, (trip_k0_t1 (F := F) 𝒱 c bd i arg2 harg2 arg3 harg3 arg4 harg4 arg5 harg5 arg6 harg6 arg7 harg7 arg8 harg8 arg9 harg9 arg10 harg10 v0 X_arg2 X_arg4 X_arg5 k).2.1, (trip_k0_t1 (F := F) 𝒱 c bd i arg2 harg2 arg3 harg3 arg4 harg4 arg5 harg5 arg6 harg6 arg7 harg7 arg8 harg8 arg9 harg9 arg10 harg10 v0 X_arg2 X_arg4 X_arg5 k).2.2.1, (trip_k0_t1 (F := F) 𝒱 c bd i arg2 harg2 arg3 harg3 arg4 harg4 arg5 harg5 arg6 harg6 arg7 harg7 arg8 harg8 arg9 harg9 arg10 harg10 v0 X_arg2 X_arg4 X_arg5 k).2.2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : ℕ) (prev : List (View.Piece (Elt F) S1x1152x128 .i8) × List (View.Piece (Elt F) S2304x128 .bf16) × List (View.Piece (Elt F) S16x128 .i32) × List (View.Piece (Elt F) S144x128 .f32)) : List (View.Piece (Elt F) S1x1152x128 .i8) × List (View.Piece (Elt F) S2304x128 .bf16) × List (View.Piece (Elt F) S16x128 .i32) × List (View.Piece (Elt F) S144x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).1 ++ prev.1, (tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).2.1 ++ prev.2.1, (tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).2.2.1 ++ prev.2.2.1, (tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).2.2.2 ++ prev.2.2.2)
  else prev

/-- The pieces of the trips before `k` (last first), per written memref. -/
def pb_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) : ℕ → List (View.Piece (Elt F) S1x1152x128 .i8) × List (View.Piece (Elt F) S2304x128 .bf16) × List (View.Piece (Elt F) S16x128 .i32) × List (View.Piece (Elt F) S144x128 .f32)
  | 0 => ([], [], [], [])
  | k + 1 => pb_k0_t1Step 𝒱 c bd i arg2 harg2 arg3 harg3 arg4 harg4 arg5 harg5 arg6 harg6 arg7 harg7 arg8 harg8 arg9 harg9 arg10 harg10 v0 X_arg2 X_arg4 X_arg5 k (pb_k0_t1 𝒱 c bd i arg2 harg2 arg3 harg3 arg4 harg4 arg5 harg5 arg6 harg6 arg7 harg7 arg8 harg8 arg9 harg9 arg10 harg10 v0 X_arg2 X_arg4 X_arg5 k)

theorem pb_k0_t1_succ (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : Fin k0_t1_loop.trips) :
    pb_k0_t1 (F := F) 𝒱 c bd i arg2 harg2 arg3 harg3 arg4 harg4 arg5 harg5 arg6 harg6 arg7 harg7 arg8 harg8 arg9 harg9 arg10 harg10 v0 X_arg2 X_arg4 X_arg5 (k.val + 1)
      = ((tripL_k0_t1 (F := F) 𝒱 c bd i arg2 harg2 arg3 harg3 arg4 harg4 arg5 harg5 arg6 harg6 arg7 harg7 arg8 harg8 arg9 harg9 arg10 harg10 v0 X_arg2 X_arg4 X_arg5 k).1 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).1, (tripL_k0_t1 (F := F) 𝒱 c bd i arg2 harg2 arg3 harg3 arg4 harg4 arg5 harg5 arg6 harg6 arg7 harg7 arg8 harg8 arg9 harg9 arg10 harg10 v0 X_arg2 X_arg4 X_arg5 k).2.1 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).2.1, (tripL_k0_t1 (F := F) 𝒱 c bd i arg2 harg2 arg3 harg3 arg4 harg4 arg5 harg5 arg6 harg6 arg7 harg7 arg8 harg8 arg9 harg9 arg10 harg10 v0 X_arg2 X_arg4 X_arg5 k).2.2.1 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).2.2.1, (tripL_k0_t1 (F := F) 𝒱 c bd i arg2 harg2 arg3 harg3 arg4 harg4 arg5 harg5 arg6 harg6 arg7 harg7 arg8 harg8 arg9 harg9 arg10 harg10 v0 X_arg2 X_arg4 X_arg5 k).2.2.2 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).2.2.2) := by
  rw [pb_k0_t1.eq_2]; unfold pb_k0_t1Step; exact dif_pos k.isLt

/-- THE INVARIANT before trip `k`: arg2, arg4, arg5 read at `X_·`; arg6, arg8, arg9, arg10 holding
   the pieces of the trips before `k` written over the contents at loop entry `G_·` (stated `∃ f, …
   ∗ ⌜f = …⌝`, so that a hypothesis of any contents matches and the equation is what is proved). -/
abbrev inv_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (k : ℕ) (_u : PUnit) : sProp (MT nD τ sig Unit (Elt F) ℕ (UR sig nD τ) ℕ) :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 arg10 harg10 v0 X_arg2 X_arg4 X_arg5 k).1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 v0 X_arg2 X_arg4 X_arg5 k).2.1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 v0 X_arg2 X_arg4 X_arg5 k).2.2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 v0 X_arg2 X_arg4 X_arg5 k).2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 v0 where
  inv := inv_k0_t1 (F := F) 𝒱 c bd i arg2 harg2 arg3 harg3 arg4 harg4 arg5 harg5 arg6 harg6 arg7 harg7 arg8 harg8 arg9 harg9 arg10 harg10 v0 X_arg2 X_arg4 X_arg5 G_arg6 G_arg8 G_arg9 G_arg10
  step k acc := by
    iintro ⟨HR_arg2, HR_arg4, HR_arg5, ⟨%f_arg6, HW_arg6, %h_arg6⟩, ⟨%f_arg8, HW_arg8, %h_arg8⟩, ⟨%f_arg9, HW_arg9, %h_arg9⟩, ⟨%f_arg10, HW_arg10, %h_arg10⟩⟩
    iapply (wp_wand_r Idealize.ShloMosaic.frame (wpE (defs₀ (F := F)) 𝒱 (c : Thread nD τ) bd) E)
    isplitl [HR_arg2 HR_arg4 HR_arg5 HW_arg6 HW_arg8 HW_arg9 HW_arg10]
    · iapply ((trip_k0_t1 (F := F) 𝒱 c bd i arg2 harg2 arg3 harg3 arg4 harg4 arg5 harg5 arg6 harg6 arg7 harg7 arg8 harg8 arg9 harg9 arg10 harg10 v0 X_arg2 X_arg4 X_arg5 k).2.2.2.2 E f_arg6 f_arg8 f_arg9 f_arg10)
      isplitl [HR_arg2]; · iexact HR_arg2
      isplitl [HR_arg4]; · iexact HR_arg4
      isplitl [HR_arg5]; · iexact HR_arg5
      isplitl [HW_arg6]; · iexact HW_arg6
      isplitl [HW_arg8]; · iexact HW_arg8
      isplitl [HW_arg9]; · iexact HW_arg9
      iexact HW_arg10
    · iintro %_ ⟨HR_arg2, HR_arg4, HR_arg5, HW_arg6, HW_arg8, HW_arg9, HW_arg10⟩
      isplitl [HR_arg2]; · iexact HR_arg2
      isplitl [HR_arg4]; · iexact HR_arg4
      isplitl [HR_arg5]; · iexact HR_arg5
      rw [pb_k0_t1_succ]
      isplitl [HW_arg6]
      · iexists _; isplitl [HW_arg6]; · iexact HW_arg6
        ipureintro; rw [h_arg6, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      iexists _; isplitl [HW_arg10]; · iexact HW_arg10
      ipureintro; rw [h_arg10, ← View.writes_append]

end Cert.DyQuantIdeal.Gen

end
-- ==== Proof.DyQuantIdealFrame.lean ====
/- The run of the idealized dy_quant call and its frame: the host operation before the call, the windows' blocks, the whole body
   (its loop by the invariant of DyQuantIdealLoop), what the outputs hold point by point, and the argument arrays unchanged. -/
module

public import proofs.«01_k».proof.Proof.Gen.DyQuantIdeal.Launch
public import proofs.«01_k».proof.Proof.Gen.DyQuantIdeal.Skeleton
public import proofs.«01_k».proof.Proof.Gen.DyQuantIdeal.Points
public import proofs.«01_k».proof.Proof.DyQuantIdealLoop
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.DyQuantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DyQuantIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c)⟩) h

/-! ## The kernel body on any staging memrefs: a subtype the run finds -/

/-- One staging buffer of output window 4, through which its contents are stated (`View.read_writes_of_cover`: the
    choice does not matter). -/
abbrev VO0_4 : View sig .tc .vmem S1x1152x128 .i8 := (Memref.whole cc0_stg4_0 : Memref sig .tc .vmem S1x1152x128 .i8).view
/-- One staging buffer of output window 5, through which its contents are stated (`View.read_writes_of_cover`: the
    choice does not matter). -/
abbrev VO0_5 : View sig .tc .vmem S1x144x128 .fp8e4m3 := (Memref.whole cc0_stg5_0 : Memref sig .tc .vmem S1x144x128 .fp8e4m3).view
/-- One staging buffer of output window 6, through which its contents are stated (`View.read_writes_of_cover`: the
    choice does not matter). -/
abbrev VO0_6 : View sig .tc .vmem S2304x128 .bf16 := (Memref.whole cc0_stg6_0 : Memref sig .tc .vmem S2304x128 .bf16).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2304x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1152x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x144x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2304x128 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x128 .i32 := Memref.whole cc0_scratch0
abbrev scM0_1 : Memref sig .tc .vmem S144x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) :
    Σ' (L4 : List (View.Piece (Elt F) S1x1152x128 .i8)), Σ' (L5 : List (View.Piece (Elt F) S1x144x128 .fp8e4m3)), { L6 : List (View.Piece (Elt F) S2304x128 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d)) -∗ K ⟨⟩))
          ⊢ wp frame (wpE (defs₀ (F := F)) Variants.none c none) E (cc0_dy_quant i arg2 harg2 arg3 harg3 arg4 harg4 arg5 harg5 arg6 harg6 arg7 harg7 arg8 harg8 arg9 harg9 arg10 harg10) K } := by
  refine ⟨?_, ?_, ?_, fun E K => ?run⟩
  case run =>
    simp only [cc0_dy_quant_eq_skeleton]; unfold cc0_dy_quant_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    have hrd0 : ∀ (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (hrdF : BufTy.Contents (Elt F) arg10.view.ty) (hrdB : LoadRect S144x128), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 v0 X_arg2 X_arg4 X_arg5 (Scf.trips k0_t1_loop.lb k0_t1_loop.ub k0_t1_loop.st)).2.2.2) = arg10.view.readCov (pb_k0_t1 (F := F) 𝒱 c bd i arg2 harg2 arg3 harg3 arg4 harg4 arg5 harg5 arg6 harg6 arg7 harg7 arg8 harg8 arg9 harg9 arg10 harg10 v0 X_arg2 X_arg4 X_arg5 (Scf.trips k0_t1_loop.lb k0_t1_loop.ub k0_t1_loop.st)).2.2.2 hrdB := fun 𝒱 c bd i arg2 harg2 arg3 harg3 arg4 harg4 arg5 harg5 arg6 harg6 arg7 harg7 arg8 harg8 arg9 harg9 arg10 harg10 v0 X_arg2 X_arg4 X_arg5 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 v0 X_arg2 X_arg4 X_arg5 (Scf.trips k0_t1_loop.lb k0_t1_loop.ub k0_t1_loop.st)).2.2.2 S8x128.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]
    · iexists _, _; isplitr; swap; · iexact HS0
      ipureintro; rfl
    iexists _, _; isplitr; swap; · iexact HS1
    ipureintro; rfl

/-- The run's pieces for output 4 tile its block (18 stores of `S1x64x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) (y : S1x1152x128.Idx) :
    ∃ pc ∈ (kernelRun0_A c i arg2 harg2 arg3 harg3 arg4 harg4 arg5 harg5 arg6 harg6 arg7 harg7 arg8 harg8 arg9 harg9 arg10 harg10 x0 x1 x2 x3).1, y ∈ pc.1.set :=
  View.cover_of_tiledL (kernelRun0_A c i arg2 harg2 arg3 harg3 arg4 harg4 arg5 harg5 arg6 harg6 arg7 harg7 arg8 harg8 arg9 harg9 arg10 harg10 x0 x1 x2 x3).1 S1x64x128.size (by sl_kernel_rfl) y

/-- What the run leaves in output 4's staging buffer: its pieces read back over junk. -/
def out0_A_4 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) : Vec F S1x1152x128 .i8 :=
  VO0_4.read (Elt F) (VO0_4.writes (Elt F) VO0_4.junk (kernelRun0_A c i arg2 harg2 arg3 harg3 arg4 harg4 arg5 harg5 arg6 harg6 arg7 harg7 arg8 harg8 arg9 harg9 arg10 harg10 x0 x1 x2 x3).1)

/-- The run's pieces for output 5 tile its block (1 store of `S1x144x128`, checked by the kernel's evaluation: Lib/Ring.lean `Piece.tiledL`, linear in the pieces, through a loop's `@[irreducible]` trip theorem too), so they cover it. -/
theorem cover0_A_5 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) (y : S1x144x128.Idx) :
    ∃ pc ∈ (kernelRun0_A c i arg2 harg2 arg3 harg3 arg4 harg4 arg5 harg5 arg6 harg6 arg7 harg7 arg8 harg8 arg9 harg9 arg10 harg10 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3).2.1 S1x144x128.size (by sl_kernel_rfl) y

/-- What the run leaves in output 5's staging buffer: its pieces read back over junk. -/
def out0_A_5 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) : Vec F S1x144x128 .fp8e4m3 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3).2.1)

/-- The run's pieces for output 6 tile its block (72 stores of `S32x128`, checked by the kernel's evaluation: Lib/Ring.lean `Piece.tiledL`, linear in the pieces, through a loop's `@[irreducible]` trip theorem too), so they cover it. -/
theorem cover0_A_6 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) (y : S2304x128.Idx) :
    ∃ pc ∈ (kernelRun0_A c i arg2 harg2 arg3 harg3 arg4 harg4 arg5 harg5 arg6 harg6 arg7 harg7 arg8 harg8 arg9 harg9 arg10 harg10 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3).2.2.1 S32x128.size (by sl_kernel_rfl) y

/-- What the run leaves in output 6's staging buffer: its pieces read back over junk. -/
def out0_A_6 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) : Vec F S2304x128 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3).2.2.1)

/-! ## What the outputs hold after each point -/

/-- What the outputs' staging buffers hold after the body at point `t` (as a tuple, in window order): the run's contents at
    the point's memrefs and input blocks. -/
def outsAt0 (c : Dev nD) (t : Fin cfg0.N) : Vec F S1x1152x128 .i8 × Vec F S1x144x128 .fp8e4m3 × Vec F S2304x128 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_4 out0_A_5 out0_A_6; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_DyQuantIdeal`'s statement (Defs.lean) at any `F` — Proof.lean cites it at `Bits`:
    `theorem Cert.Proof.claim : Cert.Claim := ⟨Cert.DyQuantIdeal.Gen.facts, fun m ρ _ => Cert.DyQuantIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DyQuantIdeal.Gen

end
-- ==== Proof.DyQuantTrip.lean ====
/-
  One trip of the gradient quantiser's loop, read element by element over the extended reals: the sixteen signed values
  of a block, their fast Walsh-Hadamard transform, and the block's scale.
-/
module

public import proofs.«01_k».proof.Proof.DyQuantIdealFrame
public import proofs.«01_k».proof.Proof.Magnitude

@[expose] public section

set_option maxRecDepth 65536

noncomputable section

namespace Cert.DyQuantIdeal.Quant

open Cert.DyQuantIdeal Cert.DyQuantIdeal.Gen Idealize.ShloMosaic Idealize.ShloMosaic.TcCoe Idealize.SL.Sem
open Cert.DyAmaxIdeal.DyAmax (mag neg quarter had)
open Cert.Magnitude
open scoped BigOperators

variable (arg2 : Memref sig .tc .smem S16 .f32) (arg4 : Memref sig .tc .vmem S2304x128 .bf16) (arg5 : Memref sig .tc .vmem S2304x128 .i8)
  (v0 : Vec Ideal S8x128 .f32) (X_arg2 : BufTy.Contents (Elt Ideal) arg2.view.ty) (X_arg4 : BufTy.Contents (Elt Ideal) arg4.view.ty)
  (X_arg5 : BufTy.Contents (Elt Ideal) arg5.view.ty) (k : Fin k0_t1_loop.trips)

/-- The trip's 128 rows of the gradient. -/
abbrev rows : Vec Ideal S128x128 .bf16 := arg4.view.readAt (Elt Ideal) (Rect.unit (s := S2304x128) (k0_off1 k) S128x128.size (k0_off1_inb k)).toLoadRect X_arg4

/-- The sign of a block's `j`-th value. -/
abbrev sgn (j : Fin 16) : EReal := arg2.view.read (Elt Ideal) X_arg2 (ix1 j)

theorem sign0 : (trip_k0_t1.sl.r (F := Ideal) arg2 X_arg2 : EReal) = sgn arg2 X_arg2 0 :=
  congrArg (arg2.view.read (Elt Ideal) X_arg2) (funext fun a => Fin.ext (by fin_cases a; rfl))

theorem val0 (r : Fin 8) (l : Fin 128) :
    ((trip_k0_t1.sl.r_8 (F := Ideal) arg2 arg4 X_arg2 X_arg4 k) : S8x128.Idx → EReal) (ix2 r l)
      = (rows arg4 X_arg4 k (ix2 ⟨r.val * 16 + 0, by omega⟩ l) : EReal) * sgn arg2 X_arg2 0 := by
  unfold trip_k0_t1.sl.r_8 k0_pay5 k0_pay4
  pointwise
  exact congrArg _ (sign0 arg2 X_arg2)

theorem sign1 : (trip_k0_t1.sl.r_1 (F := Ideal) arg2 X_arg2 : EReal) = sgn arg2 X_arg2 1 :=
  congrArg (arg2.view.read (Elt Ideal) X_arg2) (funext fun a => Fin.ext (by fin_cases a; rfl))

theorem val1 (r : Fin 8) (l : Fin 128) :
    ((trip_k0_t1.sl.r_9 (F := Ideal) arg2 arg4 X_arg2 X_arg4 k) : S8x128.Idx → EReal) (ix2 r l)
      = (rows arg4 X_arg4 k (ix2 ⟨r.val * 16 + 1, by omega⟩ l) : EReal) * sgn arg2 X_arg2 1 := by
  unfold trip_k0_t1.sl.r_9 k0_pay6 k0_pay4
  pointwise
  exact congrArg _ (sign1 arg2 X_arg2)

theorem sign2 : (trip_k0_t1.sl.r_2 (F := Ideal) arg2 X_arg2 : EReal) = sgn arg2 X_arg2 2 :=
  congrArg (arg2.view.read (Elt Ideal) X_arg2) (funext fun a => Fin.ext (by fin_cases a; rfl))

theorem val2 (r : Fin 8) (l : Fin 128) :
    ((trip_k0_t1.sl.r_10 (F := Ideal) arg2 arg4 X_arg2 X_arg4 k) : S8x128.Idx → EReal) (ix2 r l)
      = (rows arg4 X_arg4 k (ix2 ⟨r.val * 16 + 2, by omega⟩ l) : EReal) * sgn arg2 X_arg2 2 := by
  unfold trip_k0_t1.sl.r_10 k0_pay7 k0_pay4
  pointwise
  exact congrArg _ (sign2 arg2 X_arg2)

theorem sign3 : (trip_k0_t1.sl.r_3 (F := Ideal) arg2 X_arg2 : EReal) = sgn arg2 X_arg2 3 :=
  congrArg (arg2.view.read (Elt Ideal) X_arg2) (funext fun a => Fin.ext (by fin_cases a; rfl))

theorem val3 (r : Fin 8) (l : Fin 128) :
    ((trip_k0_t1.sl.r_11 (F := Ideal) arg2 arg4 X_arg2 X_arg4 k) : S8x128.Idx → EReal) (ix2 r l)
      = (rows arg4 X_arg4 k (ix2 ⟨r.val * 16 + 3, by omega⟩ l) : EReal) * sgn arg2 X_arg2 3 := by
  unfold trip_k0_t1.sl.r_11 k0_pay8 k0_pay4
  pointwise
  exact congrArg _ (sign3 arg2 X_arg2)

theorem sign4 : (trip_k0_t1.sl.r_4 (F := Ideal) arg2 X_arg2 : EReal) = sgn arg2 X_arg2 4 :=
  congrArg (arg2.view.read (Elt Ideal) X_arg2) (funext fun a => Fin.ext (by fin_cases a; rfl))

theorem val4 (r : Fin 8) (l : Fin 128) :
    ((trip_k0_t1.sl.r_12 (F := Ideal) arg2 arg4 X_arg2 X_arg4 k) : S8x128.Idx → EReal) (ix2 r l)
      = (rows arg4 X_arg4 k (ix2 ⟨r.val * 16 + 4, by omega⟩ l) : EReal) * sgn arg2 X_arg2 4 := by
  unfold trip_k0_t1.sl.r_12 k0_pay9 k0_pay4
  pointwise
  exact congrArg _ (sign4 arg2 X_arg2)

theorem sign5 : (trip_k0_t1.sl.r_5 (F := Ideal) arg2 X_arg2 : EReal) = sgn arg2 X_arg2 5 :=
  congrArg (arg2.view.read (Elt Ideal) X_arg2) (funext fun a => Fin.ext (by fin_cases a; rfl))

theorem val5 (r : Fin 8) (l : Fin 128) :
    ((trip_k0_t1.sl.r_13 (F := Ideal) arg2 arg4 X_arg2 X_arg4 k) : S8x128.Idx → EReal) (ix2 r l)
      = (rows arg4 X_arg4 k (ix2 ⟨r.val * 16 + 5, by omega⟩ l) : EReal) * sgn arg2 X_arg2 5 := by
  unfold trip_k0_t1.sl.r_13 k0_pay10 k0_pay4
  pointwise
  exact congrArg _ (sign5 arg2 X_arg2)

theorem sign6 : (trip_k0_t1.sl.r_6 (F := Ideal) arg2 X_arg2 : EReal) = sgn arg2 X_arg2 6 :=
  congrArg (arg2.view.read (Elt Ideal) X_arg2) (funext fun a => Fin.ext (by fin_cases a; rfl))

theorem val6 (r : Fin 8) (l : Fin 128) :
    ((trip_k0_t1.sl.r_14 (F := Ideal) arg2 arg4 X_arg2 X_arg4 k) : S8x128.Idx → EReal) (ix2 r l)
      = (rows arg4 X_arg4 k (ix2 ⟨r.val * 16 + 6, by omega⟩ l) : EReal) * sgn arg2 X_arg2 6 := by
  unfold trip_k0_t1.sl.r_14 k0_pay11 k0_pay4
  pointwise
  exact congrArg _ (sign6 arg2 X_arg2)

theorem sign7 : (trip_k0_t1.sl.r_16 (F := Ideal) arg2 X_arg2 : EReal) = sgn arg2 X_arg2 7 :=
  congrArg (arg2.view.read (Elt Ideal) X_arg2) (funext fun a => Fin.ext (by fin_cases a; rfl))

theorem val7 (r : Fin 8) (l : Fin 128) :
    ((trip_k0_t1.sl.r_25 (F := Ideal) arg2 arg4 X_arg2 X_arg4 k) : S8x128.Idx → EReal) (ix2 r l)
      = (rows arg4 X_arg4 k (ix2 ⟨r.val * 16 + 7, by omega⟩ l) : EReal) * sgn arg2 X_arg2 7 := by
  unfold trip_k0_t1.sl.r_25 k0_pay13 trip_k0_t1.sl.r_15 k0_pay12 k0_pay4
  pointwise
  exact congrArg _ (sign7 arg2 X_arg2)

theorem sign8 : (trip_k0_t1.sl.r_17 (F := Ideal) arg2 X_arg2 : EReal) = sgn arg2 X_arg2 8 :=
  congrArg (arg2.view.read (Elt Ideal) X_arg2) (funext fun a => Fin.ext (by fin_cases a; rfl))

theorem val8 (r : Fin 8) (l : Fin 128) :
    ((trip_k0_t1.sl.r_26 (F := Ideal) arg2 arg4 X_arg2 X_arg4 k) : S8x128.Idx → EReal) (ix2 r l)
      = (rows arg4 X_arg4 k (ix2 ⟨r.val * 16 + 8, by omega⟩ l) : EReal) * sgn arg2 X_arg2 8 := by
  unfold trip_k0_t1.sl.r_26 k0_pay14 trip_k0_t1.sl.r_7 k0_pay4
  pointwise
  exact congrArg _ (sign8 arg2 X_arg2)

theorem sign9 : (trip_k0_t1.sl.r_18 (F := Ideal) arg2 X_arg2 : EReal) = sgn arg2 X_arg2 9 :=
  congrArg (arg2.view.read (Elt Ideal) X_arg2) (funext fun a => Fin.ext (by fin_cases a; rfl))

theorem val9 (r : Fin 8) (l : Fin 128) :
    ((trip_k0_t1.sl.r_27 (F := Ideal) arg2 arg4 X_arg2 X_arg4 k) : S8x128.Idx → EReal) (ix2 r l)
      = (rows arg4 X_arg4 k (ix2 ⟨r.val * 16 + 9, by omega⟩ l) : EReal) * sgn arg2 X_arg2 9 := by
  unfold trip_k0_t1.sl.r_27 k0_pay15 trip_k0_t1.sl.r_7 k0_pay4
  pointwise
  exact congrArg _ (sign9 arg2 X_arg2)

theorem sign10 : (trip_k0_t1.sl.r_19 (F := Ideal) arg2 X_arg2 : EReal) = sgn arg2 X_arg2 10 :=
  congrArg (arg2.view.read (Elt Ideal) X_arg2) (funext fun a => Fin.ext (by fin_cases a; rfl))

theorem val10 (r : Fin 8) (l : Fin 128) :
    ((trip_k0_t1.sl.r_28 (F := Ideal) arg2 arg4 X_arg2 X_arg4 k) : S8x128.Idx → EReal) (ix2 r l)
      = (rows arg4 X_arg4 k (ix2 ⟨r.val * 16 + 10, by omega⟩ l) : EReal) * sgn arg2 X_arg2 10 := by
  unfold trip_k0_t1.sl.r_28 k0_pay16 trip_k0_t1.sl.r_7 k0_pay4
  pointwise
  exact congrArg _ (sign10 arg2 X_arg2)

theorem sign11 : (trip_k0_t1.sl.r_20 (F := Ideal) arg2 X_arg2 : EReal) = sgn arg2 X_arg2 11 :=
  congrArg (arg2.view.read (Elt Ideal) X_arg2) (funext fun a => Fin.ext (by fin_cases a; rfl))

theorem val11 (r : Fin 8) (l : Fin 128) :
    ((trip_k0_t1.sl.r_29 (F := Ideal) arg2 arg4 X_arg2 X_arg4 k) : S8x128.Idx → EReal) (ix2 r l)
      = (rows arg4 X_arg4 k (ix2 ⟨r.val * 16 + 11, by omega⟩ l) : EReal) * sgn arg2 X_arg2 11 := by
  unfold trip_k0_t1.sl.r_29 k0_pay17 trip_k0_t1.sl.r_7 k0_pay4
  pointwise
  exact congrArg _ (sign11 arg2 X_arg2)

theorem sign12 : (trip_k0_t1.sl.r_21 (F := Ideal) arg2 X_arg2 : EReal) = sgn arg2 X_arg2 12 :=
  congrArg (arg2.view.read (Elt Ideal) X_arg2) (funext fun a => Fin.ext (by fin_cases a; rfl))

theorem val12 (r : Fin 8) (l : Fin 128) :
    ((trip_k0_t1.sl.r_30 (F := Ideal) arg2 arg4 X_arg2 X_arg4 k) : S8x128.Idx → EReal) (ix2 r l)
      = (rows arg4 X_arg4 k (ix2 ⟨r.val * 16 + 12, by omega⟩ l) : EReal) * sgn arg2 X_arg2 12 := by
  unfold trip_k0_t1.sl.r_30 k0_pay18 trip_k0_t1.sl.r_7 k0_pay4
  pointwise
  exact congrArg _ (sign12 arg2 X_arg2)

theorem sign13 : (trip_k0_t1.sl.r_22 (F := Ideal) arg2 X_arg2 : EReal) = sgn arg2 X_arg2 13 :=
  congrArg (arg2.view.read (Elt Ideal) X_arg2) (funext fun a => Fin.ext (by fin_cases a; rfl))

theorem val13 (r : Fin 8) (l : Fin 128) :
    ((trip_k0_t1.sl.r_31 (F := Ideal) arg2 arg4 X_arg2 X_arg4 k) : S8x128.Idx → EReal) (ix2 r l)
      = (rows arg4 X_arg4 k (ix2 ⟨r.val * 16 + 13, by omega⟩ l) : EReal) * sgn arg2 X_arg2 13 := by
  unfold trip_k0_t1.sl.r_31 k0_pay19 trip_k0_t1.sl.r_7 k0_pay4
  pointwise
  exact congrArg _ (sign13 arg2 X_arg2)

theorem sign14 : (trip_k0_t1.sl.r_23 (F := Ideal) arg2 X_arg2 : EReal) = sgn arg2 X_arg2 14 :=
  congrArg (arg2.view.read (Elt Ideal) X_arg2) (funext fun a => Fin.ext (by fin_cases a; rfl))

theorem val14 (r : Fin 8) (l : Fin 128) :
    ((trip_k0_t1.sl.r_32 (F := Ideal) arg2 arg4 X_arg2 X_arg4 k) : S8x128.Idx → EReal) (ix2 r l)
      = (rows arg4 X_arg4 k (ix2 ⟨r.val * 16 + 14, by omega⟩ l) : EReal) * sgn arg2 X_arg2 14 := by
  unfold trip_k0_t1.sl.r_32 k0_pay20 trip_k0_t1.sl.r_7 k0_pay4
  pointwise
  exact congrArg _ (sign14 arg2 X_arg2)

theorem sign15 : (trip_k0_t1.sl.r_24 (F := Ideal) arg2 X_arg2 : EReal) = sgn arg2 X_arg2 15 :=
  congrArg (arg2.view.read (Elt Ideal) X_arg2) (funext fun a => Fin.ext (by fin_cases a; rfl))

theorem val15 (r : Fin 8) (l : Fin 128) :
    ((k0_pay23 (trip_k0_t1.sl.r_33 (F := Ideal) arg4 X_arg4 k) (trip_k0_t1.sl.r_34 (F := Ideal) arg2 X_arg2)) : S8x128.Idx → EReal) (ix2 r l)
      = (rows arg4 X_arg4 k (ix2 ⟨r.val * 16 + 15, by omega⟩ l) : EReal) * sgn arg2 X_arg2 15 := by
  unfold k0_pay23 trip_k0_t1.sl.r_33 trip_k0_t1.sl.r_34 trip_k0_t1.sl.r_7 k0_pay21 k0_pay22 k0_pay4
  pointwise
  exact congrArg _ (sign15 arg2 X_arg2)

/-- The signed values of the trip's eight blocks. -/
def vals (j : Fin 16) : S8x128.Idx → EReal :=
  (![(trip_k0_t1.sl.r_8 (F := Ideal) arg2 arg4 X_arg2 X_arg4 k),
    (trip_k0_t1.sl.r_9 (F := Ideal) arg2 arg4 X_arg2 X_arg4 k),
    (trip_k0_t1.sl.r_10 (F := Ideal) arg2 arg4 X_arg2 X_arg4 k),
    (trip_k0_t1.sl.r_11 (F := Ideal) arg2 arg4 X_arg2 X_arg4 k),
    (trip_k0_t1.sl.r_12 (F := Ideal) arg2 arg4 X_arg2 X_arg4 k),
    (trip_k0_t1.sl.r_13 (F := Ideal) arg2 arg4 X_arg2 X_arg4 k),
    (trip_k0_t1.sl.r_14 (F := Ideal) arg2 arg4 X_arg2 X_arg4 k),
    (trip_k0_t1.sl.r_25 (F := Ideal) arg2 arg4 X_arg2 X_arg4 k),
    (trip_k0_t1.sl.r_26 (F := Ideal) arg2 arg4 X_arg2 X_arg4 k),
    (trip_k0_t1.sl.r_27 (F := Ideal) arg2 arg4 X_arg2 X_arg4 k),
    (trip_k0_t1.sl.r_28 (F := Ideal) arg2 arg4 X_arg2 X_arg4 k),
    (trip_k0_t1.sl.r_29 (F := Ideal) arg2 arg4 X_arg2 X_arg4 k),
    (trip_k0_t1.sl.r_30 (F := Ideal) arg2 arg4 X_arg2 X_arg4 k),
    (trip_k0_t1.sl.r_31 (F := Ideal) arg2 arg4 X_arg2 X_arg4 k),
    (trip_k0_t1.sl.r_32 (F := Ideal) arg2 arg4 X_arg2 X_arg4 k),
    (k0_pay23 (trip_k0_t1.sl.r_33 (F := Ideal) arg4 X_arg4 k) (trip_k0_t1.sl.r_34 (F := Ideal) arg2 X_arg2))] : Fin 16 → FVec Ideal S8x128 .f32) j

theorem sum16 (f : Fin 16 → ℝ) : ∑ j, f j = f 0 + f 1 + f 2 + f 3 + f 4 + f 5 + f 6 + f 7 + f 8 + f 9 + f 10 + f 11 + f 12 + f 13 + f 14 + f 15 := by
  rw [Fin.sum_univ_def]
  simp [List.finRange]
  ring

theorem trans0 (p : S8x128.Idx) (x : Fin 16 → ℝ)
    (h : ∀ j, vals arg2 arg4 X_arg2 X_arg4 k j p = (x j : EReal)) :
    (((trip_k0_t1.sl.r_55 (F := Ideal) arg2 arg4 X_arg2 X_arg4 k) : S8x128.Idx → EReal) p) = ((∑ j : Fin 16, (sgnInt 0 j : ℝ) * x j : ℝ) : EReal) := by
  have e : (((trip_k0_t1.sl.r_55 (F := Ideal) arg2 arg4 X_arg2 X_arg4 k) : S8x128.Idx → EReal) p) = (((((((x 0) + (x 1)) + ((x 2) + (x 3))) + (((x 4) + (x 5)) + ((x 6) + (x 7)))) + ((((x 8) + (x 9)) + ((x 10) + (x 11))) + (((x 12) + (x 13)) + ((x 14) + (x 15))))) : ℝ) : EReal) := by
    simp only [EReal.coe_add, EReal.coe_sub, ← h]
    rfl
  rw [e, sum16]
  refine congrArg _ ?_
  rw [show (sgnInt 0 0) = 1 from by decide, show (sgnInt 0 1) = 1 from by decide, show (sgnInt 0 2) = 1 from by decide, show (sgnInt 0 3) = 1 from by decide, show (sgnInt 0 4) = 1 from by decide, show (sgnInt 0 5) = 1 from by decide, show (sgnInt 0 6) = 1 from by decide, show (sgnInt 0 7) = 1 from by decide, show (sgnInt 0 8) = 1 from by decide, show (sgnInt 0 9) = 1 from by decide, show (sgnInt 0 10) = 1 from by decide, show (sgnInt 0 11) = 1 from by decide, show (sgnInt 0 12) = 1 from by decide, show (sgnInt 0 13) = 1 from by decide, show (sgnInt 0 14) = 1 from by decide, show (sgnInt 0 15) = 1 from by decide]
  push_cast
  ring

theorem trans1 (p : S8x128.Idx) (x : Fin 16 → ℝ)
    (h : ∀ j, vals arg2 arg4 X_arg2 X_arg4 k j p = (x j : EReal)) :
    (((trip_k0_t1.sl.r_57 (F := Ideal) arg2 arg4 X_arg2 X_arg4 k) : S8x128.Idx → EReal) p) = ((∑ j : Fin 16, (sgnInt 1 j : ℝ) * x j : ℝ) : EReal) := by
  have e : (((trip_k0_t1.sl.r_57 (F := Ideal) arg2 arg4 X_arg2 X_arg4 k) : S8x128.Idx → EReal) p) = (((((((x 0) - (x 1)) + ((x 2) - (x 3))) + (((x 4) - (x 5)) + ((x 6) - (x 7)))) + ((((x 8) - (x 9)) + ((x 10) - (x 11))) + (((x 12) - (x 13)) + ((x 14) - (x 15))))) : ℝ) : EReal) := by
    simp only [EReal.coe_add, EReal.coe_sub, ← h]
    rfl
  rw [e, sum16]
  refine congrArg _ ?_
  rw [show (sgnInt 1 0) = 1 from by decide, show (sgnInt 1 1) = -1 from by decide, show (sgnInt 1 2) = 1 from by decide, show (sgnInt 1 3) = -1 from by decide, show (sgnInt 1 4) = 1 from by decide, show (sgnInt 1 5) = -1 from by decide, show (sgnInt 1 6) = 1 from by decide, show (sgnInt 1 7) = -1 from by decide, show (sgnInt 1 8) = 1 from by decide, show (sgnInt 1 9) = -1 from by decide, show (sgnInt 1 10) = 1 from by decide, show (sgnInt 1 11) = -1 from by decide, show (sgnInt 1 12) = 1 from by decide, show (sgnInt 1 13) = -1 from by decide, show (sgnInt 1 14) = 1 from by decide, show (sgnInt 1 15) = -1 from by decide]
  push_cast
  ring

theorem trans2 (p : S8x128.Idx) (x : Fin 16 → ℝ)
    (h : ∀ j, vals arg2 arg4 X_arg2 X_arg4 k j p = (x j : EReal)) :
    (((trip_k0_t1.sl.r_59 (F := Ideal) arg2 arg4 X_arg2 X_arg4 k) : S8x128.Idx → EReal) p) = ((∑ j : Fin 16, (sgnInt 2 j : ℝ) * x j : ℝ) : EReal) := by
  have e : (((trip_k0_t1.sl.r_59 (F := Ideal) arg2 arg4 X_arg2 X_arg4 k) : S8x128.Idx → EReal) p) = (((((((x 0) + (x 1)) - ((x 2) + (x 3))) + (((x 4) + (x 5)) - ((x 6) + (x 7)))) + ((((x 8) + (x 9)) - ((x 10) + (x 11))) + (((x 12) + (x 13)) - ((x 14) + (x 15))))) : ℝ) : EReal) := by
    simp only [EReal.coe_add, EReal.coe_sub, ← h]
    rfl
  rw [e, sum16]
  refine congrArg _ ?_
  rw [show (sgnInt 2 0) = 1 from by decide, show (sgnInt 2 1) = 1 from by decide, show (sgnInt 2 2) = -1 from by decide, show (sgnInt 2 3) = -1 from by decide, show (sgnInt 2 4) = 1 from by decide, show (sgnInt 2 5) = 1 from by decide, show (sgnInt 2 6) = -1 from by decide, show (sgnInt 2 7) = -1 from by decide, show (sgnInt 2 8) = 1 from by decide, show (sgnInt 2 9) = 1 from by decide, show (sgnInt 2 10) = -1 from by decide, show (sgnInt 2 11) = -1 from by decide, show (sgnInt 2 12) = 1 from by decide, show (sgnInt 2 13) = 1 from by decide, show (sgnInt 2 14) = -1 from by decide, show (sgnInt 2 15) = -1 from by decide]
  push_cast
  ring

theorem trans3 (p : S8x128.Idx) (x : Fin 16 → ℝ)
    (h : ∀ j, vals arg2 arg4 X_arg2 X_arg4 k j p = (x j : EReal)) :
    (((trip_k0_t1.sl.r_61 (F := Ideal) arg2 arg4 X_arg2 X_arg4 k) : S8x128.Idx → EReal) p) = ((∑ j : Fin 16, (sgnInt 3 j : ℝ) * x j : ℝ) : EReal) := by
  have e : (((trip_k0_t1.sl.r_61 (F := Ideal) arg2 arg4 X_arg2 X_arg4 k) : S8x128.Idx → EReal) p) = (((((((x 0) - (x 1)) - ((x 2) - (x 3))) + (((x 4) - (x 5)) - ((x 6) - (x 7)))) + ((((x 8) - (x 9)) - ((x 10) - (x 11))) + (((x 12) - (x 13)) - ((x 14) - (x 15))))) : ℝ) : EReal) := by
    simp only [EReal.coe_add, EReal.coe_sub, ← h]
    rfl
  rw [e, sum16]
  refine congrArg _ ?_
  rw [show (sgnInt 3 0) = 1 from by decide, show (sgnInt 3 1) = -1 from by decide, show (sgnInt 3 2) = -1 from by decide, show (sgnInt 3 3) = 1 from by decide, show (sgnInt 3 4) = 1 from by decide, show (sgnInt 3 5) = -1 from by decide, show (sgnInt 3 6) = -1 from by decide, show (sgnInt 3 7) = 1 from by decide, show (sgnInt 3 8) = 1 from by decide, show (sgnInt 3 9) = -1 from by decide, show (sgnInt 3 10) = -1 from by decide, show (sgnInt 3 11) = 1 from by decide, show (sgnInt 3 12) = 1 from by decide, show (sgnInt 3 13) = -1 from by decide, show (sgnInt 3 14) = -1 from by decide, show (sgnInt 3 15) = 1 from by decide]
  push_cast
  ring

theorem trans4 (p : S8x128.Idx) (x : Fin 16 → ℝ)
    (h : ∀ j, vals arg2 arg4 X_arg2 X_arg4 k j p = (x j : EReal)) :
    (((trip_k0_t1.sl.r_63 (F := Ideal) arg2 arg4 X_arg2 X_arg4 k) : S8x128.Idx → EReal) p) = ((∑ j : Fin 16, (sgnInt 4 j : ℝ) * x j : ℝ) : EReal) := by
  have e : (((trip_k0_t1.sl.r_63 (F := Ideal) arg2 arg4 X_arg2 X_arg4 k) : S8x128.Idx → EReal) p) = (((((((x 0) + (x 1)) + ((x 2) + (x 3))) - (((x 4) + (x 5)) + ((x 6) + (x 7)))) + ((((x 8) + (x 9)) + ((x 10) + (x 11))) - (((x 12) + (x 13)) + ((x 14) + (x 15))))) : ℝ) : EReal) := by
    simp only [EReal.coe_add, EReal.coe_sub, ← h]
    rfl
  rw [e, sum16]
  refine congrArg _ ?_
  rw [show (sgnInt 4 0) = 1 from by decide, show (sgnInt 4 1) = 1 from by decide, show (sgnInt 4 2) = 1 from by decide, show (sgnInt 4 3) = 1 from by decide, show (sgnInt 4 4) = -1 from by decide, show (sgnInt 4 5) = -1 from by decide, show (sgnInt 4 6) = -1 from by decide, show (sgnInt 4 7) = -1 from by decide, show (sgnInt 4 8) = 1 from by decide, show (sgnInt 4 9) = 1 from by decide, show (sgnInt 4 10) = 1 from by decide, show (sgnInt 4 11) = 1 from by decide, show (sgnInt 4 12) = -1 from by decide, show (sgnInt 4 13) = -1 from by decide, show (sgnInt 4 14) = -1 from by decide, show (sgnInt 4 15) = -1 from by decide]
  push_cast
  ring

theorem trans5 (p : S8x128.Idx) (x : Fin 16 → ℝ)
    (h : ∀ j, vals arg2 arg4 X_arg2 X_arg4 k j p = (x j : EReal)) :
    (((trip_k0_t1.sl.r_65 (F := Ideal) arg2 arg4 X_arg2 X_arg4 k) : S8x128.Idx → EReal) p) = ((∑ j : Fin 16, (sgnInt 5 j : ℝ) * x j : ℝ) : EReal) := by
  have e : (((trip_k0_t1.sl.r_65 (F := Ideal) arg2 arg4 X_arg2 X_arg4 k) : S8x128.Idx → EReal) p) = (((((((x 0) - (x 1)) + ((x 2) - (x 3))) - (((x 4) - (x 5)) + ((x 6) - (x 7)))) + ((((x 8) - (x 9)) + ((x 10) - (x 11))) - (((x 12) - (x 13)) + ((x 14) - (x 15))))) : ℝ) : EReal) := by
    simp only [EReal.coe_add, EReal.coe_sub, ← h]
    rfl
  rw [e, sum16]
  refine congrArg _ ?_
  rw [show (sgnInt 5 0) = 1 from by decide, show (sgnInt 5 1) = -1 from by decide, show (sgnInt 5 2) = 1 from by decide, show (sgnInt 5 3) = -1 from by decide, show (sgnInt 5 4) = -1 from by decide, show (sgnInt 5 5) = 1 from by decide, show (sgnInt 5 6) = -1 from by decide, show (sgnInt 5 7) = 1 from by decide, show (sgnInt 5 8) = 1 from by decide, show (sgnInt 5 9) = -1 from by decide, show (sgnInt 5 10) = 1 from by decide, show (sgnInt 5 11) = -1 from by decide, show (sgnInt 5 12) = -1 from by decide, show (sgnInt 5 13) = 1 from by decide, show (sgnInt 5 14) = -1 from by decide, show (sgnInt 5 15) = 1 from by decide]
  push_cast
  ring

theorem trans6 (p : S8x128.Idx) (x : Fin 16 → ℝ)
    (h : ∀ j, vals arg2 arg4 X_arg2 X_arg4 k j p = (x j : EReal)) :
    (((trip_k0_t1.sl.r_67 (F := Ideal) arg2 arg4 X_arg2 X_arg4 k) : S8x128.Idx → EReal) p) = ((∑ j : Fin 16, (sgnInt 6 j : ℝ) * x j : ℝ) : EReal) := by
  have e : (((trip_k0_t1.sl.r_67 (F := Ideal) arg2 arg4 X_arg2 X_arg4 k) : S8x128.Idx → EReal) p) = (((((((x 0) + (x 1)) - ((x 2) + (x 3))) - (((x 4) + (x 5)) - ((x 6) + (x 7)))) + ((((x 8) + (x 9)) - ((x 10) + (x 11))) - (((x 12) + (x 13)) - ((x 14) + (x 15))))) : ℝ) : EReal) := by
    simp only [EReal.coe_add, EReal.coe_sub, ← h]
    rfl
  rw [e, sum16]
  refine congrArg _ ?_
  rw [show (sgnInt 6 0) = 1 from by decide, show (sgnInt 6 1) = 1 from by decide, show (sgnInt 6 2) = -1 from by decide, show (sgnInt 6 3) = -1 from by decide, show (sgnInt 6 4) = -1 from by decide, show (sgnInt 6 5) = -1 from by decide, show (sgnInt 6 6) = 1 from by decide, show (sgnInt 6 7) = 1 from by decide, show (sgnInt 6 8) = 1 from by decide, show (sgnInt 6 9) = 1 from by decide, show (sgnInt 6 10) = -1 from by decide, show (sgnInt 6 11) = -1 from by decide, show (sgnInt 6 12) = -1 from by decide, show (sgnInt 6 13) = -1 from by decide, show (sgnInt 6 14) = 1 from by decide, show (sgnInt 6 15) = 1 from by decide]
  push_cast
  ring

theorem trans7 (p : S8x128.Idx) (x : Fin 16 → ℝ)
    (h : ∀ j, vals arg2 arg4 X_arg2 X_arg4 k j p = (x j : EReal)) :
    (((trip_k0_t1.sl.r_69 (F := Ideal) arg2 arg4 X_arg2 X_arg4 k) : S8x128.Idx → EReal) p) = ((∑ j : Fin 16, (sgnInt 7 j : ℝ) * x j : ℝ) : EReal) := by
  have e : (((trip_k0_t1.sl.r_69 (F := Ideal) arg2 arg4 X_arg2 X_arg4 k) : S8x128.Idx → EReal) p) = (((((((x 0) - (x 1)) - ((x 2) - (x 3))) - (((x 4) - (x 5)) - ((x 6) - (x 7)))) + ((((x 8) - (x 9)) - ((x 10) - (x 11))) - (((x 12) - (x 13)) - ((x 14) - (x 15))))) : ℝ) : EReal) := by
    simp only [EReal.coe_add, EReal.coe_sub, ← h]
    rfl
  rw [e, sum16]
  refine congrArg _ ?_
  rw [show (sgnInt 7 0) = 1 from by decide, show (sgnInt 7 1) = -1 from by decide, show (sgnInt 7 2) = -1 from by decide, show (sgnInt 7 3) = 1 from by decide, show (sgnInt 7 4) = -1 from by decide, show (sgnInt 7 5) = 1 from by decide, show (sgnInt 7 6) = 1 from by decide, show (sgnInt 7 7) = -1 from by decide, show (sgnInt 7 8) = 1 from by decide, show (sgnInt 7 9) = -1 from by decide, show (sgnInt 7 10) = -1 from by decide, show (sgnInt 7 11) = 1 from by decide, show (sgnInt 7 12) = -1 from by decide, show (sgnInt 7 13) = 1 from by decide, show (sgnInt 7 14) = 1 from by decide, show (sgnInt 7 15) = -1 from by decide]
  push_cast
  ring

theorem trans8 (p : S8x128.Idx) (x : Fin 16 → ℝ)
    (h : ∀ j, vals arg2 arg4 X_arg2 X_arg4 k j p = (x j : EReal)) :
    (((trip_k0_t1.sl.r_56 (F := Ideal) arg2 arg4 X_arg2 X_arg4 k) : S8x128.Idx → EReal) p) = ((∑ j : Fin 16, (sgnInt 8 j : ℝ) * x j : ℝ) : EReal) := by
  have e : (((trip_k0_t1.sl.r_56 (F := Ideal) arg2 arg4 X_arg2 X_arg4 k) : S8x128.Idx → EReal) p) = (((((((x 0) + (x 1)) + ((x 2) + (x 3))) + (((x 4) + (x 5)) + ((x 6) + (x 7)))) - ((((x 8) + (x 9)) + ((x 10) + (x 11))) + (((x 12) + (x 13)) + ((x 14) + (x 15))))) : ℝ) : EReal) := by
    simp only [EReal.coe_add, EReal.coe_sub, ← h]
    rfl
  rw [e, sum16]
  refine congrArg _ ?_
  rw [show (sgnInt 8 0) = 1 from by decide, show (sgnInt 8 1) = 1 from by decide, show (sgnInt 8 2) = 1 from by decide, show (sgnInt 8 3) = 1 from by decide, show (sgnInt 8 4) = 1 from by decide, show (sgnInt 8 5) = 1 from by decide, show (sgnInt 8 6) = 1 from by decide, show (sgnInt 8 7) = 1 from by decide, show (sgnInt 8 8) = -1 from by decide, show (sgnInt 8 9) = -1 from by decide, show (sgnInt 8 10) = -1 from by decide, show (sgnInt 8 11) = -1 from by decide, show (sgnInt 8 12) = -1 from by decide, show (sgnInt 8 13) = -1 from by decide, show (sgnInt 8 14) = -1 from by decide, show (sgnInt 8 15) = -1 from by decide]
  push_cast
  ring

theorem trans9 (p : S8x128.Idx) (x : Fin 16 → ℝ)
    (h : ∀ j, vals arg2 arg4 X_arg2 X_arg4 k j p = (x j : EReal)) :
    (((trip_k0_t1.sl.r_58 (F := Ideal) arg2 arg4 X_arg2 X_arg4 k) : S8x128.Idx → EReal) p) = ((∑ j : Fin 16, (sgnInt 9 j : ℝ) * x j : ℝ) : EReal) := by
  have e : (((trip_k0_t1.sl.r_58 (F := Ideal) arg2 arg4 X_arg2 X_arg4 k) : S8x128.Idx → EReal) p) = (((((((x 0) - (x 1)) + ((x 2) - (x 3))) + (((x 4) - (x 5)) + ((x 6) - (x 7)))) - ((((x 8) - (x 9)) + ((x 10) - (x 11))) + (((x 12) - (x 13)) + ((x 14) - (x 15))))) : ℝ) : EReal) := by
    simp only [EReal.coe_add, EReal.coe_sub, ← h]
    rfl
  rw [e, sum16]
  refine congrArg _ ?_
  rw [show (sgnInt 9 0) = 1 from by decide, show (sgnInt 9 1) = -1 from by decide, show (sgnInt 9 2) = 1 from by decide, show (sgnInt 9 3) = -1 from by decide, show (sgnInt 9 4) = 1 from by decide, show (sgnInt 9 5) = -1 from by decide, show (sgnInt 9 6) = 1 from by decide, show (sgnInt 9 7) = -1 from by decide, show (sgnInt 9 8) = -1 from by decide, show (sgnInt 9 9) = 1 from by decide, show (sgnInt 9 10) = -1 from by decide, show (sgnInt 9 11) = 1 from by decide, show (sgnInt 9 12) = -1 from by decide, show (sgnInt 9 13) = 1 from by decide, show (sgnInt 9 14) = -1 from by decide, show (sgnInt 9 15) = 1 from by decide]
  push_cast
  ring

theorem trans10 (p : S8x128.Idx) (x : Fin 16 → ℝ)
    (h : ∀ j, vals arg2 arg4 X_arg2 X_arg4 k j p = (x j : EReal)) :
    (((trip_k0_t1.sl.r_60 (F := Ideal) arg2 arg4 X_arg2 X_arg4 k) : S8x128.Idx → EReal) p) = ((∑ j : Fin 16, (sgnInt 10 j : ℝ) * x j : ℝ) : EReal) := by
  have e : (((trip_k0_t1.sl.r_60 (F := Ideal) arg2 arg4 X_arg2 X_arg4 k) : S8x128.Idx → EReal) p) = (((((((x 0) + (x 1)) - ((x 2) + (x 3))) + (((x 4) + (x 5)) - ((x 6) + (x 7)))) - ((((x 8) + (x 9)) - ((x 10) + (x 11))) + (((x 12) + (x 13)) - ((x 14) + (x 15))))) : ℝ) : EReal) := by
    simp only [EReal.coe_add, EReal.coe_sub, ← h]
    rfl
  rw [e, sum16]
  refine congrArg _ ?_
  rw [show (sgnInt 10 0) = 1 from by decide, show (sgnInt 10 1) = 1 from by decide, show (sgnInt 10 2) = -1 from by decide, show (sgnInt 10 3) = -1 from by decide, show (sgnInt 10 4) = 1 from by decide, show (sgnInt 10 5) = 1 from by decide, show (sgnInt 10 6) = -1 from by decide, show (sgnInt 10 7) = -1 from by decide, show (sgnInt 10 8) = -1 from by decide, show (sgnInt 10 9) = -1 from by decide, show (sgnInt 10 10) = 1 from by decide, show (sgnInt 10 11) = 1 from by decide, show (sgnInt 10 12) = -1 from by decide, show (sgnInt 10 13) = -1 from by decide, show (sgnInt 10 14) = 1 from by decide, show (sgnInt 10 15) = 1 from by decide]
  push_cast
  ring

theorem trans11 (p : S8x128.Idx) (x : Fin 16 → ℝ)
    (h : ∀ j, vals arg2 arg4 X_arg2 X_arg4 k j p = (x j : EReal)) :
    (((trip_k0_t1.sl.r_62 (F := Ideal) arg2 arg4 X_arg2 X_arg4 k) : S8x128.Idx → EReal) p) = ((∑ j : Fin 16, (sgnInt 11 j : ℝ) * x j : ℝ) : EReal) := by
  have e : (((trip_k0_t1.sl.r_62 (F := Ideal) arg2 arg4 X_arg2 X_arg4 k) : S8x128.Idx → EReal) p) = (((((((x 0) - (x 1)) - ((x 2) - (x 3))) + (((x 4) - (x 5)) - ((x 6) - (x 7)))) - ((((x 8) - (x 9)) - ((x 10) - (x 11))) + (((x 12) - (x 13)) - ((x 14) - (x 15))))) : ℝ) : EReal) := by
    simp only [EReal.coe_add, EReal.coe_sub, ← h]
    rfl
  rw [e, sum16]
  refine congrArg _ ?_
  rw [show (sgnInt 11 0) = 1 from by decide, show (sgnInt 11 1) = -1 from by decide, show (sgnInt 11 2) = -1 from by decide, show (sgnInt 11 3) = 1 from by decide, show (sgnInt 11 4) = 1 from by decide, show (sgnInt 11 5) = -1 from by decide, show (sgnInt 11 6) = -1 from by decide, show (sgnInt 11 7) = 1 from by decide, show (sgnInt 11 8) = -1 from by decide, show (sgnInt 11 9) = 1 from by decide, show (sgnInt 11 10) = 1 from by decide, show (sgnInt 11 11) = -1 from by decide, show (sgnInt 11 12) = -1 from by decide, show (sgnInt 11 13) = 1 from by decide, show (sgnInt 11 14) = 1 from by decide, show (sgnInt 11 15) = -1 from by decide]
  push_cast
  ring

theorem trans12 (p : S8x128.Idx) (x : Fin 16 → ℝ)
    (h : ∀ j, vals arg2 arg4 X_arg2 X_arg4 k j p = (x j : EReal)) :
    (((trip_k0_t1.sl.r_64 (F := Ideal) arg2 arg4 X_arg2 X_arg4 k) : S8x128.Idx → EReal) p) = ((∑ j : Fin 16, (sgnInt 12 j : ℝ) * x j : ℝ) : EReal) := by
  have e : (((trip_k0_t1.sl.r_64 (F := Ideal) arg2 arg4 X_arg2 X_arg4 k) : S8x128.Idx → EReal) p) = (((((((x 0) + (x 1)) + ((x 2) + (x 3))) - (((x 4) + (x 5)) + ((x 6) + (x 7)))) - ((((x 8) + (x 9)) + ((x 10) + (x 11))) - (((x 12) + (x 13)) + ((x 14) + (x 15))))) : ℝ) : EReal) := by
    simp only [EReal.coe_add, EReal.coe_sub, ← h]
    rfl
  rw [e, sum16]
  refine congrArg _ ?_
  rw [show (sgnInt 12 0) = 1 from by decide, show (sgnInt 12 1) = 1 from by decide, show (sgnInt 12 2) = 1 from by decide, show (sgnInt 12 3) = 1 from by decide, show (sgnInt 12 4) = -1 from by decide, show (sgnInt 12 5) = -1 from by decide, show (sgnInt 12 6) = -1 from by decide, show (sgnInt 12 7) = -1 from by decide, show (sgnInt 12 8) = -1 from by decide, show (sgnInt 12 9) = -1 from by decide, show (sgnInt 12 10) = -1 from by decide, show (sgnInt 12 11) = -1 from by decide, show (sgnInt 12 12) = 1 from by decide, show (sgnInt 12 13) = 1 from by decide, show (sgnInt 12 14) = 1 from by decide, show (sgnInt 12 15) = 1 from by decide]
  push_cast
  ring

theorem trans13 (p : S8x128.Idx) (x : Fin 16 → ℝ)
    (h : ∀ j, vals arg2 arg4 X_arg2 X_arg4 k j p = (x j : EReal)) :
    (((trip_k0_t1.sl.r_66 (F := Ideal) arg2 arg4 X_arg2 X_arg4 k) : S8x128.Idx → EReal) p) = ((∑ j : Fin 16, (sgnInt 13 j : ℝ) * x j : ℝ) : EReal) := by
  have e : (((trip_k0_t1.sl.r_66 (F := Ideal) arg2 arg4 X_arg2 X_arg4 k) : S8x128.Idx → EReal) p) = (((((((x 0) - (x 1)) + ((x 2) - (x 3))) - (((x 4) - (x 5)) + ((x 6) - (x 7)))) - ((((x 8) - (x 9)) + ((x 10) - (x 11))) - (((x 12) - (x 13)) + ((x 14) - (x 15))))) : ℝ) : EReal) := by
    simp only [EReal.coe_add, EReal.coe_sub, ← h]
    rfl
  rw [e, sum16]
  refine congrArg _ ?_
  rw [show (sgnInt 13 0) = 1 from by decide, show (sgnInt 13 1) = -1 from by decide, show (sgnInt 13 2) = 1 from by decide, show (sgnInt 13 3) = -1 from by decide, show (sgnInt 13 4) = -1 from by decide, show (sgnInt 13 5) = 1 from by decide, show (sgnInt 13 6) = -1 from by decide, show (sgnInt 13 7) = 1 from by decide, show (sgnInt 13 8) = -1 from by decide, show (sgnInt 13 9) = 1 from by decide, show (sgnInt 13 10) = -1 from by decide, show (sgnInt 13 11) = 1 from by decide, show (sgnInt 13 12) = 1 from by decide, show (sgnInt 13 13) = -1 from by decide, show (sgnInt 13 14) = 1 from by decide, show (sgnInt 13 15) = -1 from by decide]
  push_cast
  ring

theorem trans14 (p : S8x128.Idx) (x : Fin 16 → ℝ)
    (h : ∀ j, vals arg2 arg4 X_arg2 X_arg4 k j p = (x j : EReal)) :
    (((trip_k0_t1.sl.r_68 (F := Ideal) arg2 arg4 X_arg2 X_arg4 k) : S8x128.Idx → EReal) p) = ((∑ j : Fin 16, (sgnInt 14 j : ℝ) * x j : ℝ) : EReal) := by
  have e : (((trip_k0_t1.sl.r_68 (F := Ideal) arg2 arg4 X_arg2 X_arg4 k) : S8x128.Idx → EReal) p) = (((((((x 0) + (x 1)) - ((x 2) + (x 3))) - (((x 4) + (x 5)) - ((x 6) + (x 7)))) - ((((x 8) + (x 9)) - ((x 10) + (x 11))) - (((x 12) + (x 13)) - ((x 14) + (x 15))))) : ℝ) : EReal) := by
    simp only [EReal.coe_add, EReal.coe_sub, ← h]
    rfl
  rw [e, sum16]
  refine congrArg _ ?_
  rw [show (sgnInt 14 0) = 1 from by decide, show (sgnInt 14 1) = 1 from by decide, show (sgnInt 14 2) = -1 from by decide, show (sgnInt 14 3) = -1 from by decide, show (sgnInt 14 4) = -1 from by decide, show (sgnInt 14 5) = -1 from by decide, show (sgnInt 14 6) = 1 from by decide, show (sgnInt 14 7) = 1 from by decide, show (sgnInt 14 8) = -1 from by decide, show (sgnInt 14 9) = -1 from by decide, show (sgnInt 14 10) = 1 from by decide, show (sgnInt 14 11) = 1 from by decide, show (sgnInt 14 12) = 1 from by decide, show (sgnInt 14 13) = 1 from by decide, show (sgnInt 14 14) = -1 from by decide, show (sgnInt 14 15) = -1 from by decide]
  push_cast
  ring

theorem trans15 (p : S8x128.Idx) (x : Fin 16 → ℝ)
    (h : ∀ j, vals arg2 arg4 X_arg2 X_arg4 k j p = (x j : EReal)) :
    (((trip_k0_t1.sl.r_70 (F := Ideal) arg2 arg4 X_arg2 X_arg4 k) : S8x128.Idx → EReal) p) = ((∑ j : Fin 16, (sgnInt 15 j : ℝ) * x j : ℝ) : EReal) := by
  have e : (((trip_k0_t1.sl.r_70 (F := Ideal) arg2 arg4 X_arg2 X_arg4 k) : S8x128.Idx → EReal) p) = (((((((x 0) - (x 1)) - ((x 2) - (x 3))) - (((x 4) - (x 5)) - ((x 6) - (x 7)))) - ((((x 8) - (x 9)) - ((x 10) - (x 11))) - (((x 12) - (x 13)) - ((x 14) - (x 15))))) : ℝ) : EReal) := by
    simp only [EReal.coe_add, EReal.coe_sub, ← h]
    rfl
  rw [e, sum16]
  refine congrArg _ ?_
  rw [show (sgnInt 15 0) = 1 from by decide, show (sgnInt 15 1) = -1 from by decide, show (sgnInt 15 2) = -1 from by decide, show (sgnInt 15 3) = 1 from by decide, show (sgnInt 15 4) = -1 from by decide, show (sgnInt 15 5) = 1 from by decide, show (sgnInt 15 6) = 1 from by decide, show (sgnInt 15 7) = -1 from by decide, show (sgnInt 15 8) = -1 from by decide, show (sgnInt 15 9) = 1 from by decide, show (sgnInt 15 10) = 1 from by decide, show (sgnInt 15 11) = -1 from by decide, show (sgnInt 15 12) = 1 from by decide, show (sgnInt 15 13) = -1 from by decide, show (sgnInt 15 14) = -1 from by decide, show (sgnInt 15 15) = 1 from by decide]
  push_cast
  ring

theorem vals_apply (j : Fin 16) (r : Fin 8) (l : Fin 128) :
    vals arg2 arg4 X_arg2 X_arg4 k j (ix2 r l) = (rows arg4 X_arg4 k (ix2 ⟨r.val * 16 + j.val, by omega⟩ l) : EReal) * sgn arg2 X_arg2 j := by
  fin_cases j
  · exact val0 arg2 arg4 X_arg2 X_arg4 k r l
  · exact val1 arg2 arg4 X_arg2 X_arg4 k r l
  · exact val2 arg2 arg4 X_arg2 X_arg4 k r l
  · exact val3 arg2 arg4 X_arg2 X_arg4 k r l
  · exact val4 arg2 arg4 X_arg2 X_arg4 k r l
  · exact val5 arg2 arg4 X_arg2 X_arg4 k r l
  · exact val6 arg2 arg4 X_arg2 X_arg4 k r l
  · exact val7 arg2 arg4 X_arg2 X_arg4 k r l
  · exact val8 arg2 arg4 X_arg2 X_arg4 k r l
  · exact val9 arg2 arg4 X_arg2 X_arg4 k r l
  · exact val10 arg2 arg4 X_arg2 X_arg4 k r l
  · exact val11 arg2 arg4 X_arg2 X_arg4 k r l
  · exact val12 arg2 arg4 X_arg2 X_arg4 k r l
  · exact val13 arg2 arg4 X_arg2 X_arg4 k r l
  · exact val14 arg2 arg4 X_arg2 X_arg4 k r l
  · exact val15 arg2 arg4 X_arg2 X_arg4 k r l

/-- The blocks' transformed values, before the factor of a quarter. -/
def zs (i : Fin 16) : S8x128.Idx → EReal :=
  (![(trip_k0_t1.sl.r_55 (F := Ideal) arg2 arg4 X_arg2 X_arg4 k),
    (trip_k0_t1.sl.r_57 (F := Ideal) arg2 arg4 X_arg2 X_arg4 k),
    (trip_k0_t1.sl.r_59 (F := Ideal) arg2 arg4 X_arg2 X_arg4 k),
    (trip_k0_t1.sl.r_61 (F := Ideal) arg2 arg4 X_arg2 X_arg4 k),
    (trip_k0_t1.sl.r_63 (F := Ideal) arg2 arg4 X_arg2 X_arg4 k),
    (trip_k0_t1.sl.r_65 (F := Ideal) arg2 arg4 X_arg2 X_arg4 k),
    (trip_k0_t1.sl.r_67 (F := Ideal) arg2 arg4 X_arg2 X_arg4 k),
    (trip_k0_t1.sl.r_69 (F := Ideal) arg2 arg4 X_arg2 X_arg4 k),
    (trip_k0_t1.sl.r_56 (F := Ideal) arg2 arg4 X_arg2 X_arg4 k),
    (trip_k0_t1.sl.r_58 (F := Ideal) arg2 arg4 X_arg2 X_arg4 k),
    (trip_k0_t1.sl.r_60 (F := Ideal) arg2 arg4 X_arg2 X_arg4 k),
    (trip_k0_t1.sl.r_62 (F := Ideal) arg2 arg4 X_arg2 X_arg4 k),
    (trip_k0_t1.sl.r_64 (F := Ideal) arg2 arg4 X_arg2 X_arg4 k),
    (trip_k0_t1.sl.r_66 (F := Ideal) arg2 arg4 X_arg2 X_arg4 k),
    (trip_k0_t1.sl.r_68 (F := Ideal) arg2 arg4 X_arg2 X_arg4 k),
    (trip_k0_t1.sl.r_70 (F := Ideal) arg2 arg4 X_arg2 X_arg4 k)] : Fin 16 → FVec Ideal S8x128 .f32) i

theorem zs_apply (i : Fin 16) (p : S8x128.Idx) (x : Fin 16 → ℝ) (h : ∀ j, vals arg2 arg4 X_arg2 X_arg4 k j p = (x j : EReal)) :
    zs arg2 arg4 X_arg2 X_arg4 k i p = ((∑ j : Fin 16, (sgnInt i j : ℝ) * x j : ℝ) : EReal) := by
  fin_cases i
  · exact trans0 arg2 arg4 X_arg2 X_arg4 k p x h
  · exact trans1 arg2 arg4 X_arg2 X_arg4 k p x h
  · exact trans2 arg2 arg4 X_arg2 X_arg4 k p x h
  · exact trans3 arg2 arg4 X_arg2 X_arg4 k p x h
  · exact trans4 arg2 arg4 X_arg2 X_arg4 k p x h
  · exact trans5 arg2 arg4 X_arg2 X_arg4 k p x h
  · exact trans6 arg2 arg4 X_arg2 X_arg4 k p x h
  · exact trans7 arg2 arg4 X_arg2 X_arg4 k p x h
  · exact trans8 arg2 arg4 X_arg2 X_arg4 k p x h
  · exact trans9 arg2 arg4 X_arg2 X_arg4 k p x h
  · exact trans10 arg2 arg4 X_arg2 X_arg4 k p x h
  · exact trans11 arg2 arg4 X_arg2 X_arg4 k p x h
  · exact trans12 arg2 arg4 X_arg2 X_arg4 k p x h
  · exact trans13 arg2 arg4 X_arg2 X_arg4 k p x h
  · exact trans14 arg2 arg4 X_arg2 X_arg4 k p x h
  · exact trans15 arg2 arg4 X_arg2 X_arg4 k p x h

/-- The quarter the transform is scaled by. -/
abbrev q4 : EReal := Ideal.ofBits .f32 0x3E800000#32

theorem q4_eq : q4 = ((1 / 4 : ℝ) : EReal) := by
  simp [q4, Ideal.ofBits, Ideal.ieee]
  rw [← EReal.coe_mul]
  norm_num

/-- A block's scale: its greatest magnitude over six tensor scales, clipped to the scales' range. -/
def scaleOf (a ts : EReal) : EReal :=
  min (Ideal.ofBits .f32 0x43E00000#32) (max (Ideal.ofBits .f32 0x00000000#32) (Ideal.div a (Ideal.ofBits .f32 0x40C00000#32 * ts)))

/-- The factor that takes a block's transformed values to their quotients by the scales: zero where the scale is. -/
def mulOf (s ts : EReal) : EReal :=
  Scalar.select (Ideal.cmp .oeq s (Ideal.ofBits .f32 0x00000000#32)) (Ideal.ofBits .f32 0x00000000#32)
    (Ideal.div q4 (Scalar.select (Ideal.cmp .oeq s (Ideal.ofBits .f32 0x00000000#32)) (Ideal.ofBits .f32 0x3F800000#32) (s * ts)))

theorem max_q4 (a b : EReal) : max a b * q4 = max (a * q4) (b * q4) := by
  have h : Monotone fun x : EReal => x * q4 := fun x y hxy =>
    mul_le_mul_of_nonneg_right hxy (by rw [q4_eq]; exact_mod_cast (by norm_num : (0 : ℝ) ≤ 1 / 4))
  exact h.map_max

theorem cast_self (v : Vec Ideal S8x128 .f32) : (k0_pay1 v : S8x128.Idx → EReal) = v := by
  funext p
  rw [eq_ix2 p]
  unfold k0_pay1
  pointwise

theorem quot_apply (v : Vec Ideal S8x128 .f32) (v152 v153 v154 v156 v157 v158 v159 v160 v161 v162 v163 v164 v165 v166 v167 v168 : FVec Ideal S8x128 .f32) (p : S8x128.Idx) :
    (k0_pay93 (F := Ideal) (k0_pay1 v) k0_pay2 v152 v153 v154 v156 v157 v158 v159 v160 v161 v162 v163 v164 v165 v166 v167 v168 : S8x128.Idx → EReal) p
      = Ideal.div ((max (max (max (max (mag ((k0_pay77 v159 v167) p)) (mag ((k0_pay79 v153 v157 v161) p))) (max (mag ((k0_pay81 v152 v156 v163) p)) (mag ((k0_pay83 v154 v158 v165) p)))) (max (max (mag ((k0_pay85 v160 v168) p)) (mag ((k0_pay87 v153 v157 v162) p))) (max (mag ((k0_pay89 v152 v156 v164) p)) (mag ((k0_pay91 v154 v158 v166) p))))) (max (max (max (mag ((k0_pay78 v159 v167) p)) (mag ((k0_pay80 v153 v157 v161) p))) (max (mag ((k0_pay82 v152 v156 v163) p)) (mag ((k0_pay84 v154 v158 v165) p)))) (max (max (mag ((k0_pay86 v160 v168) p)) (mag ((k0_pay88 v153 v157 v162) p))) (max (mag ((k0_pay90 v152 v156 v164) p)) (mag ((k0_pay92 v154 v158 v166) p)))))) * q4) (Ideal.ofBits .f32 0x40C00000#32 * v p) := by
  rw [show (k0_pay1 v : FVec Ideal S8x128 .f32) = v from cast_self v]
  rfl

theorem tree_eq (z : Fin 16 → EReal) :
    (max (max (max (max (mag (z 0)) (mag (z 1))) (max (mag (z 2)) (mag (z 3)))) (max (max (mag (z 4)) (mag (z 5))) (max (mag (z 6)) (mag (z 7))))) (max (max (max (mag (z 8)) (mag (z 9))) (max (mag (z 10)) (mag (z 11)))) (max (max (mag (z 12)) (mag (z 13))) (max (mag (z 14)) (mag (z 15)))))) * q4 = Finset.fold max ⊥ (fun i => mag (z i * q4)) Finset.univ := by
  have hq : mag q4 = q4 := by rw [q4_eq, mag_coe, abs_of_nonneg (by norm_num)]
  simp only [max_q4, mag_mul, hq]
  refine eq_of_forall_ge_iff fun M => ?_
  rw [Cert.DyAmaxIdeal.DyAmax.fold_le_iff]
  simp only [max_le_iff]
  constructor
  · rintro h i
    fin_cases i <;> tauto
  · intro h
    exact ⟨⟨⟨⟨h 0, h 1⟩, h 2, h 3⟩, ⟨h 4, h 5⟩, h 6, h 7⟩, ⟨⟨h 8, h 9⟩, h 10, h 11⟩, ⟨h 12, h 13⟩, h 14, h 15⟩

theorem zs_pay0 (p : S8x128.Idx) : zs arg2 arg4 X_arg2 X_arg4 k 0 p = (k0_pay77 (trip_k0_t1.sl.r_45 (F := Ideal) arg2 arg4 X_arg2 X_arg4 k) (trip_k0_t1.sl.r_53 (F := Ideal) arg2 arg4 X_arg2 X_arg4 k) : S8x128.Idx → EReal) p := rfl

theorem zs_pay1 (p : S8x128.Idx) : zs arg2 arg4 X_arg2 X_arg4 k 1 p = (k0_pay79 (trip_k0_t1.sl.r_40 (F := Ideal) arg2 arg4 X_arg2 X_arg4 k) (trip_k0_t1.sl.r_43 (F := Ideal) arg2 arg4 X_arg2 X_arg4 k) (trip_k0_t1.sl.r_47 (F := Ideal) arg2 arg4 X_arg2 X_arg4 k) : S8x128.Idx → EReal) p := rfl

theorem zs_pay2 (p : S8x128.Idx) : zs arg2 arg4 X_arg2 X_arg4 k 2 p = (k0_pay81 (trip_k0_t1.sl.r_39 (F := Ideal) arg2 arg4 X_arg2 X_arg4 k) (trip_k0_t1.sl.r_42 (F := Ideal) arg2 arg4 X_arg2 X_arg4 k) (trip_k0_t1.sl.r_49 (F := Ideal) arg2 arg4 X_arg2 X_arg4 k) : S8x128.Idx → EReal) p := rfl

theorem zs_pay3 (p : S8x128.Idx) : zs arg2 arg4 X_arg2 X_arg4 k 3 p = (k0_pay83 (trip_k0_t1.sl.r_41 (F := Ideal) arg2 arg4 X_arg2 X_arg4 k) (trip_k0_t1.sl.r_44 (F := Ideal) arg2 arg4 X_arg2 X_arg4 k) (trip_k0_t1.sl.r_51 (F := Ideal) arg2 arg4 X_arg2 X_arg4 k) : S8x128.Idx → EReal) p := rfl

theorem zs_pay4 (p : S8x128.Idx) : zs arg2 arg4 X_arg2 X_arg4 k 4 p = (k0_pay85 (trip_k0_t1.sl.r_46 (F := Ideal) arg2 arg4 X_arg2 X_arg4 k) (trip_k0_t1.sl.r_54 (F := Ideal) arg2 arg4 X_arg2 X_arg4 k) : S8x128.Idx → EReal) p := rfl

theorem zs_pay5 (p : S8x128.Idx) : zs arg2 arg4 X_arg2 X_arg4 k 5 p = (k0_pay87 (trip_k0_t1.sl.r_40 (F := Ideal) arg2 arg4 X_arg2 X_arg4 k) (trip_k0_t1.sl.r_43 (F := Ideal) arg2 arg4 X_arg2 X_arg4 k) (trip_k0_t1.sl.r_48 (F := Ideal) arg2 arg4 X_arg2 X_arg4 k) : S8x128.Idx → EReal) p := rfl

theorem zs_pay6 (p : S8x128.Idx) : zs arg2 arg4 X_arg2 X_arg4 k 6 p = (k0_pay89 (trip_k0_t1.sl.r_39 (F := Ideal) arg2 arg4 X_arg2 X_arg4 k) (trip_k0_t1.sl.r_42 (F := Ideal) arg2 arg4 X_arg2 X_arg4 k) (trip_k0_t1.sl.r_50 (F := Ideal) arg2 arg4 X_arg2 X_arg4 k) : S8x128.Idx → EReal) p := rfl

theorem zs_pay7 (p : S8x128.Idx) : zs arg2 arg4 X_arg2 X_arg4 k 7 p = (k0_pay91 (trip_k0_t1.sl.r_41 (F := Ideal) arg2 arg4 X_arg2 X_arg4 k) (trip_k0_t1.sl.r_44 (F := Ideal) arg2 arg4 X_arg2 X_arg4 k) (trip_k0_t1.sl.r_52 (F := Ideal) arg2 arg4 X_arg2 X_arg4 k) : S8x128.Idx → EReal) p := rfl

theorem zs_pay8 (p : S8x128.Idx) : zs arg2 arg4 X_arg2 X_arg4 k 8 p = (k0_pay78 (trip_k0_t1.sl.r_45 (F := Ideal) arg2 arg4 X_arg2 X_arg4 k) (trip_k0_t1.sl.r_53 (F := Ideal) arg2 arg4 X_arg2 X_arg4 k) : S8x128.Idx → EReal) p := rfl

theorem zs_pay9 (p : S8x128.Idx) : zs arg2 arg4 X_arg2 X_arg4 k 9 p = (k0_pay80 (trip_k0_t1.sl.r_40 (F := Ideal) arg2 arg4 X_arg2 X_arg4 k) (trip_k0_t1.sl.r_43 (F := Ideal) arg2 arg4 X_arg2 X_arg4 k) (trip_k0_t1.sl.r_47 (F := Ideal) arg2 arg4 X_arg2 X_arg4 k) : S8x128.Idx → EReal) p := rfl

theorem zs_pay10 (p : S8x128.Idx) : zs arg2 arg4 X_arg2 X_arg4 k 10 p = (k0_pay82 (trip_k0_t1.sl.r_39 (F := Ideal) arg2 arg4 X_arg2 X_arg4 k) (trip_k0_t1.sl.r_42 (F := Ideal) arg2 arg4 X_arg2 X_arg4 k) (trip_k0_t1.sl.r_49 (F := Ideal) arg2 arg4 X_arg2 X_arg4 k) : S8x128.Idx → EReal) p := rfl

theorem zs_pay11 (p : S8x128.Idx) : zs arg2 arg4 X_arg2 X_arg4 k 11 p = (k0_pay84 (trip_k0_t1.sl.r_41 (F := Ideal) arg2 arg4 X_arg2 X_arg4 k) (trip_k0_t1.sl.r_44 (F := Ideal) arg2 arg4 X_arg2 X_arg4 k) (trip_k0_t1.sl.r_51 (F := Ideal) arg2 arg4 X_arg2 X_arg4 k) : S8x128.Idx → EReal) p := rfl

theorem zs_pay12 (p : S8x128.Idx) : zs arg2 arg4 X_arg2 X_arg4 k 12 p = (k0_pay86 (trip_k0_t1.sl.r_46 (F := Ideal) arg2 arg4 X_arg2 X_arg4 k) (trip_k0_t1.sl.r_54 (F := Ideal) arg2 arg4 X_arg2 X_arg4 k) : S8x128.Idx → EReal) p := rfl

theorem zs_pay13 (p : S8x128.Idx) : zs arg2 arg4 X_arg2 X_arg4 k 13 p = (k0_pay88 (trip_k0_t1.sl.r_40 (F := Ideal) arg2 arg4 X_arg2 X_arg4 k) (trip_k0_t1.sl.r_43 (F := Ideal) arg2 arg4 X_arg2 X_arg4 k) (trip_k0_t1.sl.r_48 (F := Ideal) arg2 arg4 X_arg2 X_arg4 k) : S8x128.Idx → EReal) p := rfl

theorem zs_pay14 (p : S8x128.Idx) : zs arg2 arg4 X_arg2 X_arg4 k 14 p = (k0_pay90 (trip_k0_t1.sl.r_39 (F := Ideal) arg2 arg4 X_arg2 X_arg4 k) (trip_k0_t1.sl.r_42 (F := Ideal) arg2 arg4 X_arg2 X_arg4 k) (trip_k0_t1.sl.r_50 (F := Ideal) arg2 arg4 X_arg2 X_arg4 k) : S8x128.Idx → EReal) p := rfl

theorem zs_pay15 (p : S8x128.Idx) : zs arg2 arg4 X_arg2 X_arg4 k 15 p = (k0_pay92 (trip_k0_t1.sl.r_41 (F := Ideal) arg2 arg4 X_arg2 X_arg4 k) (trip_k0_t1.sl.r_44 (F := Ideal) arg2 arg4 X_arg2 X_arg4 k) (trip_k0_t1.sl.r_52 (F := Ideal) arg2 arg4 X_arg2 X_arg4 k) : S8x128.Idx → EReal) p := rfl

theorem scale_apply (p : S8x128.Idx) :
    ((trip_k0_t1.sl.r_72 (F := Ideal) arg2 arg4 v0 X_arg2 X_arg4 k) : S8x128.Idx → EReal) p
      = scaleOf (Finset.fold max ⊥ (fun i => mag (zs arg2 arg4 X_arg2 X_arg4 k i p * q4)) Finset.univ) (v0 p) := by
  refine (congrArg (fun a : EReal => min (Ideal.ofBits .f32 0x43E00000#32) (max (Ideal.ofBits .f32 0x00000000#32) a))
      (quot_apply v0 _ _ _ _ _ _ _ _ _ _ _ _ _ _ _ _ p)).trans ?_
  rw [← tree_eq (fun i => zs arg2 arg4 X_arg2 X_arg4 k i p)]
  unfold scaleOf
  rw [zs_pay0, zs_pay1, zs_pay2, zs_pay3, zs_pay4, zs_pay5, zs_pay6, zs_pay7, zs_pay8, zs_pay9, zs_pay10, zs_pay11, zs_pay12, zs_pay13, zs_pay14, zs_pay15]

theorem mul_apply (p : S8x128.Idx) :
    ((trip_k0_t1.sl.r_73 (F := Ideal) arg2 arg4 v0 X_arg2 X_arg4 k) : S8x128.Idx → EReal) p
      = mulOf (((trip_k0_t1.sl.r_72 (F := Ideal) arg2 arg4 v0 X_arg2 X_arg4 k) : S8x128.Idx → EReal) p) (v0 p) := by
  unfold trip_k0_t1.sl.r_73 trip_k0_t1.sl.r_72
  generalize (trip_k0_t1.sl.r_71 (F := Ideal) arg2 arg4 v0 X_arg2 X_arg4 k) = a
  unfold k0_pay95
  rw [show (k0_pay1 v0 : FVec Ideal S8x128 .f32) = v0 from cast_self v0]
  rfl

end Cert.DyQuantIdeal.Quant

end
-- ==== Proof.DyQuantPoint.lean ====
/-
  What one grid point of the gradient quantiser leaves in its blocks, over the extended reals: the loop's pieces read
  back, trip by trip.
-/
module

public import proofs.«01_k».proof.Proof.DyQuantTrip
public import Idealize.ShloMosaic.Lib.WritesUnit
public import Idealize.ShloMosaic.Lib.Pipeline.Value

@[expose] public section

set_option maxRecDepth 65536

noncomputable section

namespace Cert.DyQuantIdeal.Quant

open Cert.DyQuantIdeal Cert.DyQuantIdeal.Gen Idealize.ShloMosaic Idealize.ShloMosaic.TcCoe Idealize.SL.Sem
open Cert.DyAmaxIdeal.DyAmax (mag neg quarter had ix2_ext)
open Cert.Magnitude
open scoped BigOperators

theorem off1_eq : ∀ k : Fin k0_t1_loop.trips, k0_off1 k = ![128 * k.val, 0] := by decide +kernel
theorem off2_eq : ∀ k : Fin k0_t1_loop.trips, k0_off2 k = ![8 * k.val, 0] := by decide +kernel
theorem off3_eq : ∀ k : Fin k0_t1_loop.trips, k0_off3 k = ![0, 64 * k.val, 0] := by decide +kernel
theorem trips_eq : k0_t1_loop.trips = 18 := by decide +kernel

section Pieces

variable (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
  (v0 : Vec Ideal S8x128 .f32) (X_arg2 : BufTy.Contents (Elt Ideal) arg2.view.ty) (X_arg4 : BufTy.Contents (Elt Ideal) arg4.view.ty)
  (X_arg5 : BufTy.Contents (Elt Ideal) arg5.view.ty)

/-- The scales trip `k` stores. -/
abbrev scl (k : Fin k0_t1_loop.trips) : Vec Ideal S8x128 .f32 := trip_k0_t1.sl.v1305 (F := Ideal) arg2 arg4 v0 X_arg2 X_arg4 k

theorem trip_scales (k : Fin k0_t1_loop.trips) :
    (tripL_k0_t1 (F := Ideal) 𝒱 c bd i arg2 harg2 arg3 harg3 arg4 harg4 arg5 harg5 arg6 harg6 arg7 harg7 arg8 harg8 arg9 harg9 arg10 harg10 v0 X_arg2 X_arg4 X_arg5 k).2.2.2
      = [⟨Rect.unit (s := S144x128) (k0_off2 k) S8x128.size (k0_off2_inb k), scl arg2 arg4 v0 X_arg2 X_arg4 k⟩] := by
  unfold tripL_k0_t1 trip_k0_t1
  rfl

theorem pieces_scales (j : ℕ) (hj : j ≤ k0_t1_loop.trips) :
    (pb_k0_t1 (F := Ideal) 𝒱 c bd i arg2 harg2 arg3 harg3 arg4 harg4 arg5 harg5 arg6 harg6 arg7 harg7 arg8 harg8 arg9 harg9 arg10 harg10 v0 X_arg2 X_arg4 X_arg5 j).2.2.2
      = View.tilePieces (s := S144x128) S8x128.size (fun k => k0_off2 k) (fun k => k0_off2_inb k) (fun k => scl arg2 arg4 v0 X_arg2 X_arg4 k) j hj := by
  induction j with
  | zero => rfl
  | succ j ih =>
    rw [View.tilePieces_succ, ← ih (Nat.le_of_succ_le hj)]
    rw [show pb_k0_t1 (F := Ideal) 𝒱 c bd i arg2 harg2 arg3 harg3 arg4 harg4 arg5 harg5 arg6 harg6 arg7 harg7 arg8 harg8 arg9 harg9 arg10 harg10 v0 X_arg2 X_arg4 X_arg5 (j + 1) = _ from
      pb_k0_t1_succ (F := Ideal) 𝒱 c bd i arg2 harg2 arg3 harg3 arg4 harg4 arg5 harg5 arg6 harg6 arg7 harg7 arg8 harg8 arg9 harg9 arg10 harg10 v0 X_arg2 X_arg4 X_arg5 ⟨j, hj⟩]
    show (tripL_k0_t1 (F := Ideal) 𝒱 c bd i arg2 harg2 arg3 harg3 arg4 harg4 arg5 harg5 arg6 harg6 arg7 harg7 arg8 harg8 arg9 harg9 arg10 harg10 v0 X_arg2 X_arg4 X_arg5 ⟨j, hj⟩).2.2.2 ++ _ = _
    rw [trip_scales]
    rfl

/-- The scale scratch after the loop, read back: row `8 k + r` is what trip `k` stored. -/
theorem scratch_apply (k : Fin k0_t1_loop.trips) (r : Fin 8) (l : Fin 128) (inb) (q : Fin 144) (hq : q.val = 8 * k.val + r.val) :
    arg10.view.readCov (Val := Elt Ideal) (pb_k0_t1 (F := Ideal) 𝒱 c bd i arg2 harg2 arg3 harg3 arg4 harg4 arg5 harg5 arg6 harg6 arg7 harg7 arg8 harg8 arg9 harg9 arg10 harg10 v0 X_arg2 X_arg4 X_arg5 k0_t1_loop.trips).2.2.2
        (Rect.unit (s := S144x128) ![0, 0] S144x128.size inb).toLoadRect (ix2 q l)
      = scl arg2 arg4 v0 X_arg2 X_arg4 k (ix2 r l) := by
  rw [pieces_scales 𝒱 c bd i arg2 harg2 arg3 harg3 arg4 harg4 arg5 harg5 arg6 harg6 arg7 harg7 arg8 harg8 arg9 harg9 arg10 harg10 v0 X_arg2 X_arg4 X_arg5 _ le_rfl]
  refine View.read_tilePieces arg10.view _ _ _ _ _ k0_t1_loop.trips le_rfl _ k k.isLt (ix2 r l) ?_ 0 ?_
  · intro a
    rw [off2_eq]
    fin_cases a
    · show 0 + 1 * q.val = 8 * k.val + r.val; omega
    · show 0 + 1 * l.val = 0 + l.val; omega
  · intro i' hi'
    rw [off2_eq]
    have : i'.val ≠ k.val := fun h => hi' (Fin.ext h)
    show 0 + 1 * q.val < 8 * i'.val ∨ 8 * i'.val + 8 ≤ 0 + 1 * q.val
    omega

/-- The codes trip `k` stores. -/
abbrev cod (k : Fin k0_t1_loop.trips) : Vec Ideal S1x64x128 .i8 := trip_k0_t1.sl.v1313 (F := Ideal) arg2 arg4 arg5 arg9 v0 X_arg2 X_arg4 X_arg5 k

theorem trip_codes (k : Fin k0_t1_loop.trips) :
    (tripL_k0_t1 (F := Ideal) 𝒱 c bd i arg2 harg2 arg3 harg3 arg4 harg4 arg5 harg5 arg6 harg6 arg7 harg7 arg8 harg8 arg9 harg9 arg10 harg10 v0 X_arg2 X_arg4 X_arg5 k).1
      = [⟨Rect.unit (s := S1x1152x128) (k0_off3 k) S1x64x128.size (k0_off3_inb k), cod arg2 arg4 arg5 arg9 v0 X_arg2 X_arg4 X_arg5 k⟩] := by
  unfold tripL_k0_t1 trip_k0_t1
  rfl

theorem pieces_codes (j : ℕ) (hj : j ≤ k0_t1_loop.trips) :
    (pb_k0_t1 (F := Ideal) 𝒱 c bd i arg2 harg2 arg3 harg3 arg4 harg4 arg5 harg5 arg6 harg6 arg7 harg7 arg8 harg8 arg9 harg9 arg10 harg10 v0 X_arg2 X_arg4 X_arg5 j).1
      = View.tilePieces (s := S1x1152x128) S1x64x128.size (fun k => k0_off3 k) (fun k => k0_off3_inb k)
          (fun k => cod arg2 arg4 arg5 arg9 v0 X_arg2 X_arg4 X_arg5 k) j hj := by
  induction j with
  | zero => rfl
  | succ j ih =>
    rw [View.tilePieces_succ, ← ih (Nat.le_of_succ_le hj)]
    rw [show pb_k0_t1 (F := Ideal) 𝒱 c bd i arg2 harg2 arg3 harg3 arg4 harg4 arg5 harg5 arg6 harg6 arg7 harg7 arg8 harg8 arg9 harg9 arg10 harg10 v0 X_arg2 X_arg4 X_arg5 (j + 1) = _ from
      pb_k0_t1_succ (F := Ideal) 𝒱 c bd i arg2 harg2 arg3 harg3 arg4 harg4 arg5 harg5 arg6 harg6 arg7 harg7 arg8 harg8 arg9 harg9 arg10 harg10 v0 X_arg2 X_arg4 X_arg5 ⟨j, hj⟩]
    show (tripL_k0_t1 (F := Ideal) 𝒱 c bd i arg2 harg2 arg3 harg3 arg4 harg4 arg5 harg5 arg6 harg6 arg7 harg7 arg8 harg8 arg9 harg9 arg10 harg10 v0 X_arg2 X_arg4 X_arg5 ⟨j, hj⟩).1 ++ _ = _
    rw [trip_codes]
    rfl

end Pieces

theorem pay3_apply (v : Vec Ideal S144x128 .f32) (q : Fin 144) (l : Fin 128) :
    (k0_pay3 (F := Ideal) v : S1x144x128.Idx → EReal) (ix3 0 q l) = v (ix2 q l) := by
  unfold k0_pay3
  pointwise

/-- The tensor scale's plane, as the body reads it. -/
abbrev tsv (arg3 : Memref sig .tc .vmem S8x128 .f32) (harg3 : arg3.IsWhole) (x1 : Vec Ideal S8x128 .f32) : Vec Ideal S8x128 .f32 :=
  arg3.view.readAt (Elt Ideal) (Rect.unit (s := S8x128) ![0, 0] S8x128.size inb_S8x128_S8x128_0_0).toLoadRect (harg3.unread x1)

theorem tsv_apply (arg3 : Memref sig .tc .vmem S8x128 .f32) (harg3 : arg3.IsWhole) (x1 : Vec Ideal S8x128 .f32) (p : S8x128.Idx) :
    tsv arg3 harg3 x1 p = x1 p := by
  refine (congrFun (harg3.read_unread (Val := Elt Ideal) x1) _).trans (congrArg x1 (funext fun a => Fin.ext ?_))
  fin_cases a
  · show 0 + 1 * (p 0).val = (p 0).val; omega
  · show 0 + 1 * (p 1).val = (p 1).val; omega

theorem rows_apply (arg4 : Memref sig .tc .vmem S2304x128 .bf16) (harg4 : arg4.IsWhole) (x2 : Vec Ideal S2304x128 .bf16)
    (k : Fin k0_t1_loop.trips) (a : Fin 128) (l : Fin 128) (q : Fin 2304) (hq : q.val = 128 * k.val + a.val) :
    rows arg4 (harg4.unread x2) k (ix2 a l) = x2 (ix2 q l) := by
  refine (congrFun (harg4.read_unread (Val := Elt Ideal) x2) _).trans (congrArg x2 (funext fun b => Fin.ext ?_))
  have h0 : k0_off1 k 0 = 128 * k.val := by rw [off1_eq]; rfl
  have h1 : k0_off1 k 1 = 0 := by rw [off1_eq]; rfl
  fin_cases b
  · show k0_off1 k 0 + 1 * a.val = q.val; omega
  · show k0_off1 k 1 + 1 * l.val = l.val; omega

theorem sgn_apply (arg2 : Memref sig .tc .smem S16 .f32) (harg2 : arg2.IsWhole) (x0 : Vec Ideal S16 .f32) (j : Fin 16) :
    sgn arg2 (harg2.unread x0) j = x0 (ix1 j) := congrFun (harg2.read_unread (Val := Elt Ideal) x0) _

/-- The scales block a grid point leaves: row `8 k + r` is the scale trip `k` made of its `r`-th block. -/
theorem out5_apply (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec Ideal S16 .f32) (x1 : Vec Ideal S8x128 .f32) (x2 : Vec Ideal S2304x128 .bf16) (x3 : Vec Ideal S2304x128 .i8)
    (k : Fin k0_t1_loop.trips) (r : Fin 8) (l : Fin 128) (q : Fin 144) (hq : q.val = 8 * k.val + r.val) :
    (out0_A_5 (F := Ideal) c i arg2 harg2 arg3 harg3 arg4 harg4 arg5 harg5 arg6 harg6 arg7 harg7 arg8 harg8 arg9 harg9 arg10 harg10 x0 x1 x2 x3 : S1x144x128.Idx → EReal) (ix3 0 q l)
      = scl arg2 arg4 (tsv arg3 harg3 x1) (harg2.unread x0) (harg4.unread x2) k (ix2 r l) := by
  unfold out0_A_5 kernelRun0_A
  refine (View.read_writes_cons_unit_of_mem VO0_5 _ _ _ _ (ix3 0 q l) (ix3 0 q l) rfl ?_).trans ?_
  · intro a
    fin_cases a
    · rfl
    · show q.val = 0 + q.val; omega
    · show l.val = 0 + l.val; omega
  · refine (pay3_apply _ q l).trans ?_
    exact scratch_apply Variants.none c none i arg2 harg2 arg3 harg3 arg4 harg4 arg5 harg5 arg6 harg6 arg7 harg7 arg8 harg8 arg9 harg9 arg10 harg10 (tsv arg3 harg3 x1) (harg2.unread x0) (harg4.unread x2) (harg5.unread x3) k r l _ q hq

/-- The codes block a grid point leaves: row `64 k + a` is row `a` of what trip `k` stored. -/
theorem out4_apply (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec Ideal S16 .f32) (x1 : Vec Ideal S8x128 .f32) (x2 : Vec Ideal S2304x128 .bf16) (x3 : Vec Ideal S2304x128 .i8)
    (k : Fin k0_t1_loop.trips) (a : Fin 64) (l : Fin 128) (q : Fin 1152) (hq : q.val = 64 * k.val + a.val) :
    (out0_A_4 (F := Ideal) c i arg2 harg2 arg3 harg3 arg4 harg4 arg5 harg5 arg6 harg6 arg7 harg7 arg8 harg8 arg9 harg9 arg10 harg10 x0 x1 x2 x3 : S1x1152x128.Idx → BitVec 8) (ix3 0 q l)
      = cod arg2 arg4 arg5 arg9 (tsv arg3 harg3 x1) (harg2.unread x0) (harg4.unread x2) (harg5.unread x3) k (ix3 0 a l) := by
  unfold out0_A_4 kernelRun0_A
  show VO0_4.read (Elt Ideal) (VO0_4.writes (Elt Ideal) VO0_4.junk (pb_k0_t1 (F := Ideal) Variants.none c none i arg2 harg2 arg3 harg3 arg4 harg4 arg5 harg5 arg6 harg6 arg7 harg7 arg8 harg8 arg9 harg9 arg10 harg10 (tsv arg3 harg3 x1) (harg2.unread x0) (harg4.unread x2) (harg5.unread x3) k0_t1_loop.trips).1) (ix3 0 q l) = _
  rw [pieces_codes Variants.none c none i arg2 harg2 arg3 harg3 arg4 harg4 arg5 harg5 arg6 harg6 arg7 harg7 arg8 harg8 arg9 harg9 arg10 harg10 _ _ _ _ _ le_rfl]
  have h1 : ∀ k, k0_off3 k 1 = 64 * k.val := fun k => by rw [off3_eq]; rfl
  refine View.read_tilePieces VO0_4 _ _ _ _ _ k0_t1_loop.trips le_rfl _ k k.isLt (ix3 0 a l) ?_ 1 ?_
  · intro b
    rw [off3_eq]
    fin_cases b
    · rfl
    · exact hq
    · show l.val = 0 + l.val; omega
  · intro i' hi'
    rw [h1]
    have : i'.val ≠ k.val := fun h => hi' (Fin.ext h)
    show q.val < 64 * i'.val ∨ 64 * i'.val + 64 ≤ q.val
    omega

end Cert.DyQuantIdeal.Quant

end
-- ==== Proof.DyQuantMag.lean ====
/-
  The magnitudes of a trip's transformed values: the kernel's additions and subtractions and the reference's sum have the
  same magnitude whatever the values, infinite ones included. So the block's scale is the reference's.
-/
module

public import proofs.«01_k».proof.Proof.DyQuantPoint

@[expose] public section

set_option maxRecDepth 65536

noncomputable section

namespace Cert.DyQuantIdeal.Quant

open Cert.DyQuantIdeal Cert.DyQuantIdeal.Gen Idealize.ShloMosaic Idealize.ShloMosaic.TcCoe Idealize.SL.Sem
open Cert.DyAmaxIdeal.DyAmax (mag neg quarter had)
open Cert.Magnitude
open scoped BigOperators

variable (arg2 : Memref sig .tc .smem S16 .f32) (arg4 : Memref sig .tc .vmem S2304x128 .bf16)
  (v0 : Vec Ideal S8x128 .f32) (X_arg2 : BufTy.Contents (Elt Ideal) arg2.view.ty) (X_arg4 : BufTy.Contents (Elt Ideal) arg4.view.ty)
  (k : Fin k0_t1_loop.trips)

theorem mag_neg (a : EReal) : mag (-a) = mag a := by
  unfold mag
  rw [neg_neg, max_comm]

theorem mag_sub_top (a b : EReal) : mag (a - b) = ⊤ ↔ mag a = ⊤ ∨ mag b = ⊤ := by
  rw [sub_eq_add_neg, mag_add_top, mag_neg]

/-- What holds of one of sixteen holds of one in the order the transform takes them. -/
theorem any16 (P : Fin 16 → Prop) (j : Fin 16) (h : P j) :
    (((P 0 ∨ P 1) ∨ (P 2 ∨ P 3)) ∨ ((P 4 ∨ P 5) ∨ (P 6 ∨ P 7))) ∨ (((P 8 ∨ P 9) ∨ (P 10 ∨ P 11)) ∨ ((P 12 ∨ P 13) ∨ (P 14 ∨ P 15))) := by
  fin_cases j <;> simp_all

theorem top0 (p : S8x128.Idx) (j : Fin 16) (h : mag (vals arg2 arg4 X_arg2 X_arg4 k j p) = ⊤) : mag (zs arg2 arg4 X_arg2 X_arg4 k 0 p) = ⊤ := by
  have e : zs arg2 arg4 X_arg2 X_arg4 k 0 p
    = (((((vals arg2 arg4 X_arg2 X_arg4 k 0 p) + (vals arg2 arg4 X_arg2 X_arg4 k 1 p)) + ((vals arg2 arg4 X_arg2 X_arg4 k 2 p) + (vals arg2 arg4 X_arg2 X_arg4 k 3 p))) + (((vals arg2 arg4 X_arg2 X_arg4 k 4 p) + (vals arg2 arg4 X_arg2 X_arg4 k 5 p)) + ((vals arg2 arg4 X_arg2 X_arg4 k 6 p) + (vals arg2 arg4 X_arg2 X_arg4 k 7 p)))) + ((((vals arg2 arg4 X_arg2 X_arg4 k 8 p) + (vals arg2 arg4 X_arg2 X_arg4 k 9 p)) + ((vals arg2 arg4 X_arg2 X_arg4 k 10 p) + (vals arg2 arg4 X_arg2 X_arg4 k 11 p))) + (((vals arg2 arg4 X_arg2 X_arg4 k 12 p) + (vals arg2 arg4 X_arg2 X_arg4 k 13 p)) + ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top1 (p : S8x128.Idx) (j : Fin 16) (h : mag (vals arg2 arg4 X_arg2 X_arg4 k j p) = ⊤) : mag (zs arg2 arg4 X_arg2 X_arg4 k 1 p) = ⊤ := by
  have e : zs arg2 arg4 X_arg2 X_arg4 k 1 p
    = (((((vals arg2 arg4 X_arg2 X_arg4 k 0 p) - (vals arg2 arg4 X_arg2 X_arg4 k 1 p)) + ((vals arg2 arg4 X_arg2 X_arg4 k 2 p) - (vals arg2 arg4 X_arg2 X_arg4 k 3 p))) + (((vals arg2 arg4 X_arg2 X_arg4 k 4 p) - (vals arg2 arg4 X_arg2 X_arg4 k 5 p)) + ((vals arg2 arg4 X_arg2 X_arg4 k 6 p) - (vals arg2 arg4 X_arg2 X_arg4 k 7 p)))) + ((((vals arg2 arg4 X_arg2 X_arg4 k 8 p) - (vals arg2 arg4 X_arg2 X_arg4 k 9 p)) + ((vals arg2 arg4 X_arg2 X_arg4 k 10 p) - (vals arg2 arg4 X_arg2 X_arg4 k 11 p))) + (((vals arg2 arg4 X_arg2 X_arg4 k 12 p) - (vals arg2 arg4 X_arg2 X_arg4 k 13 p)) + ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top2 (p : S8x128.Idx) (j : Fin 16) (h : mag (vals arg2 arg4 X_arg2 X_arg4 k j p) = ⊤) : mag (zs arg2 arg4 X_arg2 X_arg4 k 2 p) = ⊤ := by
  have e : zs arg2 arg4 X_arg2 X_arg4 k 2 p
    = (((((vals arg2 arg4 X_arg2 X_arg4 k 0 p) + (vals arg2 arg4 X_arg2 X_arg4 k 1 p)) - ((vals arg2 arg4 X_arg2 X_arg4 k 2 p) + (vals arg2 arg4 X_arg2 X_arg4 k 3 p))) + (((vals arg2 arg4 X_arg2 X_arg4 k 4 p) + (vals arg2 arg4 X_arg2 X_arg4 k 5 p)) - ((vals arg2 arg4 X_arg2 X_arg4 k 6 p) + (vals arg2 arg4 X_arg2 X_arg4 k 7 p)))) + ((((vals arg2 arg4 X_arg2 X_arg4 k 8 p) + (vals arg2 arg4 X_arg2 X_arg4 k 9 p)) - ((vals arg2 arg4 X_arg2 X_arg4 k 10 p) + (vals arg2 arg4 X_arg2 X_arg4 k 11 p))) + (((vals arg2 arg4 X_arg2 X_arg4 k 12 p) + (vals arg2 arg4 X_arg2 X_arg4 k 13 p)) - ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top3 (p : S8x128.Idx) (j : Fin 16) (h : mag (vals arg2 arg4 X_arg2 X_arg4 k j p) = ⊤) : mag (zs arg2 arg4 X_arg2 X_arg4 k 3 p) = ⊤ := by
  have e : zs arg2 arg4 X_arg2 X_arg4 k 3 p
    = (((((vals arg2 arg4 X_arg2 X_arg4 k 0 p) - (vals arg2 arg4 X_arg2 X_arg4 k 1 p)) - ((vals arg2 arg4 X_arg2 X_arg4 k 2 p) - (vals arg2 arg4 X_arg2 X_arg4 k 3 p))) + (((vals arg2 arg4 X_arg2 X_arg4 k 4 p) - (vals arg2 arg4 X_arg2 X_arg4 k 5 p)) - ((vals arg2 arg4 X_arg2 X_arg4 k 6 p) - (vals arg2 arg4 X_arg2 X_arg4 k 7 p)))) + ((((vals arg2 arg4 X_arg2 X_arg4 k 8 p) - (vals arg2 arg4 X_arg2 X_arg4 k 9 p)) - ((vals arg2 arg4 X_arg2 X_arg4 k 10 p) - (vals arg2 arg4 X_arg2 X_arg4 k 11 p))) + (((vals arg2 arg4 X_arg2 X_arg4 k 12 p) - (vals arg2 arg4 X_arg2 X_arg4 k 13 p)) - ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top4 (p : S8x128.Idx) (j : Fin 16) (h : mag (vals arg2 arg4 X_arg2 X_arg4 k j p) = ⊤) : mag (zs arg2 arg4 X_arg2 X_arg4 k 4 p) = ⊤ := by
  have e : zs arg2 arg4 X_arg2 X_arg4 k 4 p
    = (((((vals arg2 arg4 X_arg2 X_arg4 k 0 p) + (vals arg2 arg4 X_arg2 X_arg4 k 1 p)) + ((vals arg2 arg4 X_arg2 X_arg4 k 2 p) + (vals arg2 arg4 X_arg2 X_arg4 k 3 p))) - (((vals arg2 arg4 X_arg2 X_arg4 k 4 p) + (vals arg2 arg4 X_arg2 X_arg4 k 5 p)) + ((vals arg2 arg4 X_arg2 X_arg4 k 6 p) + (vals arg2 arg4 X_arg2 X_arg4 k 7 p)))) + ((((vals arg2 arg4 X_arg2 X_arg4 k 8 p) + (vals arg2 arg4 X_arg2 X_arg4 k 9 p)) + ((vals arg2 arg4 X_arg2 X_arg4 k 10 p) + (vals arg2 arg4 X_arg2 X_arg4 k 11 p))) - (((vals arg2 arg4 X_arg2 X_arg4 k 12 p) + (vals arg2 arg4 X_arg2 X_arg4 k 13 p)) + ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top5 (p : S8x128.Idx) (j : Fin 16) (h : mag (vals arg2 arg4 X_arg2 X_arg4 k j p) = ⊤) : mag (zs arg2 arg4 X_arg2 X_arg4 k 5 p) = ⊤ := by
  have e : zs arg2 arg4 X_arg2 X_arg4 k 5 p
    = (((((vals arg2 arg4 X_arg2 X_arg4 k 0 p) - (vals arg2 arg4 X_arg2 X_arg4 k 1 p)) + ((vals arg2 arg4 X_arg2 X_arg4 k 2 p) - (vals arg2 arg4 X_arg2 X_arg4 k 3 p))) - (((vals arg2 arg4 X_arg2 X_arg4 k 4 p) - (vals arg2 arg4 X_arg2 X_arg4 k 5 p)) + ((vals arg2 arg4 X_arg2 X_arg4 k 6 p) - (vals arg2 arg4 X_arg2 X_arg4 k 7 p)))) + ((((vals arg2 arg4 X_arg2 X_arg4 k 8 p) - (vals arg2 arg4 X_arg2 X_arg4 k 9 p)) + ((vals arg2 arg4 X_arg2 X_arg4 k 10 p) - (vals arg2 arg4 X_arg2 X_arg4 k 11 p))) - (((vals arg2 arg4 X_arg2 X_arg4 k 12 p) - (vals arg2 arg4 X_arg2 X_arg4 k 13 p)) + ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top6 (p : S8x128.Idx) (j : Fin 16) (h : mag (vals arg2 arg4 X_arg2 X_arg4 k j p) = ⊤) : mag (zs arg2 arg4 X_arg2 X_arg4 k 6 p) = ⊤ := by
  have e : zs arg2 arg4 X_arg2 X_arg4 k 6 p
    = (((((vals arg2 arg4 X_arg2 X_arg4 k 0 p) + (vals arg2 arg4 X_arg2 X_arg4 k 1 p)) - ((vals arg2 arg4 X_arg2 X_arg4 k 2 p) + (vals arg2 arg4 X_arg2 X_arg4 k 3 p))) - (((vals arg2 arg4 X_arg2 X_arg4 k 4 p) + (vals arg2 arg4 X_arg2 X_arg4 k 5 p)) - ((vals arg2 arg4 X_arg2 X_arg4 k 6 p) + (vals arg2 arg4 X_arg2 X_arg4 k 7 p)))) + ((((vals arg2 arg4 X_arg2 X_arg4 k 8 p) + (vals arg2 arg4 X_arg2 X_arg4 k 9 p)) - ((vals arg2 arg4 X_arg2 X_arg4 k 10 p) + (vals arg2 arg4 X_arg2 X_arg4 k 11 p))) - (((vals arg2 arg4 X_arg2 X_arg4 k 12 p) + (vals arg2 arg4 X_arg2 X_arg4 k 13 p)) - ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top7 (p : S8x128.Idx) (j : Fin 16) (h : mag (vals arg2 arg4 X_arg2 X_arg4 k j p) = ⊤) : mag (zs arg2 arg4 X_arg2 X_arg4 k 7 p) = ⊤ := by
  have e : zs arg2 arg4 X_arg2 X_arg4 k 7 p
    = (((((vals arg2 arg4 X_arg2 X_arg4 k 0 p) - (vals arg2 arg4 X_arg2 X_arg4 k 1 p)) - ((vals arg2 arg4 X_arg2 X_arg4 k 2 p) - (vals arg2 arg4 X_arg2 X_arg4 k 3 p))) - (((vals arg2 arg4 X_arg2 X_arg4 k 4 p) - (vals arg2 arg4 X_arg2 X_arg4 k 5 p)) - ((vals arg2 arg4 X_arg2 X_arg4 k 6 p) - (vals arg2 arg4 X_arg2 X_arg4 k 7 p)))) + ((((vals arg2 arg4 X_arg2 X_arg4 k 8 p) - (vals arg2 arg4 X_arg2 X_arg4 k 9 p)) - ((vals arg2 arg4 X_arg2 X_arg4 k 10 p) - (vals arg2 arg4 X_arg2 X_arg4 k 11 p))) - (((vals arg2 arg4 X_arg2 X_arg4 k 12 p) - (vals arg2 arg4 X_arg2 X_arg4 k 13 p)) - ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top8 (p : S8x128.Idx) (j : Fin 16) (h : mag (vals arg2 arg4 X_arg2 X_arg4 k j p) = ⊤) : mag (zs arg2 arg4 X_arg2 X_arg4 k 8 p) = ⊤ := by
  have e : zs arg2 arg4 X_arg2 X_arg4 k 8 p
    = (((((vals arg2 arg4 X_arg2 X_arg4 k 0 p) + (vals arg2 arg4 X_arg2 X_arg4 k 1 p)) + ((vals arg2 arg4 X_arg2 X_arg4 k 2 p) + (vals arg2 arg4 X_arg2 X_arg4 k 3 p))) + (((vals arg2 arg4 X_arg2 X_arg4 k 4 p) + (vals arg2 arg4 X_arg2 X_arg4 k 5 p)) + ((vals arg2 arg4 X_arg2 X_arg4 k 6 p) + (vals arg2 arg4 X_arg2 X_arg4 k 7 p)))) - ((((vals arg2 arg4 X_arg2 X_arg4 k 8 p) + (vals arg2 arg4 X_arg2 X_arg4 k 9 p)) + ((vals arg2 arg4 X_arg2 X_arg4 k 10 p) + (vals arg2 arg4 X_arg2 X_arg4 k 11 p))) + (((vals arg2 arg4 X_arg2 X_arg4 k 12 p) + (vals arg2 arg4 X_arg2 X_arg4 k 13 p)) + ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top9 (p : S8x128.Idx) (j : Fin 16) (h : mag (vals arg2 arg4 X_arg2 X_arg4 k j p) = ⊤) : mag (zs arg2 arg4 X_arg2 X_arg4 k 9 p) = ⊤ := by
  have e : zs arg2 arg4 X_arg2 X_arg4 k 9 p
    = (((((vals arg2 arg4 X_arg2 X_arg4 k 0 p) - (vals arg2 arg4 X_arg2 X_arg4 k 1 p)) + ((vals arg2 arg4 X_arg2 X_arg4 k 2 p) - (vals arg2 arg4 X_arg2 X_arg4 k 3 p))) + (((vals arg2 arg4 X_arg2 X_arg4 k 4 p) - (vals arg2 arg4 X_arg2 X_arg4 k 5 p)) + ((vals arg2 arg4 X_arg2 X_arg4 k 6 p) - (vals arg2 arg4 X_arg2 X_arg4 k 7 p)))) - ((((vals arg2 arg4 X_arg2 X_arg4 k 8 p) - (vals arg2 arg4 X_arg2 X_arg4 k 9 p)) + ((vals arg2 arg4 X_arg2 X_arg4 k 10 p) - (vals arg2 arg4 X_arg2 X_arg4 k 11 p))) + (((vals arg2 arg4 X_arg2 X_arg4 k 12 p) - (vals arg2 arg4 X_arg2 X_arg4 k 13 p)) + ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top10 (p : S8x128.Idx) (j : Fin 16) (h : mag (vals arg2 arg4 X_arg2 X_arg4 k j p) = ⊤) : mag (zs arg2 arg4 X_arg2 X_arg4 k 10 p) = ⊤ := by
  have e : zs arg2 arg4 X_arg2 X_arg4 k 10 p
    = (((((vals arg2 arg4 X_arg2 X_arg4 k 0 p) + (vals arg2 arg4 X_arg2 X_arg4 k 1 p)) - ((vals arg2 arg4 X_arg2 X_arg4 k 2 p) + (vals arg2 arg4 X_arg2 X_arg4 k 3 p))) + (((vals arg2 arg4 X_arg2 X_arg4 k 4 p) + (vals arg2 arg4 X_arg2 X_arg4 k 5 p)) - ((vals arg2 arg4 X_arg2 X_arg4 k 6 p) + (vals arg2 arg4 X_arg2 X_arg4 k 7 p)))) - ((((vals arg2 arg4 X_arg2 X_arg4 k 8 p) + (vals arg2 arg4 X_arg2 X_arg4 k 9 p)) - ((vals arg2 arg4 X_arg2 X_arg4 k 10 p) + (vals arg2 arg4 X_arg2 X_arg4 k 11 p))) + (((vals arg2 arg4 X_arg2 X_arg4 k 12 p) + (vals arg2 arg4 X_arg2 X_arg4 k 13 p)) - ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top11 (p : S8x128.Idx) (j : Fin 16) (h : mag (vals arg2 arg4 X_arg2 X_arg4 k j p) = ⊤) : mag (zs arg2 arg4 X_arg2 X_arg4 k 11 p) = ⊤ := by
  have e : zs arg2 arg4 X_arg2 X_arg4 k 11 p
    = (((((vals arg2 arg4 X_arg2 X_arg4 k 0 p) - (vals arg2 arg4 X_arg2 X_arg4 k 1 p)) - ((vals arg2 arg4 X_arg2 X_arg4 k 2 p) - (vals arg2 arg4 X_arg2 X_arg4 k 3 p))) + (((vals arg2 arg4 X_arg2 X_arg4 k 4 p) - (vals arg2 arg4 X_arg2 X_arg4 k 5 p)) - ((vals arg2 arg4 X_arg2 X_arg4 k 6 p) - (vals arg2 arg4 X_arg2 X_arg4 k 7 p)))) - ((((vals arg2 arg4 X_arg2 X_arg4 k 8 p) - (vals arg2 arg4 X_arg2 X_arg4 k 9 p)) - ((vals arg2 arg4 X_arg2 X_arg4 k 10 p) - (vals arg2 arg4 X_arg2 X_arg4 k 11 p))) + (((vals arg2 arg4 X_arg2 X_arg4 k 12 p) - (vals arg2 arg4 X_arg2 X_arg4 k 13 p)) - ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top12 (p : S8x128.Idx) (j : Fin 16) (h : mag (vals arg2 arg4 X_arg2 X_arg4 k j p) = ⊤) : mag (zs arg2 arg4 X_arg2 X_arg4 k 12 p) = ⊤ := by
  have e : zs arg2 arg4 X_arg2 X_arg4 k 12 p
    = (((((vals arg2 arg4 X_arg2 X_arg4 k 0 p) + (vals arg2 arg4 X_arg2 X_arg4 k 1 p)) + ((vals arg2 arg4 X_arg2 X_arg4 k 2 p) + (vals arg2 arg4 X_arg2 X_arg4 k 3 p))) - (((vals arg2 arg4 X_arg2 X_arg4 k 4 p) + (vals arg2 arg4 X_arg2 X_arg4 k 5 p)) + ((vals arg2 arg4 X_arg2 X_arg4 k 6 p) + (vals arg2 arg4 X_arg2 X_arg4 k 7 p)))) - ((((vals arg2 arg4 X_arg2 X_arg4 k 8 p) + (vals arg2 arg4 X_arg2 X_arg4 k 9 p)) + ((vals arg2 arg4 X_arg2 X_arg4 k 10 p) + (vals arg2 arg4 X_arg2 X_arg4 k 11 p))) - (((vals arg2 arg4 X_arg2 X_arg4 k 12 p) + (vals arg2 arg4 X_arg2 X_arg4 k 13 p)) + ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top13 (p : S8x128.Idx) (j : Fin 16) (h : mag (vals arg2 arg4 X_arg2 X_arg4 k j p) = ⊤) : mag (zs arg2 arg4 X_arg2 X_arg4 k 13 p) = ⊤ := by
  have e : zs arg2 arg4 X_arg2 X_arg4 k 13 p
    = (((((vals arg2 arg4 X_arg2 X_arg4 k 0 p) - (vals arg2 arg4 X_arg2 X_arg4 k 1 p)) + ((vals arg2 arg4 X_arg2 X_arg4 k 2 p) - (vals arg2 arg4 X_arg2 X_arg4 k 3 p))) - (((vals arg2 arg4 X_arg2 X_arg4 k 4 p) - (vals arg2 arg4 X_arg2 X_arg4 k 5 p)) + ((vals arg2 arg4 X_arg2 X_arg4 k 6 p) - (vals arg2 arg4 X_arg2 X_arg4 k 7 p)))) - ((((vals arg2 arg4 X_arg2 X_arg4 k 8 p) - (vals arg2 arg4 X_arg2 X_arg4 k 9 p)) + ((vals arg2 arg4 X_arg2 X_arg4 k 10 p) - (vals arg2 arg4 X_arg2 X_arg4 k 11 p))) - (((vals arg2 arg4 X_arg2 X_arg4 k 12 p) - (vals arg2 arg4 X_arg2 X_arg4 k 13 p)) + ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

theorem top14 (p : S8x128.Idx) (j : Fin 16) (h : mag (vals arg2 arg4 X_arg2 X_arg4 k j p) = ⊤) : mag (zs arg2 arg4 X_arg2 X_arg4 k 14 p) = ⊤ := by
  have e : zs arg2 arg4 X_arg2 X_arg4 k 14 p
    = (((((vals arg2 arg4 X_arg2 X_arg4 k 0 p) + (vals arg2 arg4 X_arg2 X_arg4 k 1 p)) - ((vals arg2 arg4 X_arg2 X_arg4 k 2 p) + (vals arg2 arg4 X_arg2 X_arg4 k 3 p))) - (((vals arg2 arg4 X_arg2 X_arg4 k 4 p) + (vals arg2 arg4 X_arg2 X_arg4 k 5 p)) - ((vals arg2 arg4 X_arg2 X_arg4 k 6 p) + (vals arg2 arg4 X_arg2 X_arg4 k 7 p)))) - ((((vals arg2 arg4 X_arg2 X_arg4 k 8 p) + (vals arg2 arg4 X_arg2 X_arg4 k 9 p)) - ((vals arg2 arg4 X_arg2 X_arg4 k 10 p) + (vals arg2 arg4 X_arg2 X_arg4 k 11 p))) - (((vals arg2 arg4 X_arg2 X_arg4 k 12 p) + (vals arg2 arg4 X_arg2 X_arg4 k 13 p)) - ((vals arg2 arg4 X_arg2 X_arg4 k 14 p) + (vals arg2 arg4 X_arg2 X_arg4 k 15 p))))) := rfl
  rw [e]
  simp only [mag_add_top, mag_sub_top]
  exact any16 (fun j => mag (vals arg2 arg4 X_arg2 X_arg4 k j p) = ⊤) j h

theorem top15 (p : S8x128.Idx) (j : Fin 16) (h : mag (vals arg2 arg4 X_arg2 X_arg4 k j p) = ⊤) : mag (zs arg2 arg4 X_arg2 X_arg4 k 15 p) = ⊤ := by
  have e : zs arg2 arg4 X_arg2 X_arg4 k 15 p
    = (((((vals arg2 arg4 X_arg2 X_arg4 k 0 p) - (vals arg2 arg4 X_arg2 X_arg4 k 1 p)) - ((vals arg2 arg4 X_arg2 X_arg4 k 2 p) - (vals arg2 arg4 X_arg2 X_arg4 k 3 p))) - (((vals arg2 arg4 X_arg2 X_arg4 k 4 p) - (vals arg2 arg4 X_arg2 X_arg4 k 5 p)) - ((vals arg2 arg4 X_arg2 X_arg4 k 6 p) - (vals arg2 arg4 X_arg2 X_arg4 k 7 p)))) - ((((vals arg2 arg4 X_arg2 X_arg4 k 8 p) - (vals arg2 arg4 X_arg2 X_arg4 k 9 p)) - ((vals arg2 arg4 X_arg2 X_arg4 k 10 p) - (vals arg2 arg4 X_arg2 X_arg4 k 11 p))) - (((vals arg2 arg4 X_arg2 X_arg4 k 12 p) - (vals arg2 arg4 X_arg2 X_arg4 k 13 p)) - ((vals arg2 arg4 X_arg2 X_arg4 k 14 p) - (vals arg2 arg4 X_arg2 X_arg4 k 15 p))))) := rfl
  rw [e]
  simp only [mag_add_top, mag_sub_top]
  exact any16 (fun j => mag (vals arg2 arg4 X_arg2 X_arg4 k j p) = ⊤) j h

/-- One infinite value makes every transformed value infinite. -/
theorem zs_top (i : Fin 16) (p : S8x128.Idx) (j : Fin 16) (h : mag (vals arg2 arg4 X_arg2 X_arg4 k j p) = ⊤) : mag (zs arg2 arg4 X_arg2 X_arg4 k i p) = ⊤ := by
  fin_cases i
  · exact top0 arg2 arg4 X_arg2 X_arg4 k p j h
  · exact top1 arg2 arg4 X_arg2 X_arg4 k p j h
  · exact top2 arg2 arg4 X_arg2 X_arg4 k p j h
  · exact top3 arg2 arg4 X_arg2 X_arg4 k p j h
  · exact top4 arg2 arg4 X_arg2 X_arg4 k p j h
  · exact top5 arg2 arg4 X_arg2 X_arg4 k p j h
  · exact top6 arg2 arg4 X_arg2 X_arg4 k p j h
  · exact top7 arg2 arg4 X_arg2 X_arg4 k p j h
  · exact top8 arg2 arg4 X_arg2 X_arg4 k p j h
  · exact top9 arg2 arg4 X_arg2 X_arg4 k p j h
  · exact top10 arg2 arg4 X_arg2 X_arg4 k p j h
  · exact top11 arg2 arg4 X_arg2 X_arg4 k p j h
  · exact top12 arg2 arg4 X_arg2 X_arg4 k p j h
  · exact top13 arg2 arg4 X_arg2 X_arg4 k p j h
  · exact top14 arg2 arg4 X_arg2 X_arg4 k p j h
  · exact top15 arg2 arg4 X_arg2 X_arg4 k p j h

/-- A transformed value over 4 has the magnitude of the signed sum. -/
theorem mag_zs (i : Fin 16) (p : S8x128.Idx) :
    mag (zs arg2 arg4 X_arg2 X_arg4 k i p * q4) = mag (∑ j : Fin 16, quarter i j * vals arg2 arg4 X_arg2 X_arg4 k j p) := by
  by_cases h : ∃ j, mag (vals arg2 arg4 X_arg2 X_arg4 k j p) = ⊤
  · obtain ⟨j, hj⟩ := h
    have h1 : mag (∑ j : Fin 16, quarter i j * vals arg2 arg4 X_arg2 X_arg4 k j p) = ⊤ := (mag_sum_top _ _).mpr ⟨j, Finset.mem_univ _, by
      rw [mag_mul, hj, quarter_eq, mag_coe, EReal.coe_mul_top_of_pos]
      unfold sgnInt
      split <;> norm_num⟩
    rw [mag_mul, zs_top arg2 arg4 X_arg2 X_arg4 k i p j hj, h1, q4_eq, mag_coe, EReal.top_mul_coe_of_pos (by norm_num)]
  · have h' : ∀ j, mag (vals arg2 arg4 X_arg2 X_arg4 k j p) ≠ ⊤ := fun j hj => h ⟨j, hj⟩
    choose x hx using fun j => real_of_mag (h' j)
    rw [zs_apply arg2 arg4 X_arg2 X_arg4 k i p x hx]
    simp only [hx, quarter_eq, q4_eq, ← EReal.coe_mul]
    rw [← coe_sum]
    refine congrArg (fun a : ℝ => mag (a : EReal)) ?_
    rw [Finset.sum_mul]
    refine Finset.sum_congr rfl fun j _ => ?_
    ring

/-- A block's scale, from its signs and its sixteen values. -/
theorem scl_apply (r : Fin 8) (l : Fin 128) (s x : Fin 16 → EReal) (hs : ∀ j, sgn arg2 X_arg2 j = s j)
    (hx : ∀ j : Fin 16, (rows arg4 X_arg4 k (ix2 ⟨r.val * 16 + j.val, by omega⟩ l) : EReal) = x j) :
    (scl arg2 arg4 v0 X_arg2 X_arg4 k : S8x128.Idx → EReal) (ix2 r l)
      = scaleOf (Finset.fold max ⊥ (fun i => mag (had s x i)) Finset.univ) (v0 (ix2 r l)) := by
  have e : (scl arg2 arg4 v0 X_arg2 X_arg4 k : S8x128.Idx → EReal) (ix2 r l) = ((trip_k0_t1.sl.r_72 (F := Ideal) arg2 arg4 v0 X_arg2 X_arg4 k) : S8x128.Idx → EReal) (ix2 r l) := by
    unfold scl trip_k0_t1.sl.v1305
    generalize (trip_k0_t1.sl.r_72 (F := Ideal) arg2 arg4 v0 X_arg2 X_arg4 k) = w
    exact congrFun (cast_self w) (ix2 r l)
  rw [e, scale_apply]
  refine congrArg (fun f => scaleOf (Finset.fold max ⊥ f Finset.univ) (v0 (ix2 r l))) (funext fun i => ?_)
  rw [mag_zs]
  refine congrArg mag (Finset.sum_congr rfl fun j _ => ?_)
  rw [vals_apply, hs, hx, mul_assoc, mul_comm (x j) (s j)]

end Cert.DyQuantIdeal.Quant

end
-- ==== Proof.DyQuantValue.lean ====
/-
  What a run of the gradient quantiser leaves in its array of block scales: at batch `b`, group `q` of sixteen token rows
  and column `e`, the scale made of the greatest magnitude of the group's transform.
-/
module

public import proofs.«01_k».proof.Proof.DyQuantMag
public import Idealize.ShloMosaic.Lib.Pipeline.Value

@[expose] public section

set_option maxRecDepth 65536

noncomputable section

namespace Cert.DyQuantIdeal.Quant

open Cert.DyQuantIdeal Cert.DyQuantIdeal.Gen Idealize.ShloMosaic Idealize.ShloMosaic.TcCoe Idealize.SL.Sem
open Idealize.ShloMosaic.Pipeline (Dat)
open Cert.DyAmaxIdeal.DyAmax (mag neg quarter had)
open scoped BigOperators

variable (m : (ℓ : Loc nD τ sig) → Buf (Elt Ideal) ℓ) (ρ : Dev nD → PrngReg) (c : Dev nD)

/-- The tensor scale, the gradient and the signs. -/
abbrev tsA : S1.Idx → EReal := m ((c : Thread nD τ).loc main_arg0)
abbrev dyA : S6x2304x14336.Idx → EReal := m ((c : Thread nD τ).loc main_arg1)
abbrev sgA : S16.Idx → EReal := m ((c : Thread nD τ).loc main_arg2)

theorem V0 : V m c main_v0 = broadcastInDim (α := Ideal .f32) S8x128 ![1] bcast_S1_S8x128_1 (tsA m c) := by
  unfold V
  simp only [hostOps0]
  after_results_simp <;> rfl

theorem V1 : V m c main_v1 = shapeCast (α := Ideal .bf16) S13824x14336 (dyA m c) shapeCasts_S6x2304x14336_S13824x14336 := by
  unfold V
  simp only [hostOps0]
  after_results_simp <;> rfl

theorem V0_apply (r : Fin 8) (l : Fin 128) : (V m c main_v0 : S8x128.Idx → EReal) (ix2 r l) = tsA m c (ix1 0) := by
  rw [V0]
  pointwise

theorem V1_apply (T : Fin 13824) (e : Fin 14336) :
    (V m c main_v1 : S13824x14336.Idx → EReal) (ix2 T e) = dyA m c (ix3 ⟨T.val / 2304, by omega⟩ ⟨T.val % 2304, by omega⟩ e) := by
  rw [V1]
  pointwise

theorem lt672 (t : Fin cfg0.N) : t.val < 672 := lt_of_lt_of_eq t.isLt N_0

theorem index1 : ∀ t : Fin grid0.N, win0_1.index t 0 = 0 ∧ win0_1.index t 1 = 0 := by decide +kernel
theorem index0 : ∀ t : Fin grid0.N, win0_0.index t 0 = 0 := by decide +kernel
theorem index2 : ∀ t : Fin grid0.N, win0_2.index t 0 = t.val / 112 ∧ win0_2.index t 1 = t.val % 112 := by decide +kernel
theorem index5 : ∀ t : Fin grid0.N, win0_5.index t 0 = t.val / 112 ∧ win0_5.index t 1 = 0 ∧ win0_5.index t 2 = t.val % 112 := by decide +kernel

abbrev sgBlk (t : Fin cfg0.N) : S16.Idx → EReal := iblk m c 0 t
abbrev tsBlk (t : Fin cfg0.N) : S8x128.Idx → EReal := iblk m c 1 t
abbrev dyBlk (t : Fin cfg0.N) : S2304x128.Idx → EReal := iblk m c 2 t

theorem blk0 (t : Fin cfg0.N) (j : Fin 16) : sgBlk m c t (ix1 j) = sgA m c (ix1 j) := by
  have hi := index0 t
  unfold sgBlk iblk
  rw [View.read_apply]
  refine Eq.trans (show V m c main_arg2 _ = V m c main_arg2 (ix1 j) from ?_) (congrFun (V_main_arg2 m c) (ix1 j))
  congr 1
  funext a
  apply Fin.ext
  match a with
  | ⟨0, _⟩ => show win0_0.index t 0 * 16 + 1 * j.val = j.val; rw [hi]; omega

theorem blk1 (t : Fin cfg0.N) (r : Fin 8) (l : Fin 128) : tsBlk m c t (ix2 r l) = tsA m c (ix1 0) := by
  have hi := index1 t
  refine Eq.trans ?_ (V0_apply m c r l)
  unfold tsBlk iblk
  rw [View.read_apply]
  show V m c main_v0 _ = V m c main_v0 _
  congr 1
  funext a
  apply Fin.ext
  match a with
  | ⟨0, _⟩ => show win0_1.index t 0 * 8 + 1 * r.val = r.val; rw [hi.1]; omega
  | ⟨1, _⟩ => show win0_1.index t 1 * 128 + 1 * l.val = l.val; rw [hi.2]; omega

theorem blk2 (t : Fin cfg0.N) (r : Fin 2304) (l : Fin 128) :
    dyBlk m c t (ix2 r l) = dyA m c (ix3 ⟨t.val / 112, by have := lt672 t; omega⟩ r ⟨128 * (t.val % 112) + l.val, by omega⟩) := by
  have hi := index2 t
  have ht := lt672 t
  refine Eq.trans ?_ ((V1_apply m c ⟨2304 * (t.val / 112) + r.val, by omega⟩ ⟨128 * (t.val % 112) + l.val, by omega⟩).trans ?_)
  · unfold dyBlk iblk
    rw [View.read_apply]
    show V m c main_v1 _ = V m c main_v1 _
    congr 1
    funext a
    apply Fin.ext
    match a with
    | ⟨0, _⟩ => show win0_2.index t 0 * 2304 + 1 * r.val = 2304 * (t.val / 112) + r.val; rw [hi.1]; omega
    | ⟨1, _⟩ => show win0_2.index t 1 * 128 + 1 * l.val = 128 * (t.val % 112) + l.val; rw [hi.2]; omega
  · congr 2
    · apply Fin.ext
      show (2304 * (t.val / 112) + r.val) / 2304 = t.val / 112
      omega
    · apply Fin.ext
      show (2304 * (t.val / 112) + r.val) % 2304 = r.val
      omega

/-- A group's transform: batch `b`, group `q`, column `e`, row `i` of the transform. -/
def tr (b : Fin 6) (q : Fin 144) (e : Fin 14336) (i : Fin 16) : EReal :=
  had (fun j => sgA m c (ix1 j)) (fun j => dyA m c (ix3 b ⟨16 * q.val + j.val, by omega⟩ e)) i

/-- The scale of the group of sixteen rows `q` of batch `b` at column `e`. -/
def scaleAt (b : Fin 6) (q : Fin 144) (e : Fin 14336) : EReal :=
  scaleOf (Finset.fold max ⊥ (fun i => mag (tr m c b q e i)) Finset.univ) (tsA m c (ix1 0))

/-- The block scales. -/
def scales : S6x144x14336.Idx → EReal := fun i => scaleAt m c (i 0) (i 1) (i 2)

set_option maxHeartbeats 1000000 in
/-- The scales a grid point leaves. -/
theorem outs5 (t : Fin cfg0.N) (q : Fin 144) (l : Fin 128) :
    ((outsAt0 m c t).2.1 : S1x144x128.Idx → EReal) (ix3 0 q l)
      = scaleAt m c ⟨t.val / 112, by have := lt672 t; omega⟩ q ⟨128 * (t.val % 112) + l.val, by omega⟩ := by
  have hk : q.val / 8 < k0_t1_loop.trips := by rw [trips_eq]; omega
  refine (out5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t) ⟨q.val / 8, hk⟩ ⟨q.val % 8, by omega⟩ l q (by show q.val = 8 * (q.val / 8) + q.val % 8; omega)).trans ?_
  refine (scl_apply (ms0_0 t) (ms0_2 t) _ _ _ ⟨q.val / 8, hk⟩ ⟨q.val % 8, by omega⟩ l (fun j => sgA m c (ix1 j))
    (fun j => dyA m c (ix3 ⟨t.val / 112, by have := lt672 t; omega⟩ ⟨16 * q.val + j.val, by omega⟩ ⟨128 * (t.val % 112) + l.val, by omega⟩)) (fun j => ?_) (fun j => ?_)).trans ?_
  · exact (sgn_apply (ms0_0 t) (hs0_0 t) (iblk m c 0 t) j).trans (blk0 m c t j)
  · exact (rows_apply (ms0_2 t) (hs0_2 t) (iblk m c 2 t) ⟨q.val / 8, hk⟩ ⟨q.val % 8 * 16 + j.val, by omega⟩ l ⟨16 * q.val + j.val, by omega⟩
      (by show 16 * q.val + j.val = 128 * (q.val / 8) + (q.val % 8 * 16 + j.val); omega)).trans (blk2 m c t _ l)
  · rw [tsv_apply]
    exact congrArg (scaleOf _) (blk1 m c t _ l)

theorem flushed5 (t : Fin cfg0.N) : (dats m 0 c).flushed 5 t = (cfg0.win 5).cut (grid0.coords t) ((outsAt0 m c t).2.1) := by
  show (cfg0.win 5).cut (grid0.coords t) ((dats m 0 c).after 5 t) = _
  rw [after0_5]

/-- Every write-back writes its block of the scales. -/
theorem flushed5_eq (t : Fin cfg0.N) (hf : (cfg0.win 5).flush t = true) :
    (dats m 0 c).flushed 5 t = ((cfg0.win 5).blk t).view.read (Elt Ideal) (scales m c) := by
  have hi := index5 t
  rw [flushed5]
  show ((outsAt0 m c t).2.1 : S1x144x128.Idx → EReal) = _
  funext j
  rw [View.read_apply]
  have h0 : (j 0).val = 0 := by have : (j 0).val < 1 := (j 0).isLt; omega
  refine ((congrArg _ (show j = ix3 0 (j 1) (j 2) from ?_)).trans (outs5 m c t (j 1) (j 2))).trans ?_
  · funext a
    fin_cases a
    · exact Fin.ext h0
    · rfl
    · rfl
  · show scales m c (ix3 _ _ _) = scales m c _
    congr 1
    funext a
    apply Fin.ext
    match a with
    | ⟨0, _⟩ => show t.val / 112 = win0_5.index t 0 * 1 + 1 * (j 0).val; rw [hi.1]; omega
    | ⟨1, _⟩ => show (j 1).val = win0_5.index t 1 * 144 + 1 * (j 1).val; rw [hi.2.1]; omega
    | ⟨2, _⟩ => show 128 * (t.val % 112) + (j 2).val = win0_5.index t 2 * 128 + 1 * (j 2).val; rw [hi.2.2]; omega

/-- The write-backs cover the array of scales. -/
theorem cover5 (i : S6x144x14336.Idx) : ∃ t : Fin cfg0.N, (cfg0.win 5).flush t = true ∧ i ∈ ((cfg0.win 5).blk t).view.set := by
  have h0 : (i 0 : Nat) < 6 := (i 0).isLt
  have h1 : (i 1 : Nat) < 144 := (i 1).isLt
  have h2 : (i 2 : Nat) < 14336 := (i 2).isLt
  let t : Fin cfg0.N := ⟨112 * (i 0 : Nat) + (i 2 : Nat) / 128, by show _ < grid0.N; rw [Gen.N_0]; omega⟩
  have hi := index5 t
  have tv : t.val = 112 * (i 0 : Nat) + (i 2 : Nat) / 128 := rfl
  refine ⟨t, flush0_5 t, ?_⟩
  show i ∈ ((View.whole main_v3_1).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1
              rw [hi.1]; omega
  | ⟨1, _⟩ => show win0_5.index t 1 * 144 ≤ (i 1 : Nat) ∧ (i 1 : Nat) < win0_5.index t 1 * 144 + 144
              rw [hi.2.1]; omega
  | ⟨2, _⟩ => show win0_5.index t 2 * 128 ≤ (i 2 : Nat) ∧ (i 2 : Nat) < win0_5.index t 2 * 128 + 128
              rw [hi.2.2]; omega

/-- So the array of scales ends holding `scales`. -/
theorem final5 : (dats m 0 c).arrAt 5 cfg0.N = scales m c :=
  (dats m 0 c).arrAt_eq_of_cover 5 (scales m c) (flushed5_eq m c) cover5

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 0).trans (((dats m 0 c).arrAt_in 0 rfl _).trans ((A_eq m c 0).trans (V_main_arg2 m c)))

theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Every run of the kernel ends with the array of scales at `scales` and the four arguments unchanged. -/
theorem run : θ_run defs (onTc (τ := τ) (main (F := Ideal))) ⟨m, fun _ => 0, ρ⟩ fun r => ∀ c : Dev nD,
      r.2.mem ((c : Thread nD τ).loc main_v3_1) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final5 m c), kept_main_arg0 m r h c, kept_main_arg1 m r h c, kept_main_arg2 m r h c, kept_main_arg3 m r h c⟩)
    (run_main m ρ)

end Cert.DyQuantIdeal.Quant

end
-- ==== Proof.DyQuantLoop.lean ====
/- The counted loop of the dy_quant call, by an invariant: the pieces its trips write, over whatever the
   buffers held. A trip writes its two words of codes into the word scratch at stride 2 and reads the scratch back whole;
   its two stores cover the scratch, so what it reads is what it wrote. -/
module

public import proofs.«01_k».proof.Proof.Gen.DyQuant.Skeleton
public import Idealize.ShloMosaic.Lib.Exec
public import Idealize.ShloMosaic.Lib.Tactic
public import Idealize.ShloMosaic.Lib.Pipeline.Kit
public import Idealize.ShloMosaic.Lib.Ring

@[expose] public section

set_option maxRecDepth 8192
set_option maxHeartbeats 4000000

noncomputable section

namespace Cert.DyQuant.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The class of invariants of the call's one counted loop. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 v0)

/-- The two stride-2 stores of a trip into the word scratch cover it: row `2 r + ph` is row `r` of store `ph`. -/
theorem words_cover (w0 w1 : Vec F S8x128 .i32) (y : S16x128.Idx) :
    ∃ p ∈ ([⟨⟨(⟨![1, 0], S8x128.size, ![2, 1], inb_S16x128_S8x128_1_0_s_2_1⟩ : LoadRect S16x128), spos_2_1⟩, w1⟩,
        ⟨⟨(⟨![0, 0], S8x128.size, ![2, 1], inb_S16x128_S8x128_0_0_s_2_1⟩ : LoadRect S16x128), spos_2_1⟩, w0⟩] : List (View.Piece (Elt F) S16x128 .i32)),
      y ∈ p.1.set := by
  have h0 : (y 0).val < 16 := (y 0).isLt
  have h1 : (y 1).val < 128 := (y 1).isLt
  have hr : (y 0).val / 2 < 8 := by omega
  rcases Nat.mod_two_eq_zero_or_one (y 0).val with h | h
  · refine ⟨_, List.mem_cons_of_mem _ List.mem_cons_self, (LoadRect.mem_set _).mpr fun a => ?_⟩
    fin_cases a
    · exact ⟨(y 0).val / 2, hr, by show (y 0).val = 0 + 2 * ((y 0).val / 2); omega⟩
    · exact ⟨(y 1).val, h1, by show (y 1).val = 0 + 1 * (y 1).val; omega⟩
  · refine ⟨_, List.mem_cons_self, (LoadRect.mem_set _).mpr fun a => ?_⟩
    fin_cases a
    · exact ⟨(y 0).val / 2, hr, by show (y 0).val = 1 + 2 * ((y 0).val / 2); omega⟩
    · exact ⟨(y 1).val, h1, by show (y 1).val = 0 + 1 * (y 1).val; omega⟩
/-! ### `k0_t1_loop`: the generated invariant (classifier: affine) -/

/-- One trip's resources: what the region reads (arg2, arg4, arg5) at its contents, what it writes
   (arg6, arg8, arg9, arg10) at any. -/
abbrev Trip_k0_t1 (c : Dev nD) (arg2 : Memref sig .tc .smem S16 .f32) (arg4 : Memref sig .tc .vmem S2304x128 .bf16) (arg5 : Memref sig .tc .vmem S2304x128 .i8) (arg6 : Memref sig .tc .vmem S1x1152x128 .i8) (arg8 : Memref sig .tc .vmem S2304x128 .bf16) (arg9 : Memref sig .tc .vmem S16x128 .i32) (arg10 : Memref sig .tc .vmem S144x128 .f32) (X_arg2 : BufTy.Contents (Elt F) arg2.view.ty) (X_arg4 : BufTy.Contents (Elt F) arg4.view.ty) (X_arg5 : BufTy.Contents (Elt F) arg5.view.ty) (f_arg6 : BufTy.Contents (Elt F) arg6.view.ty) (f_arg8 : BufTy.Contents (Elt F) arg8.view.ty) (f_arg9 : BufTy.Contents (Elt F) arg9.view.ty) (f_arg10 : BufTy.Contents (Elt F) arg10.view.ty) : sProp (MT nD τ sig Unit (Elt F) ℕ (UR sig nD τ) ℕ) :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10))

/-- ONE TRIP of `k0_t1_loop` at a symbolic `k`, run by `sl_exec` (its rectangles' offsets closed
   forms of `k`, their geometry linear arithmetic): the pieces it writes into arg6, arg8, arg9,
   arg10 are the run's own finds — the witnesses `sl_close` assigns handing the buffers to the
   continuation. `@[irreducible]`: cited, never unfolded. -/
@[irreducible] def trip_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : Fin k0_t1_loop.trips) :
    Σ' (L_arg6 : List (View.Piece (Elt F) S1x1152x128 .i8)) (L_arg8 : List (View.Piece (Elt F) S2304x128 .bf16)) (L_arg9 : List (View.Piece (Elt F) S16x128 .i32)) , { L_arg10 : List (View.Piece (Elt F) S144x128 .f32) // ∀ (E : Set ℕ) (f_arg6 : BufTy.Contents (Elt F) arg6.view.ty) (f_arg8 : BufTy.Contents (Elt F) arg8.view.ty) (f_arg9 : BufTy.Contents (Elt F) arg9.view.ty) (f_arg10 : BufTy.Contents (Elt F) arg10.view.ty),
      Trip_k0_t1 (F := F) c arg2 arg4 arg5 arg6 arg8 arg9 arg10 X_arg2 X_arg4 X_arg5 f_arg6 f_arg8 f_arg9 f_arg10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 v0 k PUnit.unit)
          (fun _ => Trip_k0_t1 (F := F) c arg2 arg4 arg5 arg6 arg8 arg9 arg10 X_arg2 X_arg4 X_arg5 (arg6.view.writes (Elt F) f_arg6 L_arg6) (arg8.view.writes (Elt F) f_arg8 L_arg8) (arg9.view.writes (Elt F) f_arg9 L_arg9) (arg10.view.writes (Elt F) f_arg10 L_arg10)) } := by
  have hk : k.val < 18 := Nat.lt_of_lt_of_le k.isLt k0_t1_abs.2.1
  refine ⟨?_, ?_, ?_, ?_, fun E f_arg6 f_arg8 f_arg9 f_arg10 => ?run⟩
  case run =>
    have hrd : ∀ (f : BufTy.Contents (Elt F) arg9.view.ty) (w0 w1 : Vec F S8x128 .i32),
        arg9.view.readAt (Elt F) (Rect.unit (s := S16x128) ![0, 0] S16x128.size inb_S16x128_S16x128_0_0).toLoadRect
            (arg9.view.writes (Elt F) f [⟨⟨(⟨![1, 0], S8x128.size, ![2, 1], inb_S16x128_S8x128_1_0_s_2_1⟩ : LoadRect S16x128), spos_2_1⟩, w1⟩,
              ⟨⟨(⟨![0, 0], S8x128.size, ![2, 1], inb_S16x128_S8x128_0_0_s_2_1⟩ : LoadRect S16x128), spos_2_1⟩, w0⟩])
          = arg9.view.readCov [⟨⟨(⟨![1, 0], S8x128.size, ![2, 1], inb_S16x128_S8x128_1_0_s_2_1⟩ : LoadRect S16x128), spos_2_1⟩, w1⟩,
              ⟨⟨(⟨![0, 0], S8x128.size, ![2, 1], inb_S16x128_S8x128_0_0_s_2_1⟩ : LoadRect S16x128), spos_2_1⟩, w0⟩]
              (Rect.unit (s := S16x128) ![0, 0] S16x128.size inb_S16x128_S16x128_0_0).toLoadRect :=
      fun f w0 w1 => View.readAt_writes_of_cover _ f _ _ (fun j => words_cover w0 w1 _)
    unfold k0_t1_body
    iintro ⟨HR_arg2, HR_arg4, HR_arg5, HW_arg6, HW_arg8, HW_arg9, HW_arg10⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : Fin k0_t1_loop.trips) : List (View.Piece (Elt F) S1x1152x128 .i8) × List (View.Piece (Elt F) S2304x128 .bf16) × List (View.Piece (Elt F) S16x128 .i32) × List (View.Piece (Elt F) S144x128 .f32) :=
  ((trip_k0_t1 (F := F) 𝒱 c bd i arg2 harg2 arg3 harg3 arg4 harg4 arg5 harg5 arg6 harg6 arg7 harg7 arg8 harg8 arg9 harg9 arg10 harg10 v0 X_arg2 X_arg4 X_arg5 k).1, (trip_k0_t1 (F := F) 𝒱 c bd i arg2 harg2 arg3 harg3 arg4 harg4 arg5 harg5 arg6 harg6 arg7 harg7 arg8 harg8 arg9 harg9 arg10 harg10 v0 X_arg2 X_arg4 X_arg5 k).2.1, (trip_k0_t1 (F := F) 𝒱 c bd i arg2 harg2 arg3 harg3 arg4 harg4 arg5 harg5 arg6 harg6 arg7 harg7 arg8 harg8 arg9 harg9 arg10 harg10 v0 X_arg2 X_arg4 X_arg5 k).2.2.1, (trip_k0_t1 (F := F) 𝒱 c bd i arg2 harg2 arg3 harg3 arg4 harg4 arg5 harg5 arg6 harg6 arg7 harg7 arg8 harg8 arg9 harg9 arg10 harg10 v0 X_arg2 X_arg4 X_arg5 k).2.2.2.1)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : ℕ) (prev : List (View.Piece (Elt F) S1x1152x128 .i8) × List (View.Piece (Elt F) S2304x128 .bf16) × List (View.Piece (Elt F) S16x128 .i32) × List (View.Piece (Elt F) S144x128 .f32)) : List (View.Piece (Elt F) S1x1152x128 .i8) × List (View.Piece (Elt F) S2304x128 .bf16) × List (View.Piece (Elt F) S16x128 .i32) × List (View.Piece (Elt F) S144x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).1 ++ prev.1, (tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).2.1 ++ prev.2.1, (tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).2.2.1 ++ prev.2.2.1, (tripL_k0_t1 (F := F) 𝒱 c bd i arg2 harg2 arg3 harg3 arg4 harg4 arg5 harg5 arg6 harg6 arg7 harg7 arg8 harg8 arg9 harg9 arg10 harg10 v0 X_arg2 X_arg4 X_arg5 ⟨k, h⟩).2.2.2 ++ prev.2.2.2)
  else prev

/-- The pieces of the trips before `k` (last first), per written memref. -/
def pb_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) : ℕ → List (View.Piece (Elt F) S1x1152x128 .i8) × List (View.Piece (Elt F) S2304x128 .bf16) × List (View.Piece (Elt F) S16x128 .i32) × List (View.Piece (Elt F) S144x128 .f32)
  | 0 => ([], [], [], [])
  | k + 1 => pb_k0_t1Step 𝒱 c bd i arg2 harg2 arg3 harg3 arg4 harg4 arg5 harg5 arg6 harg6 arg7 harg7 arg8 harg8 arg9 harg9 arg10 harg10 v0 X_arg2 X_arg4 X_arg5 k (pb_k0_t1 𝒱 c bd i arg2 harg2 arg3 harg3 arg4 harg4 arg5 harg5 arg6 harg6 arg7 harg7 arg8 harg8 arg9 harg9 arg10 harg10 v0 X_arg2 X_arg4 X_arg5 k)

theorem pb_k0_t1_succ (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (k : Fin k0_t1_loop.trips) :
    pb_k0_t1 (F := F) 𝒱 c bd i arg2 harg2 arg3 harg3 arg4 harg4 arg5 harg5 arg6 harg6 arg7 harg7 arg8 harg8 arg9 harg9 arg10 harg10 v0 X_arg2 X_arg4 X_arg5 (k.val + 1)
      = ((tripL_k0_t1 (F := F) 𝒱 c bd i arg2 harg2 arg3 harg3 arg4 harg4 arg5 harg5 arg6 harg6 arg7 harg7 arg8 harg8 arg9 harg9 arg10 harg10 v0 X_arg2 X_arg4 X_arg5 k).1 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).1, (tripL_k0_t1 (F := F) 𝒱 c bd i arg2 harg2 arg3 harg3 arg4 harg4 arg5 harg5 arg6 harg6 arg7 harg7 arg8 harg8 arg9 harg9 arg10 harg10 v0 X_arg2 X_arg4 X_arg5 k).2.1 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).2.1, (tripL_k0_t1 (F := F) 𝒱 c bd i arg2 harg2 arg3 harg3 arg4 harg4 arg5 harg5 arg6 harg6 arg7 harg7 arg8 harg8 arg9 harg9 arg10 harg10 v0 X_arg2 X_arg4 X_arg5 k).2.2.1 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).2.2.1, (tripL_k0_t1 (F := F) 𝒱 c bd i arg2 harg2 arg3 harg3 arg4 harg4 arg5 harg5 arg6 harg6 arg7 harg7 arg8 harg8 arg9 harg9 arg10 harg10 v0 X_arg2 X_arg4 X_arg5 k).2.2.2 ++ (pb_k0_t1 (F := F) 𝒱 c bd i arg2 harg2 arg3 harg3 arg4 harg4 arg5 harg5 arg6 harg6 arg7 harg7 arg8 harg8 arg9 harg9 arg10 harg10 v0 X_arg2 X_arg4 X_arg5 k.val).2.2.2) := by
  rw [pb_k0_t1.eq_2]; unfold pb_k0_t1Step; exact dif_pos k.isLt

/-- THE INVARIANT before trip `k`: arg2, arg4, arg5 read at `X_·`; arg6, arg8, arg9, arg10 holding
   the pieces of the trips before `k` written over the contents at loop entry `G_·` (stated `∃ f, …
   ∗ ⌜f = …⌝`, so that a hypothesis of any contents matches and the equation is what is proved). -/
abbrev inv_k0_t1 (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) (k : ℕ) (_u : PUnit) : sProp (MT nD τ sig Unit (Elt F) ℕ (UR sig nD τ) ℕ) :=
  iprop((arg2.view.loc (c : Thread nD τ) ↦[arg2.view.set]{fullShare} X_arg2) ∗ (arg4.view.loc (c : Thread nD τ) ↦[arg4.view.set]{fullShare} X_arg4) ∗ (arg5.view.loc (c : Thread nD τ) ↦[arg5.view.set]{fullShare} X_arg5) ∗ (∃ f, (arg6.view.loc (c : Thread nD τ) ↦[arg6.view.set]{fullShare} f) ∗ ⌜f = arg6.view.writes (Elt F) G_arg6 (pb_k0_t1 (F := F) 𝒱 c bd i arg2 harg2 arg3 harg3 arg4 harg4 arg5 harg5 arg6 harg6 arg7 harg7 arg8 harg8 arg9 harg9 arg10 harg10 v0 X_arg2 X_arg4 X_arg5 k).1⌝) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 v0 X_arg2 X_arg4 X_arg5 k).2.1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 v0 X_arg2 X_arg4 X_arg5 k).2.2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 v0 X_arg2 X_arg4 X_arg5 k).2.2.2⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (G_arg6 : BufTy.Contents (Elt F) arg6.view.ty) (G_arg8 : BufTy.Contents (Elt F) arg8.view.ty) (G_arg9 : BufTy.Contents (Elt F) arg9.view.ty) (G_arg10 : BufTy.Contents (Elt F) arg10.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 v0 where
  inv := inv_k0_t1 (F := F) 𝒱 c bd i arg2 harg2 arg3 harg3 arg4 harg4 arg5 harg5 arg6 harg6 arg7 harg7 arg8 harg8 arg9 harg9 arg10 harg10 v0 X_arg2 X_arg4 X_arg5 G_arg6 G_arg8 G_arg9 G_arg10
  step k acc := by
    iintro ⟨HR_arg2, HR_arg4, HR_arg5, ⟨%f_arg6, HW_arg6, %h_arg6⟩, ⟨%f_arg8, HW_arg8, %h_arg8⟩, ⟨%f_arg9, HW_arg9, %h_arg9⟩, ⟨%f_arg10, HW_arg10, %h_arg10⟩⟩
    iapply (wp_wand_r Idealize.ShloMosaic.frame (wpE (defs₀ (F := F)) 𝒱 (c : Thread nD τ) bd) E)
    isplitl [HR_arg2 HR_arg4 HR_arg5 HW_arg6 HW_arg8 HW_arg9 HW_arg10]
    · iapply ((trip_k0_t1 (F := F) 𝒱 c bd i arg2 harg2 arg3 harg3 arg4 harg4 arg5 harg5 arg6 harg6 arg7 harg7 arg8 harg8 arg9 harg9 arg10 harg10 v0 X_arg2 X_arg4 X_arg5 k).2.2.2.2 E f_arg6 f_arg8 f_arg9 f_arg10)
      isplitl [HR_arg2]; · iexact HR_arg2
      isplitl [HR_arg4]; · iexact HR_arg4
      isplitl [HR_arg5]; · iexact HR_arg5
      isplitl [HW_arg6]; · iexact HW_arg6
      isplitl [HW_arg8]; · iexact HW_arg8
      isplitl [HW_arg9]; · iexact HW_arg9
      iexact HW_arg10
    · iintro %_ ⟨HR_arg2, HR_arg4, HR_arg5, HW_arg6, HW_arg8, HW_arg9, HW_arg10⟩
      isplitl [HR_arg2]; · iexact HR_arg2
      isplitl [HR_arg4]; · iexact HR_arg4
      isplitl [HR_arg5]; · iexact HR_arg5
      rw [pb_k0_t1_succ]
      isplitl [HW_arg6]
      · iexists _; isplitl [HW_arg6]; · iexact HW_arg6
        ipureintro; rw [h_arg6, ← View.writes_append]
      isplitl [HW_arg8]
      · iexists _; isplitl [HW_arg8]; · iexact HW_arg8
        ipureintro; rw [h_arg8, ← View.writes_append]
      isplitl [HW_arg9]
      · iexists _; isplitl [HW_arg9]; · iexact HW_arg9
        ipureintro; rw [h_arg9, ← View.writes_append]
      iexists _; isplitl [HW_arg10]; · iexact HW_arg10
      ipureintro; rw [h_arg10, ← View.writes_append]

end Cert.DyQuant.Gen

end
-- ==== Proof.DyQuantFrame.lean ====
/- The run of the dy_quant call and its frame: the host operation before the call, the windows' blocks, the whole body
   (its loop by the invariant of DyQuantLoop), what the outputs hold point by point, and the argument arrays unchanged. -/
module

public import proofs.«01_k».proof.Proof.Gen.DyQuant.Launch
public import proofs.«01_k».proof.Proof.Gen.DyQuant.Skeleton
public import proofs.«01_k».proof.Proof.Gen.DyQuant.Points
public import proofs.«01_k».proof.Proof.DyQuantLoop
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.DyQuant.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DyQuant`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 0).trans (((dats 0 c).arrAt_in 0 rfl _).trans ((hA c 0).trans (V_main_arg2 m c))),
      ((h c).2 main_arg3 (Pipeline.mem_restRefs_of main_arg3 (by decide) (by decide))).trans (V_main_arg3 m c)⟩) h

/-! ## The kernel body on any staging memrefs: a subtype the run finds -/

/-- One staging buffer of output window 4, through which its contents are stated (`View.read_writes_of_cover`: the
    choice does not matter). -/
abbrev VO0_4 : View sig .tc .vmem S1x1152x128 .i8 := (Memref.whole cc0_stg4_0 : Memref sig .tc .vmem S1x1152x128 .i8).view
/-- One staging buffer of output window 5, through which its contents are stated (`View.read_writes_of_cover`: the
    choice does not matter). -/
abbrev VO0_5 : View sig .tc .vmem S1x144x128 .fp8e4m3 := (Memref.whole cc0_stg5_0 : Memref sig .tc .vmem S1x144x128 .fp8e4m3).view
/-- One staging buffer of output window 6, through which its contents are stated (`View.read_writes_of_cover`: the
    choice does not matter). -/
abbrev VO0_6 : View sig .tc .vmem S2304x128 .bf16 := (Memref.whole cc0_stg6_0 : Memref sig .tc .vmem S2304x128 .bf16).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2304x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2304x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1152x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x144x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2304x128 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S16x128 .i32 := Memref.whole cc0_scratch0
abbrev scM0_1 : Memref sig .tc .vmem S144x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option backward.proofsInPublic true in
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) :
    Σ' (L4 : List (View.Piece (Elt F) S1x1152x128 .i8)), Σ' (L5 : List (View.Piece (Elt F) S1x144x128 .fp8e4m3)), { L6 : List (View.Piece (Elt F) S2304x128 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d)) -∗ K ⟨⟩))
          ⊢ wp frame (wpE (defs₀ (F := F)) Variants.none c none) E (cc0_dy_quant i arg2 harg2 arg3 harg3 arg4 harg4 arg5 harg5 arg6 harg6 arg7 harg7 arg8 harg8 arg9 harg9 arg10 harg10) K } := by
  refine ⟨?_, ?_, ?_, fun E K => ?run⟩
  case run =>
    simp only [cc0_dy_quant_eq_skeleton]; unfold cc0_dy_quant_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    have hrd0 : ∀ (𝒱 : Variants) (c : Dev nD) (bd : Option 𝒱.V) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole) (v0 : Vec F S8x128 .f32) (X_arg2 : BufTy.Contents (Elt F) arg2.view.ty) (X_arg4 : BufTy.Contents (Elt F) arg4.view.ty) (X_arg5 : BufTy.Contents (Elt F) arg5.view.ty) (hrdF : BufTy.Contents (Elt F) arg10.view.ty) (hrdB : LoadRect S144x128), arg10.view.readAt (Elt F) hrdB (arg10.view.writes (Elt F) hrdF (pb_k0_t1 (F := F) 𝒱 c bd i arg2 harg2 arg3 harg3 arg4 harg4 arg5 harg5 arg6 harg6 arg7 harg7 arg8 harg8 arg9 harg9 arg10 harg10 v0 X_arg2 X_arg4 X_arg5 (Scf.trips k0_t1_loop.lb k0_t1_loop.ub k0_t1_loop.st)).2.2.2) = arg10.view.readCov (pb_k0_t1 (F := F) 𝒱 c bd i arg2 harg2 arg3 harg3 arg4 harg4 arg5 harg5 arg6 harg6 arg7 harg7 arg8 harg8 arg9 harg9 arg10 harg10 v0 X_arg2 X_arg4 X_arg5 (Scf.trips k0_t1_loop.lb k0_t1_loop.ub k0_t1_loop.st)).2.2.2 hrdB := fun 𝒱 c bd i arg2 harg2 arg3 harg3 arg4 harg4 arg5 harg5 arg6 harg6 arg7 harg7 arg8 harg8 arg9 harg9 arg10 harg10 v0 X_arg2 X_arg4 X_arg5 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 v0 X_arg2 X_arg4 X_arg5 (Scf.trips k0_t1_loop.lb k0_t1_loop.ub k0_t1_loop.st)).2.2.2 S8x128.size (by sl_kernel_rfl) (hrdB.idx hrdJ))
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]
    · iexists _, _; isplitr; swap; · iexact HS0
      ipureintro; rfl
    iexists _, _; isplitr; swap; · iexact HS1
    ipureintro; rfl

/-- The run's pieces for output 4 tile its block (18 stores of `S1x64x128`, checked by the kernel's evaluation: Lib/Ring.lean `Piece.tiledL`, linear in the pieces, through a loop's `@[irreducible]` trip theorem too), so they cover it. -/
theorem cover0_A_4 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) (y : S1x1152x128.Idx) :
    ∃ pc ∈ (kernelRun0_A c i arg2 harg2 arg3 harg3 arg4 harg4 arg5 harg5 arg6 harg6 arg7 harg7 arg8 harg8 arg9 harg9 arg10 harg10 x0 x1 x2 x3).1, y ∈ pc.1.set :=
  View.cover_of_tiledL (kernelRun0_A c i arg2 harg2 arg3 harg3 arg4 harg4 arg5 harg5 arg6 harg6 arg7 harg7 arg8 harg8 arg9 harg9 arg10 harg10 x0 x1 x2 x3).1 S1x64x128.size (by sl_kernel_rfl) y

/-- What the run leaves in output 4's staging buffer: its pieces read back over junk. -/
def out0_A_4 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) : Vec F S1x1152x128 .i8 :=
  VO0_4.read (Elt F) (VO0_4.writes (Elt F) VO0_4.junk (kernelRun0_A c i arg2 harg2 arg3 harg3 arg4 harg4 arg5 harg5 arg6 harg6 arg7 harg7 arg8 harg8 arg9 harg9 arg10 harg10 x0 x1 x2 x3).1)

/-- The run's pieces for output 5 tile its block (1 store of `S1x144x128`, checked by the kernel's evaluation: Lib/Ring.lean `Piece.tiledL`, linear in the pieces, through a loop's `@[irreducible]` trip theorem too), so they cover it. -/
theorem cover0_A_5 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) (y : S1x144x128.Idx) :
    ∃ pc ∈ (kernelRun0_A c i arg2 harg2 arg3 harg3 arg4 harg4 arg5 harg5 arg6 harg6 arg7 harg7 arg8 harg8 arg9 harg9 arg10 harg10 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3).2.1 S1x144x128.size (by sl_kernel_rfl) y

/-- What the run leaves in output 5's staging buffer: its pieces read back over junk. -/
def out0_A_5 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) : Vec F S1x144x128 .fp8e4m3 :=
  VO0_5.read (Elt F) (VO0_5.writes (Elt F) VO0_5.junk (kernelRun0_A c i arg2 harg2 arg3 harg3 arg4 harg4 arg5 harg5 arg6 harg6 arg7 harg7 arg8 harg8 arg9 harg9 arg10 harg10 x0 x1 x2 x3).2.1)

/-- The run's pieces for output 6 tile its block (72 stores of `S32x128`, checked by the kernel's evaluation: Lib/Ring.lean `Piece.tiledL`, linear in the pieces, through a loop's `@[irreducible]` trip theorem too), so they cover it. -/
theorem cover0_A_6 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) (y : S2304x128.Idx) :
    ∃ pc ∈ (kernelRun0_A c i arg2 harg2 arg3 harg3 arg4 harg4 arg5 harg5 arg6 harg6 arg7 harg7 arg8 harg8 arg9 harg9 arg10 harg10 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 x0 x1 x2 x3).2.2.1 S32x128.size (by sl_kernel_rfl) y

/-- What the run leaves in output 6's staging buffer: its pieces read back over junk. -/
def out0_A_6 (c : Dev nD) (i : grid0.Coords) (arg2 : Memref sig .tc .smem S16 .f32) (harg2 : arg2.IsWhole) (arg3 : Memref sig .tc .vmem S8x128 .f32) (harg3 : arg3.IsWhole) (arg4 : Memref sig .tc .vmem S2304x128 .bf16) (harg4 : arg4.IsWhole) (arg5 : Memref sig .tc .vmem S2304x128 .i8) (harg5 : arg5.IsWhole) (arg6 : Memref sig .tc .vmem S1x1152x128 .i8) (harg6 : arg6.IsWhole) (arg7 : Memref sig .tc .vmem S1x144x128 .fp8e4m3) (harg7 : arg7.IsWhole) (arg8 : Memref sig .tc .vmem S2304x128 .bf16) (harg8 : arg8.IsWhole) (arg9 : Memref sig .tc .vmem S16x128 .i32) (harg9 : arg9.IsWhole) (arg10 : Memref sig .tc .vmem S144x128 .f32) (harg10 : arg10.IsWhole)
    (x0 : Vec F S16 .f32) (x1 : Vec F S8x128 .f32) (x2 : Vec F S2304x128 .bf16) (x3 : Vec F S2304x128 .i8) : Vec F S2304x128 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 x0 x1 x2 x3).2.2.1)

/-! ## What the outputs hold after each point -/

/-- What the outputs' staging buffers hold after the body at point `t` (as a tuple, in window order): the run's contents at
    the point's memrefs and input blocks. -/
def outsAt0 (c : Dev nD) (t : Fin cfg0.N) : Vec F S1x1152x128 .i8 × Vec F S1x144x128 .fp8e4m3 × Vec F S2304x128 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_4 out0_A_5 out0_A_6; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ (iblk m c 0 t) (iblk m c 1 t) (iblk m c 2 t) (iblk m c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _)
  unfold owns; iexists _; isplitr
  swap; · iexact H6
  ipureintro; exact View.read_writes_of_cover _ _ _ _ _ (cover0_A_6 c _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_DyQuant`'s statement (Defs.lean) at any `F` — Proof.lean cites it at `Bits`:
    `theorem Cert.Proof.claim : Cert.Claim := ⟨Cert.DyQuant.Gen.facts, fun m ρ _ => Cert.DyQuant.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.DyQuant.Gen

end
-- ==== Proof.DyQuantReference.lean ====
/-
  The reference of the gradient's block scales, read over the extended reals: the scale it makes of a group's greatest
  magnitude is the kernel's. With it the claims about the three programs.
-/
module

public import proofs.«01_k».proof.Defs
public import proofs.«01_k».proof.Proof.DyAmaxReference
public import proofs.«01_k».proof.Proof.DyQuantValue
public import proofs.«01_k».proof.Proof.DyQuantFrame
public import proofs.«01_k».proof.Proof.Gen.DyQuantRefIdeal.Run

@[expose] public section

set_option maxRecDepth 16384

noncomputable section

open Idealize.ShloMosaic Idealize.ShloMosaic.TcCoe Idealize.SL.Sem
open scoped BigOperators

namespace Cert.DyQuantRefIdeal.Quant

open Cert.DyQuantRefIdeal Cert.DyQuantRefIdeal.Gen
open Cert.DyAmaxIdeal.DyAmax (mag had quarter)
open Cert.DyQuantIdeal.Quant (scaleOf)
open Cert.DyAmaxRefIdeal.DyAmax (matrix matrix_apply)

/-- The greatest magnitude of each group's transform, as the reference makes it. -/
abbrev greatest (dy : Vec Ideal S6x2304x14336 .bf16) (q : Vec Ideal S16x16 .f32) : Vec Ideal S6x144x14336 .f32 :=
  Host.reduce (α := Ideal .f32) FloatOps.maximumf (Host.absf (F := Ideal) (φ := .f32) (transpose (α := Ideal .f32) S6x144x16x14336 [0, 1, 3, 2] (Host.dotGeneral (φ₁ := .f32) (φ₂ := .f32) dot_S6x144x16x14336_S16x16_S6x144x14336x16_2_1_013_0_n_n (some .fp32) (shapeCast (α := Ideal .f32) S6x144x16x14336 (extf .f32 dy bitsLt_bf16_f32) shapeCasts_S6x2304x14336_S6x144x16x14336) q) transposes_S6x144x14336x16_S6x144x16x14336_0_1_3_2))
    (constant S_ .f32 0xFF800000#32) reducesTo_S6x144x16x14336_S6x144x14336_d2 h_S_

/-- The clipped quotient of the greatest magnitude by six tensor scales. -/
abbrev clipped (a : Vec Ideal S6x144x14336 .f32) (ts : Vec Ideal S1 .f32) : Vec Ideal S6x144x14336 .f32 :=
  minimumf (F := Ideal) (φ := .f32) (broadcastInDim (α := Ideal .f32) S6x144x14336 ![] bcast_S_S6x144x14336 (id (constant S_ .f32 0x43E00000#32)))
    (maximumf (F := Ideal) (φ := .f32) (broadcastInDim (α := Ideal .f32) S6x144x14336 ![] bcast_S_S6x144x14336 (id (constant S_ .f32 0x00000000#32)))
      (Host.divf (F := Ideal) (φ := .f32) a (broadcastInDim (α := Ideal .f32) S6x144x14336 ![0, 1, 2] bcast_S1x1x1_S6x144x14336_0_1_2 (broadcastInDim (α := Ideal .f32) S1x1x1 ![2] bcast_S1_S1x1x1_2
        (mulf (F := Ideal) (φ := .f32) (broadcastInDim (α := Ideal .f32) S1 ![] bcast_S_S1 (constant S_ .f32 0x40C00000#32)) ts)))))

theorem greatest_apply (dy : Vec Ideal S6x2304x14336 .bf16) (q : Vec Ideal S16x16 .f32) (b : Fin 6) (g : Fin 144) (e : Fin 14336) :
    (greatest dy q : S6x144x14336.Idx → EReal) (ix3 b g e)
      = Finset.fold max ⊥ (fun i : Fin 16 => mag (∑ j : Fin 16, (dy (ix3 b ⟨g.val * 16 + j.val, by omega⟩ e) : EReal) * (q (ix2 i j) : EReal))) Finset.univ := by
  unfold greatest
  pointwise
  rw [Cert.DyAmaxIdeal.DyAmax.ofBits_ninf]
  rfl

theorem clipped_apply (a : Vec Ideal S6x144x14336 .f32) (ts : Vec Ideal S1 .f32) (b : Fin 6) (g : Fin 144) (e : Fin 14336) :
    (clipped a ts : S6x144x14336.Idx → EReal) (ix3 b g e) = scaleOf (a (ix3 b g e) : EReal) (ts (ix1 0) : EReal) := by
  unfold clipped id scaleOf
  pointwise

end Cert.DyQuantRefIdeal.Quant

namespace Cert.Proof.DyQuant

open Cert.DyQuantIdeal.Quant

/-- The reference's scale is the kernel's. -/
theorem scale_eq (m : (ℓ : Loc Cert.DyQuantIdeal.nD Cert.DyQuantIdeal.τ Cert.DyQuantIdeal.sig) → Buf (Elt Ideal) ℓ)
    (c : Dev Cert.DyQuantIdeal.nD) (b : Fin 6) (g : Fin 144) (e : Fin 14336) :
    (Cert.DyQuantRefIdeal.Quant.clipped (Cert.DyQuantRefIdeal.Quant.greatest (dyA m c) (Cert.DyAmaxRefIdeal.DyAmax.matrix (sgA m c))) (tsA m c)
      : Cert.DyQuantRefIdeal.S6x144x14336.Idx → EReal) (ix3 b g e) = scaleAt m c b g e := by
  rw [Cert.DyQuantRefIdeal.Quant.clipped_apply, Cert.DyQuantRefIdeal.Quant.greatest_apply]
  unfold scaleAt
  refine congrArg (fun f => scaleOf (Finset.fold max ⊥ f Finset.univ) (tsA m c (ix1 0))) (funext fun i => congrArg Cert.DyAmaxIdeal.DyAmax.mag ?_)
  unfold tr Cert.DyAmaxIdeal.DyAmax.had
  refine Finset.sum_congr rfl fun j _ => ?_
  rw [Cert.DyAmaxRefIdeal.DyAmax.matrix_apply, mul_comm]
  refine congrArg _ ?_
  congr 2
  apply Fin.ext
  show g.val * 16 + j.val = 16 * g.val + j.val
  omega

/-- Over the extended reals, from equal arguments, the kernel's array of scales and the reference's hold the same values. -/
theorem algebraic : Cert.algebraic_DyQuantIdeal_DyQuantRefIdeal := by
  intro m ρ m' ρ' _ hagree
  refine ⟨fun c => scales m c, run m ρ, ?_⟩
  refine (θ_run Cert.DyQuantRefIdeal.defs _ _).mono (fun _ h c => ⟨(h c).1.trans ?_, (h c).2⟩)
    (Cert.DyQuantRefIdeal.Value.run (F := Ideal) m' ρ')
  show _ = scales m c
  rw [(hagree c).1, (hagree c).2.1, (hagree c).2.2.1]
  funext i
  rw [eq_ix3 i]
  exact scale_eq m c (i 0) (i 1) (i 2)

/-- The kernel terminates with its arguments unchanged and its semaphore counters at zero. -/
theorem frame_k : Cert.quiescent_DyQuant := fun m ρ _ => Cert.DyQuant.Gen.frame m ρ

/-- So does its idealization. -/
theorem frame_ki : Cert.quiescent_DyQuantIdeal := fun m ρ _ => Cert.DyQuantIdeal.Gen.frame m ρ

/-- So does the reference, which declares no semaphore. -/
theorem frame_ri : Cert.quiescent_DyQuantRefIdeal := fun m ρ _ =>
  (θ_run Cert.DyQuantRefIdeal.defs _ _).mono (fun r h => ⟨fun c => (h c).2, sem_eq_zero_of_no_sems (by decide) r.2⟩)
    (Cert.DyQuantRefIdeal.Value.run (F := Ideal) m ρ)

end Cert.Proof.DyQuant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.DyAmax
public import proofs.«01_k».proof.Proof.Gen.DyAmax.Skeleton
public import proofs.«01_k».proof.Proof.Gen.DyAmax.Launch
public import proofs.«01_k».proof.Proof.Gen.DyAmax.Points
public import proofs.«01_k».proof.Proof.Gen.DyAmax.Frame
public import proofs.«01_k».proof.Proof.Gen.DyAmaxIdeal
public import proofs.«01_k».proof.Proof.Gen.DyAmaxIdeal.Skeleton
public import proofs.«01_k».proof.Proof.Gen.DyAmaxIdeal.Launch
public import proofs.«01_k».proof.Proof.Gen.DyAmaxIdeal.Points
public import proofs.«01_k».proof.Proof.Gen.DyAmaxIdeal.Frame
public import proofs.«01_k».proof.Proof.Gen.DyAmaxRefIdeal
public import proofs.«01_k».proof.Proof.Gen.KernelIdeal.Value
public import proofs.«01_k».proof.Proof.Gen.ReferenceIdeal.Run
public import proofs.«01_k».proof.Proof.Gen.DyAmaxIdeal.Value
public import proofs.«01_k».proof.Proof.Gen.DyAmaxRefIdeal.Run
public import proofs.«01_k».proof.Proof.Gen.XAmax
public import proofs.«01_k».proof.Proof.Gen.XAmax.Skeleton
public import proofs.«01_k».proof.Proof.Gen.XAmax.Launch
public import proofs.«01_k».proof.Proof.Gen.XAmax.Points
public import proofs.«01_k».proof.Proof.Gen.XAmax.Frame
public import proofs.«01_k».proof.Proof.Gen.XAmaxIdeal
public import proofs.«01_k».proof.Proof.Gen.XAmaxIdeal.Skeleton
public import proofs.«01_k».proof.Proof.Gen.XAmaxIdeal.Launch
public import proofs.«01_k».proof.Proof.Gen.XAmaxIdeal.Points
public import proofs.«01_k».proof.Proof.Gen.XAmaxIdeal.Frame
public import proofs.«01_k».proof.Proof.Gen.XAmaxIdeal.Value
public import proofs.«01_k».proof.Proof.Gen.XAmaxRefIdeal
public import proofs.«01_k».proof.Proof.Gen.XAmaxRefIdeal.Skeleton
public import proofs.«01_k».proof.Proof.Gen.XAmaxRefIdeal.Launch
public import proofs.«01_k».proof.Proof.Gen.XAmaxRefIdeal.Points
public import proofs.«01_k».proof.Proof.Gen.XAmaxRefIdeal.Frame
public import proofs.«01_k».proof.Proof.Gen.XAmaxRefIdeal.Run
public import proofs.«01_k».proof.Proof.Gen.DyQuant
public import proofs.«01_k».proof.Proof.Gen.DyQuant.Skeleton
public import proofs.«01_k».proof.Proof.Gen.DyQuant.Launch
public import proofs.«01_k».proof.Proof.Gen.DyQuant.Points
public import proofs.«01_k».proof.Proof.Gen.DyQuantIdeal
public import proofs.«01_k».proof.Proof.Gen.DyQuantIdeal.Skeleton
public import proofs.«01_k».proof.Proof.Gen.DyQuantIdeal.Launch
public import proofs.«01_k».proof.Proof.Gen.DyQuantIdeal.Points
public import proofs.«01_k».proof.Proof.Gen.DyQuantRefIdeal
public import proofs.«01_k».proof.Proof.Gen.DyQuantRefIdeal.Run
public import proofs.«01_k».proof.Proof.WgradReference
public import proofs.«01_k».proof.Proof.DyAmaxReference
public import proofs.«01_k».proof.Proof.XAmaxReference
public import proofs.«01_k».proof.Proof.DyQuantReference
public import Idealize.ShloMosaic.Adequacy
public import Idealize.ShloMosaic.Init

@[expose] public section

noncomputable section

namespace Cert.Proof

open Idealize.ShloMosaic Idealize.SL.Sem Cert.Kernel

/-- The weight-gradient call, the two tensor-scale calls, the gradient's quantiser, their idealizations and their references terminate and keep
    their arguments; the idealizations rewrote nothing; over the extended reals each call's result — of
    the quantiser the block scales — equals its reference's. -/
theorem claim : Cert.Claim := ⟨Cert.Kernel.Gen.facts, Cert.KernelIdeal.Gen.facts, Cert.ReferenceIdeal.Gen.facts,
  Cert.DyAmax.Gen.facts, Cert.DyAmaxIdeal.Gen.facts, Cert.DyAmaxRefIdeal.Gen.facts,
  Cert.XAmax.Gen.facts, Cert.XAmaxIdeal.Gen.facts, Cert.XAmaxRefIdeal.Gen.facts,
  Cert.DyQuant.Gen.facts, Cert.DyQuantIdeal.Gen.facts, Cert.DyQuantRefIdeal.Gen.facts,
  Wgrad.frame_k, Wgrad.frame_ki, Wgrad.frame_ri, DyAmax.frame_k, DyAmax.frame_ki, DyAmax.frame_ri,
  XAmax.frame_k, XAmax.frame_ki, XAmax.frame_ri, DyQuant.frame_k, DyQuant.frame_ki, DyQuant.frame_ri,
  trivial, Wgrad.algebraic, trivial, DyAmax.algebraic, trivial, XAmax.algebraic, trivial, DyQuant.algebraic⟩

end Cert.Proof

end
